-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x32x31x64 : Shape := ⟨4, ![512, 32, 31, 64]⟩
abbrev S512x32x32x128 : Shape := ⟨4, ![512, 32, 32, 128]⟩
abbrev S128x256 : Shape := ⟨2, ![128, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S512x32x32x128 : S_.BroadcastsInDim S512x32x32x128 (![] : Fin 0 → Fin S512x32x32x128.rank)
  reducesTo_S512x32x32x128_S_d0_1_2_3 : S512x32x32x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S512x32x31x64 .f32) (main_arg1 : FVec F S512x32x32x128 .f32) (main_arg2 : FVec F S128x256 .f32) (main_arg3 : FVec F S256 .f32) (main_arg4 : FVec F S256x32 .f32) (main_arg5 : FVec F S32 .f32) (main_arg6 : IVec S_ 1) (main_arg7 : IVec S_ 1) (main_arg8 : IVec S_ 32) : IVec S_ 1 :=
  let main_v0 : FVec F S512x32x32x128 .f32 := Host.absf main_arg1
  let main_cst : FVec F S_ .f32 := constant S_ .f32 0x7F800000#32
  let main_v1 : FVec F S512x32x32x128 .f32 := broadcastInDim S512x32x32x128 ![] bcast_S_S512x32x32x128 main_cst
  let main_v2 : IVec S512x32x32x128 1 := cmpf .olt main_v0 main_v1
  let main_c : IVec S_ 1 := constantI S_ 1 1#1
  let main_v3 : IVec S_ 1 := (fun x v => Host.reduce IntOp.andi x v reducesTo_S512x32x32x128_S_d0_1_2_3 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x32 .f32 := Host.absf main_arg4
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg5 main_v13 main_v16
-- ==== Kernel.lean ====
abbrev S512x32x31x64 : Shape := ⟨4, ![512, 32, 31, 64]⟩
abbrev S512x32x32x128 : Shape := ⟨4, ![512, 32, 32, 128]⟩
abbrev S128x256 : Shape := ⟨2, ![128, 256]⟩
abbrev S256 : Shape := ⟨1, ![256]⟩
abbrev S256x32 : Shape := ⟨2, ![256, 32]⟩
abbrev S32 : Shape := ⟨1, ![32]⟩
abbrev S_ : Shape := ⟨0, ![]⟩
abbrev S16384x32x128 : Shape := ⟨3, ![16384, 32, 128]⟩
abbrev S1x256 : Shape := ⟨2, ![1, 256]⟩
abbrev S1x32 : Shape := ⟨2, ![1, 32]⟩
abbrev S16384x32x32 : Shape := ⟨3, ![16384, 32, 32]⟩
abbrev S128x32x128 : Shape := ⟨3, ![128, 32, 128]⟩
abbrev S128x32x32 : Shape := ⟨3, ![128, 32, 32]⟩
abbrev S4096x128 : Shape := ⟨2, ![4096, 128]⟩
abbrev S4096x256 : Shape := ⟨2, ![4096, 256]⟩
abbrev S4096x32 : Shape := ⟨2, ![4096, 32]⟩
abbrev S32x4096 : Shape := ⟨2, ![32, 4096]⟩
abbrev S32x128x32 : Shape := ⟨3, ![32, 128, 32]⟩
abbrev S32x32x128 : Shape := ⟨3, ![32, 32, 128]⟩
abbrev S32x128 : Shape := ⟨2, ![32, 128]⟩
abbrev S1x32x128 : Shape := ⟨3, ![1, 32, 128]⟩
abbrev S128 : Shape := ⟨1, ![128]⟩
abbrev S1x128 : Shape := ⟨2, ![1, 128]⟩

abbrev nBuf : Space → Nat
  | .hbm => 14
  | .vmem => 10
  | .smem => 0
  | _ => 0

abbrev bufTy : (tb : Table) → Fin (tcTables nBuf tb) → BufTy
  | .hbm, ⟨0, _⟩ => ⟨S512x32x31x64, .f32⟩
  | .hbm, ⟨1, _⟩ => ⟨S512x32x32x128, .f32⟩
  | .hbm, ⟨2, _⟩ => ⟨S128x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S_, .i1⟩
  | .hbm, ⟨7, _⟩ => ⟨S_, .i1⟩
  | .hbm, ⟨8, _⟩ => ⟨S_, .i32⟩
  | .hbm, ⟨9, _⟩ => ⟨S16384x32x128, .f32⟩
  | .hbm, ⟨10, _⟩ => ⟨S1x256, .f32⟩
  | .hbm, ⟨11, _⟩ => ⟨S1x32, .f32⟩
  | .hbm, ⟨12, _⟩ => ⟨S16384x32x32, .f32⟩
  | .hbm, ⟨13, _⟩ => ⟨S16384x32x32, .f32⟩
  | .local _ .vmem, ⟨0, _⟩ => ⟨S128x32x128, .f32⟩
  | .local _ .vmem, ⟨1, _⟩ => ⟨S128x32x128, .f32⟩
  | .local _ .vmem, ⟨2, _⟩ => ⟨S128x256, .f32⟩
  | .local _ .vmem, ⟨3, _⟩ => ⟨S1x256, .f32⟩
  | .local _ .vmem, ⟨4, _⟩ => ⟨S256x32, .f32⟩
  | .local _ .vmem, ⟨5, _⟩ => ⟨S1x32, .f32⟩
  | .local _ .vmem, ⟨6, _⟩ => ⟨S128x32x32, .f32⟩
  | .local _ .vmem, ⟨7, _⟩ => ⟨S128x32x32, .f32⟩
  | .local _ .vmem, ⟨8, _⟩ => ⟨S128x32x32, .f32⟩
  | .local _ .vmem, ⟨9, _⟩ => ⟨S128x32x32, .f32⟩
  | _, _ => ⟨S512x32x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => true
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 1 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x32x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S512x32x31x64 : Shape := ⟨4, ![512, 32, 31, 64]⟩
abbrev S512x32x32x128 : Shape := ⟨4, ![512, 32, 32, 128]⟩
abbrev S128x256 : Shape := ⟨2, ![128, 256]⟩
abbrev S256 : Shape := ⟨1, ![256]⟩
abbrev S256x32 : Shape := ⟨2, ![256, 32]⟩
abbrev S32 : Shape := ⟨1, ![32]⟩
abbrev S_ : Shape := ⟨0, ![]⟩
abbrev S512x32x32x256 : Shape := ⟨4, ![512, 32, 32, 256]⟩
abbrev S1x1x1x256 : Shape := ⟨4, ![1, 1, 1, 256]⟩
abbrev S512x32x32x32 : Shape := ⟨4, ![512, 32, 32, 32]⟩
abbrev S1x1x1x32 : Shape := ⟨4, ![1, 1, 1, 32]⟩
abbrev S1 : Shape := ⟨1, ![1]⟩
abbrev S2 : Shape := ⟨1, ![2]⟩
abbrev S512x32x32 : Shape := ⟨3, ![512, 32, 32]⟩
abbrev S32x512x32x32 : Shape := ⟨4, ![32, 512, 32, 32]⟩
abbrev S512x32x32x1 : Shape := ⟨4, ![512, 32, 32, 1]⟩
abbrev S1x1x1 : Shape := ⟨3, ![1, 1, 1]⟩
abbrev S512x32 : Shape := ⟨2, ![512, 32]⟩
abbrev S512x32x1 : Shape := ⟨3, ![512, 32, 1]⟩
abbrev S1x1x32 : Shape := ⟨3, ![1, 1, 32]⟩
abbrev S1x512x32x32 : Shape := ⟨4, ![1, 512, 32, 32]⟩
abbrev S16384x32x32 : Shape := ⟨3, ![16384, 32, 32]⟩

abbrev nBuf : Space → Nat
  | .hbm => 621
  | .vmem => 0
  | .smem => 0
  | _ => 0

abbrev hbmTy0_0 (i : Nat) : BufTy := match i % 128 with
  | 0 => ⟨S512x32x31x64, .f32⟩
  | 1 => ⟨S512x32x32x128, .f32⟩
  | 2 => ⟨S128x256, .f32⟩
  | 3 => ⟨S256, .f32⟩
  | 4 => ⟨S256x32, .f32⟩
  | 5 => ⟨S32, .f32⟩
  | 6 => ⟨S_, .i1⟩
  | 7 => ⟨S_, .i1⟩
  | 8 => ⟨S_, .i32⟩
  | 9 => ⟨S512x32x32x256, .f32⟩
  | 10 => ⟨S1x1x1x256, .f32⟩
  | 11 => ⟨S512x32x32x256, .f32⟩
  | 12 => ⟨S512x32x32x256, .f32⟩
  | 13 => ⟨S_, .f32⟩
  | 14 => ⟨S512x32x32x256, .f32⟩
  | 15 => ⟨S512x32x32x256, .f32⟩
  | 16 => ⟨S512x32x32x32, .f32⟩
  | 17 => ⟨S1x1x1x32, .f32⟩
  | 18 => ⟨S512x32x32x32, .f32⟩
  | 19 => ⟨S512x32x32x32, .f32⟩
  | 20 => ⟨S_, .i32⟩
  | 21 => ⟨S_, .i32⟩
  | 22 => ⟨S_, .i32⟩
  | 23 => ⟨S_, .i32⟩
  | 24 => ⟨S1, .i32⟩
  | 25 => ⟨S_, .i32⟩
  | 26 => ⟨S_, .i32⟩
  | 27 => ⟨S_, .i32⟩
  | 28 => ⟨S1, .i32⟩
  | 29 => ⟨S2, .i32⟩
  | 30 => ⟨S_, .f32⟩
  | 31 => ⟨S512x32x32, .f32⟩
  | 32 => ⟨S32, .i32⟩
  | 33 => ⟨S_, .f32⟩
  | 34 => ⟨S32x512x32x32, .f32⟩
  | 35 => ⟨S_, .i32⟩
  | 36 => ⟨S32, .i32⟩
  | 37 => ⟨S512x32x32x32, .f32⟩
  | 38 => ⟨S2, .i32⟩
  | 39 => ⟨S_, .i32⟩
  | 40 => ⟨S512x32x32, .f32⟩
  | 41 => ⟨S32x512x32x32, .f32⟩
  | 42 => ⟨S_, .i32⟩
  | 43 => ⟨S_, .i1⟩
  | 44 => ⟨S1, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S512x32x32x1, .f32⟩
  | 55 => ⟨S512x32x32, .f32⟩
  | 56 => ⟨S_, .f32⟩
  | 57 => ⟨S512x32x32, .f32⟩
  | 58 => ⟨S512x32x32, .f32⟩
  | 59 => ⟨S512x32x32, .f32⟩
  | 60 => ⟨S_, .i32⟩
  | 61 => ⟨S_, .i32⟩
  | 62 => ⟨S_, .i32⟩
  | 63 => ⟨S1, .i32⟩
  | 64 => ⟨S_, .i32⟩
  | 65 => ⟨S_, .i32⟩
  | 66 => ⟨S1, .i32⟩
  | 67 => ⟨S2, .i32⟩
  | 68 => ⟨S1, .i32⟩
  | 69 => ⟨S_, .i32⟩
  | 70 => ⟨S1, .i32⟩
  | 71 => ⟨S_, .i32⟩
  | 72 => ⟨S1, .i32⟩
  | 73 => ⟨S1, .i32⟩
  | 74 => ⟨S_, .i32⟩
  | 75 => ⟨S_, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S512x32x31x64, .f32⟩

abbrev hbmTy0_1 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S_, .i32⟩
  | 25 => ⟨S1, .i32⟩
  | 26 => ⟨S1, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S_, .i32⟩
  | 127 => ⟨S1, .i32⟩
  | _ => ⟨S512x32x31x64, .f32⟩

abbrev hbmTy0_2 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S2, .i32⟩
  | 41 => ⟨S_, .f32⟩
  | 42 => ⟨S_, .f32⟩
  | 43 => ⟨S_, .f32⟩
  | 44 => ⟨S_, .f32⟩
  | 45 => ⟨S1x1x1, .f32⟩
  | 46 => ⟨S1x1x1, .f32⟩
  | 47 => ⟨S1, .i32⟩
  | 48 => ⟨S_, .i32⟩
  | 49 => ⟨S1, .i32⟩
  | 50 => ⟨S_, .i32⟩
  | 51 => ⟨S512x32x32, .i64⟩
  | 52 => ⟨S512x32x32, .i64⟩
  | 53 => ⟨S512x32x32, .i64⟩
  | 54 => ⟨S_, .i64⟩
  | 55 => ⟨S512x32x32, .i64⟩
  | 56 => ⟨S512x32x32, .i64⟩
  | 57 => ⟨S_, .i64⟩
  | 58 => ⟨S512x32x32, .i64⟩
  | 59 => ⟨S512x32x32, .i64⟩
  | 60 => ⟨S_, .i64⟩
  | 61 => ⟨S512x32x32, .i64⟩
  | 62 => ⟨S512x32x32, .i64⟩
  | 63 => ⟨S512x32x32, .i64⟩
  | 64 => ⟨S512x32x32, .i64⟩
  | 65 => ⟨S_, .i64⟩
  | 66 => ⟨S512x32x32, .i64⟩
  | 67 => ⟨S512x32x32, .i64⟩
  | 68 => ⟨S512x32x32, .i32⟩
  | 69 => ⟨S512x32x32, .i32⟩
  | 70 => ⟨S_, .i32⟩
  | 71 => ⟨S_, .i32⟩
  | 72 => ⟨S_, .i32⟩
  | 73 => ⟨S512x32x32, .i32⟩
  | 74 => ⟨S512x32x32, .i32⟩
  | 75 => ⟨S512x32x32, .i32⟩
  | 76 => ⟨S512x32x32, .i32⟩
  | 77 => ⟨S512x32x32, .i32⟩
  | 78 => ⟨S_, .i32⟩
  | 79 => ⟨S512x32x32, .i32⟩
  | 80 => ⟨S512x32x32, .i32⟩
  | 81 => ⟨S_, .i32⟩
  | 82 => ⟨S512x32x32, .i32⟩
  | 83 => ⟨S512x32x32, .i32⟩
  | 84 => ⟨S512x32x32, .i32⟩
  | 85 => ⟨S512x32x32, .i32⟩
  | 86 => ⟨S512x32x32, .i32⟩
  | 87 => ⟨S_, .i32⟩
  | 88 => ⟨S512x32x32, .i32⟩
  | 89 => ⟨S512x32x32, .i32⟩
  | 90 => ⟨S_, .i32⟩
  | 91 => ⟨S512x32x32, .i32⟩
  | 92 => ⟨S512x32x32, .i32⟩
  | 93 => ⟨S512x32x32, .i32⟩
  | 94 => ⟨S512x32x32, .i32⟩
  | 95 => ⟨S512x32x32, .i32⟩
  | 96 => ⟨S_, .i32⟩
  | 97 => ⟨S512x32x32, .i32⟩
  | 98 => ⟨S512x32x32, .i32⟩
  | 99 => ⟨S_, .i32⟩
  | 100 => ⟨S512x32x32, .i32⟩
  | 101 => ⟨S512x32x32, .i32⟩
  | 102 => ⟨S512x32x32, .i32⟩
  | 103 => ⟨S512x32x32, .i32⟩
  | 104 => ⟨S512x32x32, .i32⟩
  | 105 => ⟨S_, .i32⟩
  | 106 => ⟨S512x32x32, .i32⟩
  | 107 => ⟨S512x32x32, .i32⟩
  | 108 => ⟨S_, .i32⟩
  | 109 => ⟨S512x32x32, .i32⟩
  | 110 => ⟨S512x32x32, .i32⟩
  | 111 => ⟨S512x32x32, .i32⟩
  | 112 => ⟨S512x32x32, .i32⟩
  | 113 => ⟨S512x32x32, .i32⟩
  | 114 => ⟨S512x32x32, .i32⟩
  | 115 => ⟨S512x32x32, .i32⟩
  | 116 => ⟨S512x32x32, .i32⟩
  | 117 => ⟨S_, .i32⟩
  | 118 => ⟨S512x32x32, .i32⟩
  | 119 => ⟨S512x32x32, .i32⟩
  | 120 => ⟨S512x32x32, .i32⟩
  | 121 => ⟨S_, .i32⟩
  | 122 => ⟨S512x32x32, .i32⟩
  | 123 => ⟨S512x32x32, .i32⟩
  | 124 => ⟨S_, .i32⟩
  | 125 => ⟨S512x32x32, .i32⟩
  | 126 => ⟨S512x32x32, .i32⟩
  | 127 => ⟨S512x32x32, .i32⟩
  | _ => ⟨S512x32x31x64, .f32⟩

abbrev hbmTy0_3 (i : Nat) : BufTy := match i % 128 with
  | 0 => ⟨S512x32x32, .i32⟩
  | 1 => ⟨S512x32x32, .i32⟩
  | 2 => ⟨S_, .i32⟩
  | 3 => ⟨S512x32x32, .i32⟩
  | 4 => ⟨S512x32x32, .i32⟩
  | 5 => ⟨S_, .i32⟩
  | 6 => ⟨S512x32x32, .i32⟩
  | 7 => ⟨S512x32x32, .i32⟩
  | 8 => ⟨S512x32x32, .i32⟩
  | 9 => ⟨S512x32x32, .i32⟩
  | 10 => ⟨S512x32x32, .i32⟩
  | 11 => ⟨S_, .i32⟩
  | 12 => ⟨S512x32x32, .i32⟩
  | 13 => ⟨S512x32x32, .i32⟩
  | 14 => ⟨S_, .i32⟩
  | 15 => ⟨S512x32x32, .i32⟩
  | 16 => ⟨S512x32x32, .i32⟩
  | 17 => ⟨S512x32x32, .i32⟩
  | 18 => ⟨S512x32x32, .i32⟩
  | 19 => ⟨S512x32x32, .i32⟩
  | 20 => ⟨S_, .i32⟩
  | 21 => ⟨S512x32x32, .i32⟩
  | 22 => ⟨S512x32x32, .i32⟩
  | 23 => ⟨S_, .i32⟩
  | 24 => ⟨S512x32x32, .i32⟩
  | 25 => ⟨S512x32x32, .i32⟩
  | 26 => ⟨S512x32x32, .i32⟩
  | 27 => ⟨S512x32x32, .i32⟩
  | 28 => ⟨S512x32x32, .i32⟩
  | 29 => ⟨S512x32x32, .i32⟩
  | 30 => ⟨S512x32x32, .i32⟩
  | 31 => ⟨S512x32x32, .i32⟩
  | 32 => ⟨S_, .i32⟩
  | 33 => ⟨S512x32x32, .i32⟩
  | 34 => ⟨S512x32x32, .i32⟩
  | 35 => ⟨S512x32x32, .i32⟩
  | 36 => ⟨S_, .i32⟩
  | 37 => ⟨S512x32x32, .i32⟩
  | 38 => ⟨S512x32x32, .i32⟩
  | 39 => ⟨S_, .i32⟩
  | 40 => ⟨S512x32x32, .i32⟩
  | 41 => ⟨S512x32x32, .i32⟩
  | 42 => ⟨S512x32x32, .i32⟩
  | 43 => ⟨S512x32x32, .i32⟩
  | 44 => ⟨S512x32x32, .i32⟩
  | 45 => ⟨S_, .i32⟩
  | 46 => ⟨S512x32x32, .i32⟩
  | 47 => ⟨S512x32x32, .i32⟩
  | 48 => ⟨S_, .i32⟩
  | 49 => ⟨S512x32x32, .i32⟩
  | 50 => ⟨S512x32x32, .i32⟩
  | 51 => ⟨S512x32x32, .i32⟩
  | 52 => ⟨S512x32x32, .i32⟩
  | 53 => ⟨S512x32x32, .i32⟩
  | 54 => ⟨S_, .i32⟩
  | 55 => ⟨S512x32x32, .i32⟩
  | 56 => ⟨S512x32x32, .i32⟩
  | 57 => ⟨S_, .i32⟩
  | 58 => ⟨S512x32x32, .i32⟩
  | 59 => ⟨S512x32x32, .i32⟩
  | 60 => ⟨S512x32x32, .i32⟩
  | 61 => ⟨S512x32x32, .i32⟩
  | 62 => ⟨S512x32x32, .i32⟩
  | 63 => ⟨S_, .i32⟩
  | 64 => ⟨S512x32x32, .i32⟩
  | 65 => ⟨S512x32x32, .i32⟩
  | 66 => ⟨S_, .i32⟩
  | 67 => ⟨S512x32x32, .i32⟩
  | 68 => ⟨S512x32x32, .i32⟩
  | 69 => ⟨S512x32x32, .i32⟩
  | 70 => ⟨S512x32x32, .i32⟩
  | 71 => ⟨S512x32x32, .i32⟩
  | 72 => ⟨S512x32x32, .i32⟩
  | 73 => ⟨S512x32x32, .i32⟩
  | 74 => ⟨S512x32x32, .i32⟩
  | 75 => ⟨S_, .i32⟩
  | 76 => ⟨S512x32x32, .i32⟩
  | 77 => ⟨S512x32x32, .i32⟩
  | 78 => ⟨S512x32x32, .i32⟩
  | 79 => ⟨S_, .i32⟩
  | 80 => ⟨S512x32x32, .i32⟩
  | 81 => ⟨S512x32x32, .i32⟩
  | 82 => ⟨S_, .i32⟩
  | 83 => ⟨S512x32x32, .i32⟩
  | 84 => ⟨S512x32x32, .i32⟩
  | 85 => ⟨S512x32x32, .i32⟩
  | 86 => ⟨S512x32x32, .i32⟩
  | 87 => ⟨S512x32x32, .i32⟩
  | 88 => ⟨S_, .i32⟩
  | 89 => ⟨S512x32x32, .i32⟩
  | 90 => ⟨S512x32x32, .i32⟩
  | 91 => ⟨S_, .i32⟩
  | 92 => ⟨S512x32x32, .i32⟩
  | 93 => ⟨S512x32x32, .i32⟩
  | 94 => ⟨S512x32x32, .i32⟩
  | 95 => ⟨S512x32x32, .i32⟩
  | 96 => ⟨S512x32x32, .i32⟩
  | 97 => ⟨S_, .i32⟩
  | 98 => ⟨S512x32x32, .i32⟩
  | 99 => ⟨S512x32x32, .i32⟩
  | 100 => ⟨S_, .i32⟩
  | 101 => ⟨S512x32x32, .i32⟩
  | 102 => ⟨S512x32x32, .i32⟩
  | 103 => ⟨S512x32x32, .i32⟩
  | 104 => ⟨S512x32x32, .i32⟩
  | 105 => ⟨S512x32x32, .i32⟩
  | 106 => ⟨S_, .i32⟩
  | 107 => ⟨S512x32x32, .i32⟩
  | 108 => ⟨S512x32x32, .i32⟩
  | 109 => ⟨S_, .i32⟩
  | 110 => ⟨S512x32x32, .i32⟩
  | 111 => ⟨S512x32x32, .i32⟩
  | 112 => ⟨S512x32x32, .i32⟩
  | 113 => ⟨S512x32x32, .i32⟩
  | 114 => ⟨S512x32x32, .i32⟩
  | 115 => ⟨S512x32x32, .i32⟩
  | 116 => ⟨S512x32x32, .i32⟩
  | 117 => ⟨S512x32x32, .i32⟩
  | 118 => ⟨S_, .i32⟩
  | 119 => ⟨S512x32x32, .i32⟩
  | 120 => ⟨S512x32x32, .i32⟩
  | 121 => ⟨S512x32x32, .i32⟩
  | 122 => ⟨S_, .i32⟩
  | 123 => ⟨S512x32x32, .i32⟩
  | 124 => ⟨S512x32x32, .i32⟩
  | 125 => ⟨S_, .i32⟩
  | 126 => ⟨S512x32x32, .i32⟩
  | 127 => ⟨S512x32x32, .i32⟩
  | _ => ⟨S512x32x31x64, .f32⟩

abbrev hbmTy0_4 (i : Nat) : BufTy := match i % 128 with
  | 0 => ⟨S512x32x32, .i32⟩
  | 1 => ⟨S512x32x32, .i32⟩
  | 2 => ⟨S512x32x32, .i32⟩
  | 3 => ⟨S_, .i32⟩
  | 4 => ⟨S512x32x32, .i32⟩
  | 5 => ⟨S512x32x32, .i32⟩
  | 6 => ⟨S_, .i32⟩
  | 7 => ⟨S512x32x32, .i32⟩
  | 8 => ⟨S512x32x32, .i32⟩
  | 9 => ⟨S512x32x32, .i32⟩
  | 10 => ⟨S512x32x32, .i32⟩
  | 11 => ⟨S512x32x32, .i32⟩
  | 12 => ⟨S_, .i32⟩
  | 13 => ⟨S512x32x32, .i32⟩
  | 14 => ⟨S512x32x32, .i32⟩
  | 15 => ⟨S_, .i32⟩
  | 16 => ⟨S512x32x32, .i32⟩
  | 17 => ⟨S512x32x32, .i32⟩
  | 18 => ⟨S512x32x32, .i32⟩
  | 19 => ⟨S512x32x32, .i32⟩
  | 20 => ⟨S512x32x32, .i32⟩
  | 21 => ⟨S_, .i32⟩
  | 22 => ⟨S512x32x32, .i32⟩
  | 23 => ⟨S512x32x32, .i32⟩
  | 24 => ⟨S_, .i32⟩
  | 25 => ⟨S512x32x32, .i32⟩
  | 26 => ⟨S512x32x32, .i32⟩
  | 27 => ⟨S512x32x32, .i32⟩
  | 28 => ⟨S512x32x32, .i32⟩
  | 29 => ⟨S512x32x32, .i32⟩
  | 30 => ⟨S512x32x32, .i32⟩
  | 31 => ⟨S512x32x32, .i32⟩
  | 32 => ⟨S512x32x32, .i32⟩
  | 33 => ⟨S_, .i32⟩
  | 34 => ⟨S512x32x32, .i32⟩
  | 35 => ⟨S512x32x32, .i32⟩
  | 36 => ⟨S512x32x32, .i32⟩
  | 37 => ⟨S_, .i32⟩
  | 38 => ⟨S512x32x32, .i32⟩
  | 39 => ⟨S512x32x32, .i32⟩
  | 40 => ⟨S_, .i32⟩
  | 41 => ⟨S512x32x32, .i32⟩
  | 42 => ⟨S512x32x32, .i32⟩
  | 43 => ⟨S512x32x32, .f32⟩
  | 44 => ⟨S_, .f32⟩
  | 45 => ⟨S512x32x32, .f32⟩
  | 46 => ⟨S512x32x32, .f32⟩
  | 47 => ⟨S1x1x1, .f32⟩
  | 48 => ⟨S512x32x32, .f32⟩
  | 49 => ⟨S512x32x32, .f32⟩
  | 50 => ⟨S512x32x32, .f32⟩
  | 51 => ⟨S512x32x32, .f32⟩
  | 52 => ⟨S512x32x32, .f32⟩
  | 53 => ⟨S512x32x32, .f32⟩
  | 54 => ⟨S_, .f32⟩
  | 55 => ⟨S512x32x32, .f32⟩
  | 56 => ⟨S512x32x32, .f32⟩
  | 57 => ⟨S_, .f32⟩
  | 58 => ⟨S512x32x32, .f32⟩
  | 59 => ⟨S512x32x32, .f32⟩
  | 60 => ⟨S_, .f32⟩
  | 61 => ⟨S512x32x32, .f32⟩
  | 62 => ⟨S512x32x32, .f32⟩
  | 63 => ⟨S512x32x32, .f32⟩
  | 64 => ⟨S512x32x32, .f32⟩
  | 65 => ⟨S512x32x32, .f32⟩
  | 66 => ⟨S512x32x32, .f32⟩
  | 67 => ⟨S512x32x32, .f32⟩
  | 68 => ⟨S_, .f32⟩
  | 69 => ⟨S512x32x32, .f32⟩
  | 70 => ⟨S512x32x32, .f32⟩
  | 71 => ⟨S_, .f32⟩
  | 72 => ⟨S512x32, .f32⟩
  | 73 => ⟨S_, .f32⟩
  | 74 => ⟨S512x32, .f32⟩
  | 75 => ⟨S512x32, .f32⟩
  | 76 => ⟨S512x32x1, .f32⟩
  | 77 => ⟨S512x32x32, .f32⟩
  | 78 => ⟨S512x32x32, .f32⟩
  | 79 => ⟨S512x32x32, .f32⟩
  | 80 => ⟨S_, .f32⟩
  | 81 => ⟨S512x32, .f32⟩
  | 82 => ⟨S512x32x1, .f32⟩
  | 83 => ⟨S512x32x32, .f32⟩
  | 84 => ⟨S512x32x32, .f32⟩
  | 85 => ⟨S512x32x32, .i32⟩
  | 86 => ⟨S_, .f32⟩
  | 87 => ⟨S_, .i32⟩
  | 88 => ⟨S512x32, .f32⟩
  | 89 => ⟨S512x32, .i32⟩
  | 90 => ⟨S512x32x1, .i32⟩
  | 91 => ⟨S1x1x32, .i32⟩
  | 92 => ⟨S512x32x32, .i32⟩
  | 93 => ⟨S512x32x32, .i32⟩
  | 94 => ⟨S512x32x32, .i1⟩
  | 95 => ⟨S512x32x32, .f32⟩
  | 96 => ⟨S512x32x32, .f32⟩
  | 97 => ⟨S512x32x32, .f32⟩
  | 98 => ⟨S512x32x32, .f32⟩
  | 99 => ⟨S1x512x32x32, .f32⟩
  | 100 => ⟨S_, .i32⟩
  | 101 => ⟨S_, .i32⟩
  | 102 => ⟨S_, .i32⟩
  | 103 => ⟨S32x512x32x32, .f32⟩
  | 104 => ⟨S_, .i32⟩
  | 105 => ⟨S_, .i32⟩
  | 106 => ⟨S512x32x32x32, .f32⟩
  | 107 => ⟨S16384x32x32, .f32⟩
  | 108 => ⟨S16384x32x32, .f32⟩
  | _ => ⟨S512x32x31x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S512x32x31x64, .f32⟩

abbrev bufTy : (tb : Table) → Fin (tcTables nBuf tb) → BufTy
  | .hbm, ⟨i, _⟩ => hbmTy i
  | _, _ => ⟨S512x32x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_c_3 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v19_3 : Ref sig .tc := ⟨.hbm, 39, rfl⟩
abbrev main_v19_4 : Ref sig .tc := ⟨.hbm, 40, rfl⟩
abbrev main_v19_5 : Ref sig .tc := ⟨.hbm, 41, rfl⟩
abbrev main_while0c_c_9 : Ref sig .tc := ⟨.hbm, 42, rfl⟩
abbrev main_while0c_v23 : Ref sig .tc := ⟨.hbm, 43, rfl⟩
abbrev main_while0b_call1_v0 : Ref sig .tc := ⟨.hbm, 44, rfl⟩
abbrev main_while0b_v23 : Ref sig .tc := ⟨.hbm, 45, rfl⟩
abbrev main_while0b_call2_c : Ref sig .tc := ⟨.hbm, 46, rfl⟩
abbrev main_while0b_call2_v0 : Ref sig .tc := ⟨.hbm, 47, rfl⟩
abbrev main_while0b_call2_c_0 : Ref sig .tc := ⟨.hbm, 48, rfl⟩
abbrev main_while0b_call2_v1 : Ref sig .tc := ⟨.hbm, 49, rfl⟩
abbrev main_while0b_call2_v2 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_c_3 : Ref sig .tc := ⟨.hbm, 53, rfl⟩
abbrev main_while0b_call2_v3 : Ref sig .tc := ⟨.hbm, 54, rfl⟩
abbrev main_while0b_v24 : Ref sig .tc := ⟨.hbm, 55, rfl⟩
abbrev main_while0b_cst_9 : Ref sig .tc := ⟨.hbm, 56, rfl⟩
abbrev main_while0b_v25 : Ref sig .tc := ⟨.hbm, 57, rfl⟩
abbrev main_while0b_v26 : Ref sig .tc := ⟨.hbm, 58, rfl⟩
abbrev main_while0b_v27 : Ref sig .tc := ⟨.hbm, 59, rfl⟩
abbrev main_while0b_v28 : Ref sig .tc := ⟨.hbm, 60, rfl⟩
abbrev main_while0b_call3_c : Ref sig .tc := ⟨.hbm, 61, rfl⟩
abbrev main_while0b_call3_v0 : Ref sig .tc := ⟨.hbm, 62, rfl⟩
abbrev main_while0b_call3_v1 : Ref sig .tc := ⟨.hbm, 63, rfl⟩
abbrev main_while0b_call3_c_0 : Ref sig .tc := ⟨.hbm, 64, rfl⟩
abbrev main_while0b_call3_v2 : Ref sig .tc := ⟨.hbm, 65, rfl⟩
abbrev main_while0b_call3_v3 : Ref sig .tc := ⟨.hbm, 66, rfl⟩
abbrev main_while0b_call3_v4 : Ref sig .tc := ⟨.hbm, 67, rfl⟩
abbrev main_while0b_call3_v5 : Ref sig .tc := ⟨.hbm, 68, rfl⟩
abbrev main_while0b_call3_v6 : Ref sig .tc := ⟨.hbm, 69, rfl⟩
abbrev main_while0b_call3_v7 : Ref sig .tc := ⟨.hbm, 70, rfl⟩
abbrev main_while0b_call3_v8 : Ref sig .tc := ⟨.hbm, 71, rfl⟩
abbrev main_while0b_call3_v9 : Ref sig .tc := ⟨.hbm, 72, rfl⟩
abbrev main_while0b_call3_v10 : Ref sig .tc := ⟨.hbm, 73, rfl⟩
abbrev main_while0b_call3_call0_v0 : Ref sig .tc := ⟨.hbm, 74, rfl⟩
abbrev main_while0b_call3_call0_c : Ref sig .tc := ⟨.hbm, 75, rfl⟩
abbrev main_while0b_call3_call0_v1 : Ref sig .tc := ⟨.hbm, 76, rfl⟩
abbrev main_while0b_call3_call0_v2 : Ref sig .tc := ⟨.hbm, 77, rfl⟩
abbrev main_while0b_call3_call0_v3 : Ref sig .tc := ⟨.hbm, 78, rfl⟩
abbrev main_while0b_call3_call0_v4 : Ref sig .tc := ⟨.hbm, 79, rfl⟩
abbrev main_while0b_call3_call0_v5 : Ref sig .tc := ⟨.hbm, 80, rfl⟩
abbrev main_while0b_call3_call0_v6 : Ref sig .tc := ⟨.hbm, 81, rfl⟩
abbrev main_while0b_call3_call0_c_0 : Ref sig .tc := ⟨.hbm, 82, rfl⟩
abbrev main_while0b_call3_call0_v7 : Ref sig .tc := ⟨.hbm, 83, rfl⟩
abbrev main_while0b_call3_call0_v8 : Ref sig .tc := ⟨.hbm, 84, rfl⟩
abbrev main_while0b_call3_call0_c_1 : Ref sig .tc := ⟨.hbm, 85, rfl⟩
abbrev main_while0b_call3_call0_v9 : Ref sig .tc := ⟨.hbm, 86, rfl⟩
abbrev main_while0b_call3_call0_v10 : Ref sig .tc := ⟨.hbm, 87, rfl⟩
abbrev main_while0b_call3_call0_v11 : Ref sig .tc := ⟨.hbm, 88, rfl⟩
abbrev main_while0b_call3_call0_v12 : Ref sig .tc := ⟨.hbm, 89, rfl⟩
abbrev main_while0b_call3_call0_v13 : Ref sig .tc := ⟨.hbm, 90, rfl⟩
abbrev main_while0b_call3_call0_c_2 : Ref sig .tc := ⟨.hbm, 91, rfl⟩
abbrev main_while0b_call3_call0_v14 : Ref sig .tc := ⟨.hbm, 92, rfl⟩
abbrev main_while0b_call3_call0_v15 : Ref sig .tc := ⟨.hbm, 93, rfl⟩
abbrev main_while0b_call3_call0_c_3 : Ref sig .tc := ⟨.hbm, 94, rfl⟩
abbrev main_while0b_call3_call0_v16 : Ref sig .tc := ⟨.hbm, 95, rfl⟩
abbrev main_while0b_call3_call0_v17 : Ref sig .tc := ⟨.hbm, 96, rfl⟩
abbrev main_while0b_call3_call0_v18 : Ref sig .tc := ⟨.hbm, 97, rfl⟩
abbrev main_while0b_call3_call0_v19 : Ref sig .tc := ⟨.hbm, 98, rfl⟩
abbrev main_while0b_call3_call0_v20 : Ref sig .tc := ⟨.hbm, 99, rfl⟩
abbrev main_while0b_call3_call0_c_4 : Ref sig .tc := ⟨.hbm, 100, rfl⟩
abbrev main_while0b_call3_call0_v21 : Ref sig .tc := ⟨.hbm, 101, rfl⟩
abbrev main_while0b_call3_call0_v22 : Ref sig .tc := ⟨.hbm, 102, rfl⟩
abbrev main_while0b_call3_call0_c_5 : Ref sig .tc := ⟨.hbm, 103, rfl⟩
abbrev main_while0b_call3_call0_v23 : Ref sig .tc := ⟨.hbm, 104, rfl⟩
abbrev main_while0b_call3_call0_v24 : Ref sig .tc := ⟨.hbm, 105, rfl⟩
abbrev main_while0b_call3_call0_v25 : Ref sig .tc := ⟨.hbm, 106, rfl⟩
abbrev main_while0b_call3_call0_v26 : Ref sig .tc := ⟨.hbm, 107, rfl⟩
abbrev main_while0b_call3_call0_v27 : Ref sig .tc := ⟨.hbm, 108, rfl⟩
abbrev main_while0b_call3_call0_c_6 : Ref sig .tc := ⟨.hbm, 109, rfl⟩
abbrev main_while0b_call3_call0_v28 : Ref sig .tc := ⟨.hbm, 110, rfl⟩
abbrev main_while0b_call3_call0_v29 : Ref sig .tc := ⟨.hbm, 111, rfl⟩
abbrev main_while0b_call3_call0_c_7 : Ref sig .tc := ⟨.hbm, 112, rfl⟩
abbrev main_while0b_call3_call0_v30 : Ref sig .tc := ⟨.hbm, 113, rfl⟩
abbrev main_while0b_call3_call0_v31 : Ref sig .tc := ⟨.hbm, 114, rfl⟩
abbrev main_while0b_call3_call0_v32 : Ref sig .tc := ⟨.hbm, 115, rfl⟩
abbrev main_while0b_call3_call0_v33 : Ref sig .tc := ⟨.hbm, 116, rfl⟩
abbrev main_while0b_call3_call0_v34 : Ref sig .tc := ⟨.hbm, 117, rfl⟩
abbrev main_while0b_call3_call0_v35 : Ref sig .tc := ⟨.hbm, 118, rfl⟩
abbrev main_while0b_call3_call0_v36 : Ref sig .tc := ⟨.hbm, 119, rfl⟩
abbrev main_while0b_call3_call0_v37 : Ref sig .tc := ⟨.hbm, 120, rfl⟩
abbrev main_while0b_call3_call0_c_8 : Ref sig .tc := ⟨.hbm, 121, rfl⟩
abbrev main_while0b_call3_call0_v38 : Ref sig .tc := ⟨.hbm, 122, rfl⟩
abbrev main_while0b_call3_call0_v39 : Ref sig .tc := ⟨.hbm, 123, rfl⟩
abbrev main_while0b_call3_call0_v40 : Ref sig .tc := ⟨.hbm, 124, rfl⟩
abbrev main_while0b_call3_call0_c_9 : Ref sig .tc := ⟨.hbm, 125, rfl⟩
abbrev main_while0b_call3_call0_v41 : Ref sig .tc := ⟨.hbm, 126, rfl⟩
abbrev main_while0b_call3_call0_v42 : Ref sig .tc := ⟨.hbm, 127, rfl⟩
abbrev main_while0b_call3_call0_c_10 : Ref sig .tc := ⟨.hbm, 128, rfl⟩
abbrev main_while0b_call3_call0_v43 : Ref sig .tc := ⟨.hbm, 129, rfl⟩
abbrev main_while0b_call3_call0_v44 : Ref sig .tc := ⟨.hbm, 130, rfl⟩
abbrev main_while0b_call3_call0_v45 : Ref sig .tc := ⟨.hbm, 131, rfl⟩
abbrev main_while0b_call3_call0_v46 : Ref sig .tc := ⟨.hbm, 132, rfl⟩
abbrev main_while0b_call3_call0_v47 : Ref sig .tc := ⟨.hbm, 133, rfl⟩
abbrev main_while0b_call3_call0_c_11 : Ref sig .tc := ⟨.hbm, 134, rfl⟩
abbrev main_while0b_call3_call0_v48 : Ref sig .tc := ⟨.hbm, 135, rfl⟩
abbrev main_while0b_call3_call0_v49 : Ref sig .tc := ⟨.hbm, 136, rfl⟩
abbrev main_while0b_call3_call0_c_12 : Ref sig .tc := ⟨.hbm, 137, rfl⟩
abbrev main_while0b_call3_call0_v50 : Ref sig .tc := ⟨.hbm, 138, rfl⟩
abbrev main_while0b_call3_call0_v51 : Ref sig .tc := ⟨.hbm, 139, rfl⟩
abbrev main_while0b_call3_call0_v52 : Ref sig .tc := ⟨.hbm, 140, rfl⟩
abbrev main_while0b_call3_call0_v53 : Ref sig .tc := ⟨.hbm, 141, rfl⟩
abbrev main_while0b_call3_call0_v54 : Ref sig .tc := ⟨.hbm, 142, rfl⟩
abbrev main_while0b_call3_call0_c_13 : Ref sig .tc := ⟨.hbm, 143, rfl⟩
abbrev main_while0b_call3_call0_v55 : Ref sig .tc := ⟨.hbm, 144, rfl⟩
abbrev main_while0b_call3_call0_v56 : Ref sig .tc := ⟨.hbm, 145, rfl⟩
abbrev main_while0b_call3_call0_c_14 : Ref sig .tc := ⟨.hbm, 146, rfl⟩
abbrev main_while0b_call3_call0_v57 : Ref sig .tc := ⟨.hbm, 147, rfl⟩
abbrev main_while0b_call3_call0_v58 : Ref sig .tc := ⟨.hbm, 148, rfl⟩
abbrev main_while0b_call3_call0_v59 : Ref sig .tc := ⟨.hbm, 149, rfl⟩
abbrev main_while0b_call3_call0_v60 : Ref sig .tc := ⟨.hbm, 150, rfl⟩
abbrev main_while0b_call3_call0_v61 : Ref sig .tc := ⟨.hbm, 151, rfl⟩
abbrev main_while0b_call3_call0_c_15 : Ref sig .tc := ⟨.hbm, 152, rfl⟩
abbrev main_while0b_call3_call0_v62 : Ref sig .tc := ⟨.hbm, 153, rfl⟩
abbrev main_while0b_call3_call0_v63 : Ref sig .tc := ⟨.hbm, 154, rfl⟩
abbrev main_while0b_call3_call0_c_16 : Ref sig .tc := ⟨.hbm, 155, rfl⟩
abbrev main_while0b_call3_call0_v64 : Ref sig .tc := ⟨.hbm, 156, rfl⟩
abbrev main_while0b_call3_call0_v65 : Ref sig .tc := ⟨.hbm, 157, rfl⟩
abbrev main_while0b_call3_call0_v66 : Ref sig .tc := ⟨.hbm, 158, rfl⟩
abbrev main_while0b_call3_call0_v67 : Ref sig .tc := ⟨.hbm, 159, rfl⟩
abbrev main_while0b_call3_call0_v68 : Ref sig .tc := ⟨.hbm, 160, rfl⟩
abbrev main_while0b_call3_call0_v69 : Ref sig .tc := ⟨.hbm, 161, rfl⟩
abbrev main_while0b_call3_call0_v70 : Ref sig .tc := ⟨.hbm, 162, rfl⟩
abbrev main_while0b_call3_call0_v71 : Ref sig .tc := ⟨.hbm, 163, rfl⟩
abbrev main_while0b_call3_call0_c_17 : Ref sig .tc := ⟨.hbm, 164, rfl⟩
abbrev main_while0b_call3_call0_v72 : Ref sig .tc := ⟨.hbm, 165, rfl⟩
abbrev main_while0b_call3_call0_v73 : Ref sig .tc := ⟨.hbm, 166, rfl⟩
abbrev main_while0b_call3_call0_v74 : Ref sig .tc := ⟨.hbm, 167, rfl⟩
abbrev main_while0b_call3_call0_c_18 : Ref sig .tc := ⟨.hbm, 168, rfl⟩
abbrev main_while0b_call3_call0_v75 : Ref sig .tc := ⟨.hbm, 169, rfl⟩
abbrev main_while0b_call3_call0_v76 : Ref sig .tc := ⟨.hbm, 170, rfl⟩
abbrev main_while0b_call3_call0_c_19 : Ref sig .tc := ⟨.hbm, 171, rfl⟩
abbrev main_while0b_call3_call0_v77 : Ref sig .tc := ⟨.hbm, 172, rfl⟩
abbrev main_while0b_call3_call0_v78 : Ref sig .tc := ⟨.hbm, 173, rfl⟩
abbrev main_while0b_call3_call0_v79 : Ref sig .tc := ⟨.hbm, 174, rfl⟩
abbrev main_while0b_call3_call0_v80 : Ref sig .tc := ⟨.hbm, 175, rfl⟩
abbrev main_while0b_call3_call0_v81 : Ref sig .tc := ⟨.hbm, 176, rfl⟩
abbrev main_while0b_call3_call0_c_20 : Ref sig .tc := ⟨.hbm, 177, rfl⟩
abbrev main_while0b_call3_call0_v82 : Ref sig .tc := ⟨.hbm, 178, rfl⟩
abbrev main_while0b_call3_call0_v83 : Ref sig .tc := ⟨.hbm, 179, rfl⟩
abbrev main_while0b_call3_call0_c_21 : Ref sig .tc := ⟨.hbm, 180, rfl⟩
abbrev main_while0b_call3_call0_v84 : Ref sig .tc := ⟨.hbm, 181, rfl⟩
abbrev main_while0b_call3_call0_v85 : Ref sig .tc := ⟨.hbm, 182, rfl⟩
abbrev main_while0b_call3_call0_v86 : Ref sig .tc := ⟨.hbm, 183, rfl⟩
abbrev main_while0b_call3_call0_v87 : Ref sig .tc := ⟨.hbm, 184, rfl⟩
abbrev main_while0b_call3_call0_v88 : Ref sig .tc := ⟨.hbm, 185, rfl⟩
abbrev main_while0b_call3_call0_c_22 : Ref sig .tc := ⟨.hbm, 186, rfl⟩
abbrev main_while0b_call3_call0_v89 : Ref sig .tc := ⟨.hbm, 187, rfl⟩
abbrev main_while0b_call3_call0_v90 : Ref sig .tc := ⟨.hbm, 188, rfl⟩
abbrev main_while0b_call3_call0_c_23 : Ref sig .tc := ⟨.hbm, 189, rfl⟩
abbrev main_while0b_call3_call0_v91 : Ref sig .tc := ⟨.hbm, 190, rfl⟩
abbrev main_while0b_call3_call0_v92 : Ref sig .tc := ⟨.hbm, 191, rfl⟩
abbrev main_while0b_call3_call0_v93 : Ref sig .tc := ⟨.hbm, 192, rfl⟩
abbrev main_while0b_call3_call0_v94 : Ref sig .tc := ⟨.hbm, 193, rfl⟩
abbrev main_while0b_call3_call0_v95 : Ref sig .tc := ⟨.hbm, 194, rfl⟩
abbrev main_while0b_call3_call0_c_24 : Ref sig .tc := ⟨.hbm, 195, rfl⟩
abbrev main_while0b_call3_call0_v96 : Ref sig .tc := ⟨.hbm, 196, rfl⟩
abbrev main_while0b_call3_call0_v97 : Ref sig .tc := ⟨.hbm, 197, rfl⟩
abbrev main_while0b_call3_call0_c_25 : Ref sig .tc := ⟨.hbm, 198, rfl⟩
abbrev main_while0b_call3_call0_v98 : Ref sig .tc := ⟨.hbm, 199, rfl⟩
abbrev main_while0b_call3_call0_v99 : Ref sig .tc := ⟨.hbm, 200, rfl⟩
abbrev main_while0b_call3_call0_v100 : Ref sig .tc := ⟨.hbm, 201, rfl⟩
abbrev main_while0b_call3_call0_v101 : Ref sig .tc := ⟨.hbm, 202, rfl⟩
abbrev main_while0b_call3_call0_v102 : Ref sig .tc := ⟨.hbm, 203, rfl⟩
abbrev main_while0b_call3_call0_v103 : Ref sig .tc := ⟨.hbm, 204, rfl⟩
abbrev main_while0b_call3_call0_v104 : Ref sig .tc := ⟨.hbm, 205, rfl⟩
abbrev main_while0b_call3_call0_v105 : Ref sig .tc := ⟨.hbm, 206, rfl⟩
abbrev main_while0b_call3_call0_c_26 : Ref sig .tc := ⟨.hbm, 207, rfl⟩
abbrev main_while0b_call3_call0_v106 : Ref sig .tc := ⟨.hbm, 208, rfl⟩
abbrev main_while0b_call3_call0_v107 : Ref sig .tc := ⟨.hbm, 209, rfl⟩
abbrev main_while0b_call3_call0_v108 : Ref sig .tc := ⟨.hbm, 210, rfl⟩
abbrev main_while0b_call3_call0_c_27 : Ref sig .tc := ⟨.hbm, 211, rfl⟩
abbrev main_while0b_call3_call0_v109 : Ref sig .tc := ⟨.hbm, 212, rfl⟩
abbrev main_while0b_call3_call0_v110 : Ref sig .tc := ⟨.hbm, 213, rfl⟩
abbrev main_while0b_call3_call0_c_28 : Ref sig .tc := ⟨.hbm, 214, rfl⟩
abbrev main_while0b_call3_call0_v111 : Ref sig .tc := ⟨.hbm, 215, rfl⟩
abbrev main_while0b_call3_call0_v112 : Ref sig .tc := ⟨.hbm, 216, rfl⟩
abbrev main_while0b_call3_call0_v113 : Ref sig .tc := ⟨.hbm, 217, rfl⟩
abbrev main_while0b_call3_call0_v114 : Ref sig .tc := ⟨.hbm, 218, rfl⟩
abbrev main_while0b_call3_call0_v115 : Ref sig .tc := ⟨.hbm, 219, rfl⟩
abbrev main_while0b_call3_call0_c_29 : Ref sig .tc := ⟨.hbm, 220, rfl⟩
abbrev main_while0b_call3_call0_v116 : Ref sig .tc := ⟨.hbm, 221, rfl⟩
abbrev main_while0b_call3_call0_v117 : Ref sig .tc := ⟨.hbm, 222, rfl⟩
abbrev main_while0b_call3_call0_c_30 : Ref sig .tc := ⟨.hbm, 223, rfl⟩
abbrev main_while0b_call3_call0_v118 : Ref sig .tc := ⟨.hbm, 224, rfl⟩
abbrev main_while0b_call3_call0_v119 : Ref sig .tc := ⟨.hbm, 225, rfl⟩
abbrev main_while0b_call3_call0_v120 : Ref sig .tc := ⟨.hbm, 226, rfl⟩
abbrev main_while0b_call3_call0_v121 : Ref sig .tc := ⟨.hbm, 227, rfl⟩
abbrev main_while0b_call3_call0_v122 : Ref sig .tc := ⟨.hbm, 228, rfl⟩
abbrev main_while0b_call3_call0_c_31 : Ref sig .tc := ⟨.hbm, 229, rfl⟩
abbrev main_while0b_call3_call0_v123 : Ref sig .tc := ⟨.hbm, 230, rfl⟩
abbrev main_while0b_call3_call0_v124 : Ref sig .tc := ⟨.hbm, 231, rfl⟩
abbrev main_while0b_call3_call0_c_32 : Ref sig .tc := ⟨.hbm, 232, rfl⟩
abbrev main_while0b_call3_call0_v125 : Ref sig .tc := ⟨.hbm, 233, rfl⟩
abbrev main_while0b_call3_call0_v126 : Ref sig .tc := ⟨.hbm, 234, rfl⟩
abbrev main_while0b_call3_call0_v127 : Ref sig .tc := ⟨.hbm, 235, rfl⟩
abbrev main_while0b_call3_call0_v128 : Ref sig .tc := ⟨.hbm, 236, rfl⟩
abbrev main_while0b_call3_call0_v129 : Ref sig .tc := ⟨.hbm, 237, rfl⟩
abbrev main_while0b_call3_call0_c_33 : Ref sig .tc := ⟨.hbm, 238, rfl⟩
abbrev main_while0b_call3_call0_v130 : Ref sig .tc := ⟨.hbm, 239, rfl⟩
abbrev main_while0b_call3_call0_v131 : Ref sig .tc := ⟨.hbm, 240, rfl⟩
abbrev main_while0b_call3_call0_c_34 : Ref sig .tc := ⟨.hbm, 241, rfl⟩
abbrev main_while0b_call3_call0_v132 : Ref sig .tc := ⟨.hbm, 242, rfl⟩
abbrev main_while0b_call3_call0_v133 : Ref sig .tc := ⟨.hbm, 243, rfl⟩
abbrev main_while0b_call3_call0_v134 : Ref sig .tc := ⟨.hbm, 244, rfl⟩
abbrev main_while0b_call3_call0_v135 : Ref sig .tc := ⟨.hbm, 245, rfl⟩
abbrev main_while0b_call3_call0_v136 : Ref sig .tc := ⟨.hbm, 246, rfl⟩
abbrev main_while0b_call3_call0_v137 : Ref sig .tc := ⟨.hbm, 247, rfl⟩
abbrev main_while0b_call3_call0_v138 : Ref sig .tc := ⟨.hbm, 248, rfl⟩
abbrev main_while0b_call3_call0_v139 : Ref sig .tc := ⟨.hbm, 249, rfl⟩
abbrev main_while0b_call3_call0_c_35 : Ref sig .tc := ⟨.hbm, 250, rfl⟩
abbrev main_while0b_call3_call0_v140 : Ref sig .tc := ⟨.hbm, 251, rfl⟩
abbrev main_while0b_call3_call0_v141 : Ref sig .tc := ⟨.hbm, 252, rfl⟩
abbrev main_while0b_call3_call0_v142 : Ref sig .tc := ⟨.hbm, 253, rfl⟩
abbrev main_while0b_call3_call0_c_36 : Ref sig .tc := ⟨.hbm, 254, rfl⟩
abbrev main_while0b_call3_call0_v143 : Ref sig .tc := ⟨.hbm, 255, rfl⟩
abbrev main_while0b_call3_call0_v144 : Ref sig .tc := ⟨.hbm, 256, rfl⟩
abbrev main_while0b_call3_call0_c_37 : Ref sig .tc := ⟨.hbm, 257, rfl⟩
abbrev main_while0b_call3_call0_v145 : Ref sig .tc := ⟨.hbm, 258, rfl⟩
abbrev main_while0b_call3_call0_v146 : Ref sig .tc := ⟨.hbm, 259, rfl⟩
abbrev main_while0b_call3_call0_v147 : Ref sig .tc := ⟨.hbm, 260, rfl⟩
abbrev main_while0b_call3_call0_v148 : Ref sig .tc := ⟨.hbm, 261, rfl⟩
abbrev main_while0b_call3_call0_v149 : Ref sig .tc := ⟨.hbm, 262, rfl⟩
abbrev main_while0b_call3_call0_c_38 : Ref sig .tc := ⟨.hbm, 263, rfl⟩
abbrev main_while0b_call3_call0_v150 : Ref sig .tc := ⟨.hbm, 264, rfl⟩
abbrev main_while0b_call3_call0_v151 : Ref sig .tc := ⟨.hbm, 265, rfl⟩
abbrev main_while0b_call3_call0_c_39 : Ref sig .tc := ⟨.hbm, 266, rfl⟩
abbrev main_while0b_call3_call0_v152 : Ref sig .tc := ⟨.hbm, 267, rfl⟩
abbrev main_while0b_call3_call0_v153 : Ref sig .tc := ⟨.hbm, 268, rfl⟩
abbrev main_while0b_call3_call0_v154 : Ref sig .tc := ⟨.hbm, 269, rfl⟩
abbrev main_while0b_call3_call0_v155 : Ref sig .tc := ⟨.hbm, 270, rfl⟩
abbrev main_while0b_call3_call0_v156 : Ref sig .tc := ⟨.hbm, 271, rfl⟩
abbrev main_while0b_call3_call0_c_40 : Ref sig .tc := ⟨.hbm, 272, rfl⟩
abbrev main_while0b_call3_call0_v157 : Ref sig .tc := ⟨.hbm, 273, rfl⟩
abbrev main_while0b_call3_call0_v158 : Ref sig .tc := ⟨.hbm, 274, rfl⟩
abbrev main_while0b_call3_call0_c_41 : Ref sig .tc := ⟨.hbm, 275, rfl⟩
abbrev main_while0b_call3_call0_v159 : Ref sig .tc := ⟨.hbm, 276, rfl⟩
abbrev main_while0b_call3_call0_v160 : Ref sig .tc := ⟨.hbm, 277, rfl⟩
abbrev main_while0b_call3_call0_v161 : Ref sig .tc := ⟨.hbm, 278, rfl⟩
abbrev main_while0b_call3_call0_v162 : Ref sig .tc := ⟨.hbm, 279, rfl⟩
abbrev main_while0b_call3_call0_v163 : Ref sig .tc := ⟨.hbm, 280, rfl⟩
abbrev main_while0b_call3_call0_c_42 : Ref sig .tc := ⟨.hbm, 281, rfl⟩
abbrev main_while0b_call3_call0_v164 : Ref sig .tc := ⟨.hbm, 282, rfl⟩
abbrev main_while0b_call3_call0_v165 : Ref sig .tc := ⟨.hbm, 283, rfl⟩
abbrev main_while0b_call3_call0_c_43 : Ref sig .tc := ⟨.hbm, 284, rfl⟩
abbrev main_while0b_call3_call0_v166 : Ref sig .tc := ⟨.hbm, 285, rfl⟩
abbrev main_while0b_call3_call0_v167 : Ref sig .tc := ⟨.hbm, 286, rfl⟩
abbrev main_while0b_call3_call0_v168 : Ref sig .tc := ⟨.hbm, 287, rfl⟩
abbrev main_while0b_call3_call0_v169 : Ref sig .tc := ⟨.hbm, 288, rfl⟩
abbrev main_while0b_call3_call0_v170 : Ref sig .tc := ⟨.hbm, 289, rfl⟩
abbrev main_while0b_call3_v11_0 : Ref sig .tc := ⟨.hbm, 290, rfl⟩
abbrev main_while0b_call3_call0_v172 : Ref sig .tc := ⟨.hbm, 291, rfl⟩
abbrev main_while0b_call3_call0_v173 : Ref sig .tc := ⟨.hbm, 292, rfl⟩
abbrev main_while0b_call3_call0_c_44 : Ref sig .tc := ⟨.hbm, 293, rfl⟩
abbrev main_while0b_call3_call0_v174 : Ref sig .tc := ⟨.hbm, 294, rfl⟩
abbrev main_while0b_call3_v11_1 : Ref sig .tc := ⟨.hbm, 295, rfl⟩
abbrev main_while0b_v29 : Ref sig .tc := ⟨.hbm, 296, rfl⟩
abbrev main_while0b_cst_10 : Ref sig .tc := ⟨.hbm, 297, rfl⟩
abbrev main_while0b_cst_11 : Ref sig .tc := ⟨.hbm, 298, rfl⟩
abbrev main_while0b_call4_v0 : Ref sig .tc := ⟨.hbm, 299, rfl⟩
abbrev main_while0b_call4_v1 : Ref sig .tc := ⟨.hbm, 300, rfl⟩
abbrev main_while0b_call4_v2 : Ref sig .tc := ⟨.hbm, 301, rfl⟩
abbrev main_while0b_call4_v3 : Ref sig .tc := ⟨.hbm, 302, rfl⟩
abbrev main_while0b_call4_v4 : Ref sig .tc := ⟨.hbm, 303, rfl⟩
abbrev main_while0b_call4_v5 : Ref sig .tc := ⟨.hbm, 304, rfl⟩
abbrev main_while0b_call4_v6 : Ref sig .tc := ⟨.hbm, 305, rfl⟩
abbrev main_while0b_call4_v7 : Ref sig .tc := ⟨.hbm, 306, rfl⟩
abbrev main_while0b_call4_v8 : Ref sig .tc := ⟨.hbm, 307, rfl⟩
abbrev main_while0b_call4_v9 : Ref sig .tc := ⟨.hbm, 308, rfl⟩
abbrev main_while0b_call4_v10 : Ref sig .tc := ⟨.hbm, 309, rfl⟩
abbrev main_while0b_call4_c : Ref sig .tc := ⟨.hbm, 310, rfl⟩
abbrev main_while0b_call4_v11 : Ref sig .tc := ⟨.hbm, 311, rfl⟩
abbrev main_while0b_call4_v12 : Ref sig .tc := ⟨.hbm, 312, rfl⟩
abbrev main_while0b_call4_c_0 : Ref sig .tc := ⟨.hbm, 313, rfl⟩
abbrev main_while0b_call4_v13 : Ref sig .tc := ⟨.hbm, 314, rfl⟩
abbrev main_while0b_call4_v14 : Ref sig .tc := ⟨.hbm, 315, rfl⟩
abbrev main_while0b_call4_c_1 : Ref sig .tc := ⟨.hbm, 316, rfl⟩
abbrev main_while0b_call4_v15 : Ref sig .tc := ⟨.hbm, 317, rfl⟩
abbrev main_while0b_call4_v16 : Ref sig .tc := ⟨.hbm, 318, rfl⟩
abbrev main_while0b_call4_v17 : Ref sig .tc := ⟨.hbm, 319, rfl⟩
abbrev main_while0b_call4_v18 : Ref sig .tc := ⟨.hbm, 320, rfl⟩
abbrev main_while0b_call4_c_2 : Ref sig .tc := ⟨.hbm, 321, rfl⟩
abbrev main_while0b_call4_v19 : Ref sig .tc := ⟨.hbm, 322, rfl⟩
abbrev main_while0b_call4_v20 : Ref sig .tc := ⟨.hbm, 323, rfl⟩
abbrev main_while0b_call4_v21 : Ref sig .tc := ⟨.hbm, 324, rfl⟩
abbrev main_while0b_call4_v22 : Ref sig .tc := ⟨.hbm, 325, rfl⟩
abbrev main_while0b_call4_call0_v0 : Ref sig .tc := ⟨.hbm, 326, rfl⟩
abbrev main_while0b_call4_call0_c : Ref sig .tc := ⟨.hbm, 327, rfl⟩
abbrev main_while0b_call4_call0_v1 : Ref sig .tc := ⟨.hbm, 328, rfl⟩
abbrev main_while0b_call4_call0_v2 : Ref sig .tc := ⟨.hbm, 329, rfl⟩
abbrev main_while0b_call4_call0_v3 : Ref sig .tc := ⟨.hbm, 330, rfl⟩
abbrev main_while0b_call4_call0_v4 : Ref sig .tc := ⟨.hbm, 331, rfl⟩
abbrev main_while0b_call4_call0_v5 : Ref sig .tc := ⟨.hbm, 332, rfl⟩
abbrev main_while0b_call4_call0_v6 : Ref sig .tc := ⟨.hbm, 333, rfl⟩
abbrev main_while0b_call4_call0_c_0 : Ref sig .tc := ⟨.hbm, 334, rfl⟩
abbrev main_while0b_call4_call0_v7 : Ref sig .tc := ⟨.hbm, 335, rfl⟩
abbrev main_while0b_call4_call0_v8 : Ref sig .tc := ⟨.hbm, 336, rfl⟩
abbrev main_while0b_call4_call0_c_1 : Ref sig .tc := ⟨.hbm, 337, rfl⟩
abbrev main_while0b_call4_call0_v9 : Ref sig .tc := ⟨.hbm, 338, rfl⟩
abbrev main_while0b_call4_call0_v10 : Ref sig .tc := ⟨.hbm, 339, rfl⟩
abbrev main_while0b_call4_call0_v11 : Ref sig .tc := ⟨.hbm, 340, rfl⟩
abbrev main_while0b_call4_call0_v12 : Ref sig .tc := ⟨.hbm, 341, rfl⟩
abbrev main_while0b_call4_call0_v13 : Ref sig .tc := ⟨.hbm, 342, rfl⟩
abbrev main_while0b_call4_call0_c_2 : Ref sig .tc := ⟨.hbm, 343, rfl⟩
abbrev main_while0b_call4_call0_v14 : Ref sig .tc := ⟨.hbm, 344, rfl⟩
abbrev main_while0b_call4_call0_v15 : Ref sig .tc := ⟨.hbm, 345, rfl⟩
abbrev main_while0b_call4_call0_c_3 : Ref sig .tc := ⟨.hbm, 346, rfl⟩
abbrev main_while0b_call4_call0_v16 : Ref sig .tc := ⟨.hbm, 347, rfl⟩
abbrev main_while0b_call4_call0_v17 : Ref sig .tc := ⟨.hbm, 348, rfl⟩
abbrev main_while0b_call4_call0_v18 : Ref sig .tc := ⟨.hbm, 349, rfl⟩
abbrev main_while0b_call4_call0_v19 : Ref sig .tc := ⟨.hbm, 350, rfl⟩
abbrev main_while0b_call4_call0_v20 : Ref sig .tc := ⟨.hbm, 351, rfl⟩
abbrev main_while0b_call4_call0_c_4 : Ref sig .tc := ⟨.hbm, 352, rfl⟩
abbrev main_while0b_call4_call0_v21 : Ref sig .tc := ⟨.hbm, 353, rfl⟩
abbrev main_while0b_call4_call0_v22 : Ref sig .tc := ⟨.hbm, 354, rfl⟩
abbrev main_while0b_call4_call0_c_5 : Ref sig .tc := ⟨.hbm, 355, rfl⟩
abbrev main_while0b_call4_call0_v23 : Ref sig .tc := ⟨.hbm, 356, rfl⟩
abbrev main_while0b_call4_call0_v24 : Ref sig .tc := ⟨.hbm, 357, rfl⟩
abbrev main_while0b_call4_call0_v25 : Ref sig .tc := ⟨.hbm, 358, rfl⟩
abbrev main_while0b_call4_call0_v26 : Ref sig .tc := ⟨.hbm, 359, rfl⟩
abbrev main_while0b_call4_call0_v27 : Ref sig .tc := ⟨.hbm, 360, rfl⟩
abbrev main_while0b_call4_call0_c_6 : Ref sig .tc := ⟨.hbm, 361, rfl⟩
abbrev main_while0b_call4_call0_v28 : Ref sig .tc := ⟨.hbm, 362, rfl⟩
abbrev main_while0b_call4_call0_v29 : Ref sig .tc := ⟨.hbm, 363, rfl⟩
abbrev main_while0b_call4_call0_c_7 : Ref sig .tc := ⟨.hbm, 364, rfl⟩
abbrev main_while0b_call4_call0_v30 : Ref sig .tc := ⟨.hbm, 365, rfl⟩
abbrev main_while0b_call4_call0_v31 : Ref sig .tc := ⟨.hbm, 366, rfl⟩
abbrev main_while0b_call4_call0_v32 : Ref sig .tc := ⟨.hbm, 367, rfl⟩
abbrev main_while0b_call4_call0_v33 : Ref sig .tc := ⟨.hbm, 368, rfl⟩
abbrev main_while0b_call4_call0_v34 : Ref sig .tc := ⟨.hbm, 369, rfl⟩
abbrev main_while0b_call4_call0_v35 : Ref sig .tc := ⟨.hbm, 370, rfl⟩
abbrev main_while0b_call4_call0_v36 : Ref sig .tc := ⟨.hbm, 371, rfl⟩
abbrev main_while0b_call4_call0_v37 : Ref sig .tc := ⟨.hbm, 372, rfl⟩
abbrev main_while0b_call4_call0_c_8 : Ref sig .tc := ⟨.hbm, 373, rfl⟩
abbrev main_while0b_call4_call0_v38 : Ref sig .tc := ⟨.hbm, 374, rfl⟩
abbrev main_while0b_call4_call0_v39 : Ref sig .tc := ⟨.hbm, 375, rfl⟩
abbrev main_while0b_call4_call0_v40 : Ref sig .tc := ⟨.hbm, 376, rfl⟩
abbrev main_while0b_call4_call0_c_9 : Ref sig .tc := ⟨.hbm, 377, rfl⟩
abbrev main_while0b_call4_call0_v41 : Ref sig .tc := ⟨.hbm, 378, rfl⟩
abbrev main_while0b_call4_call0_v42 : Ref sig .tc := ⟨.hbm, 379, rfl⟩
abbrev main_while0b_call4_call0_c_10 : Ref sig .tc := ⟨.hbm, 380, rfl⟩
abbrev main_while0b_call4_call0_v43 : Ref sig .tc := ⟨.hbm, 381, rfl⟩
abbrev main_while0b_call4_call0_v44 : Ref sig .tc := ⟨.hbm, 382, rfl⟩
abbrev main_while0b_call4_call0_v45 : Ref sig .tc := ⟨.hbm, 383, rfl⟩
abbrev main_while0b_call4_call0_v46 : Ref sig .tc := ⟨.hbm, 384, rfl⟩
abbrev main_while0b_call4_call0_v47 : Ref sig .tc := ⟨.hbm, 385, rfl⟩
abbrev main_while0b_call4_call0_c_11 : Ref sig .tc := ⟨.hbm, 386, rfl⟩
abbrev main_while0b_call4_call0_v48 : Ref sig .tc := ⟨.hbm, 387, rfl⟩
abbrev main_while0b_call4_call0_v49 : Ref sig .tc := ⟨.hbm, 388, rfl⟩
abbrev main_while0b_call4_call0_c_12 : Ref sig .tc := ⟨.hbm, 389, rfl⟩
abbrev main_while0b_call4_call0_v50 : Ref sig .tc := ⟨.hbm, 390, rfl⟩
abbrev main_while0b_call4_call0_v51 : Ref sig .tc := ⟨.hbm, 391, rfl⟩
abbrev main_while0b_call4_call0_v52 : Ref sig .tc := ⟨.hbm, 392, rfl⟩
abbrev main_while0b_call4_call0_v53 : Ref sig .tc := ⟨.hbm, 393, rfl⟩
abbrev main_while0b_call4_call0_v54 : Ref sig .tc := ⟨.hbm, 394, rfl⟩
abbrev main_while0b_call4_call0_c_13 : Ref sig .tc := ⟨.hbm, 395, rfl⟩
abbrev main_while0b_call4_call0_v55 : Ref sig .tc := ⟨.hbm, 396, rfl⟩
abbrev main_while0b_call4_call0_v56 : Ref sig .tc := ⟨.hbm, 397, rfl⟩
abbrev main_while0b_call4_call0_c_14 : Ref sig .tc := ⟨.hbm, 398, rfl⟩
abbrev main_while0b_call4_call0_v57 : Ref sig .tc := ⟨.hbm, 399, rfl⟩
abbrev main_while0b_call4_call0_v58 : Ref sig .tc := ⟨.hbm, 400, rfl⟩
abbrev main_while0b_call4_call0_v59 : Ref sig .tc := ⟨.hbm, 401, rfl⟩
abbrev main_while0b_call4_call0_v60 : Ref sig .tc := ⟨.hbm, 402, rfl⟩
abbrev main_while0b_call4_call0_v61 : Ref sig .tc := ⟨.hbm, 403, rfl⟩
abbrev main_while0b_call4_call0_c_15 : Ref sig .tc := ⟨.hbm, 404, rfl⟩
abbrev main_while0b_call4_call0_v62 : Ref sig .tc := ⟨.hbm, 405, rfl⟩
abbrev main_while0b_call4_call0_v63 : Ref sig .tc := ⟨.hbm, 406, rfl⟩
abbrev main_while0b_call4_call0_c_16 : Ref sig .tc := ⟨.hbm, 407, rfl⟩
abbrev main_while0b_call4_call0_v64 : Ref sig .tc := ⟨.hbm, 408, rfl⟩
abbrev main_while0b_call4_call0_v65 : Ref sig .tc := ⟨.hbm, 409, rfl⟩
abbrev main_while0b_call4_call0_v66 : Ref sig .tc := ⟨.hbm, 410, rfl⟩
abbrev main_while0b_call4_call0_v67 : Ref sig .tc := ⟨.hbm, 411, rfl⟩
abbrev main_while0b_call4_call0_v68 : Ref sig .tc := ⟨.hbm, 412, rfl⟩
abbrev main_while0b_call4_call0_v69 : Ref sig .tc := ⟨.hbm, 413, rfl⟩
abbrev main_while0b_call4_call0_v70 : Ref sig .tc := ⟨.hbm, 414, rfl⟩
abbrev main_while0b_call4_call0_v71 : Ref sig .tc := ⟨.hbm, 415, rfl⟩
abbrev main_while0b_call4_call0_c_17 : Ref sig .tc := ⟨.hbm, 416, rfl⟩
abbrev main_while0b_call4_call0_v72 : Ref sig .tc := ⟨.hbm, 417, rfl⟩
abbrev main_while0b_call4_call0_v73 : Ref sig .tc := ⟨.hbm, 418, rfl⟩
abbrev main_while0b_call4_call0_v74 : Ref sig .tc := ⟨.hbm, 419, rfl⟩
abbrev main_while0b_call4_call0_c_18 : Ref sig .tc := ⟨.hbm, 420, rfl⟩
abbrev main_while0b_call4_call0_v75 : Ref sig .tc := ⟨.hbm, 421, rfl⟩
abbrev main_while0b_call4_call0_v76 : Ref sig .tc := ⟨.hbm, 422, rfl⟩
abbrev main_while0b_call4_call0_c_19 : Ref sig .tc := ⟨.hbm, 423, rfl⟩
abbrev main_while0b_call4_call0_v77 : Ref sig .tc := ⟨.hbm, 424, rfl⟩
abbrev main_while0b_call4_call0_v78 : Ref sig .tc := ⟨.hbm, 425, rfl⟩
abbrev main_while0b_call4_call0_v79 : Ref sig .tc := ⟨.hbm, 426, rfl⟩
abbrev main_while0b_call4_call0_v80 : Ref sig .tc := ⟨.hbm, 427, rfl⟩
abbrev main_while0b_call4_call0_v81 : Ref sig .tc := ⟨.hbm, 428, rfl⟩
abbrev main_while0b_call4_call0_c_20 : Ref sig .tc := ⟨.hbm, 429, rfl⟩
abbrev main_while0b_call4_call0_v82 : Ref sig .tc := ⟨.hbm, 430, rfl⟩
abbrev main_while0b_call4_call0_v83 : Ref sig .tc := ⟨.hbm, 431, rfl⟩
abbrev main_while0b_call4_call0_c_21 : Ref sig .tc := ⟨.hbm, 432, rfl⟩
abbrev main_while0b_call4_call0_v84 : Ref sig .tc := ⟨.hbm, 433, rfl⟩
abbrev main_while0b_call4_call0_v85 : Ref sig .tc := ⟨.hbm, 434, rfl⟩
abbrev main_while0b_call4_call0_v86 : Ref sig .tc := ⟨.hbm, 435, rfl⟩
abbrev main_while0b_call4_call0_v87 : Ref sig .tc := ⟨.hbm, 436, rfl⟩
abbrev main_while0b_call4_call0_v88 : Ref sig .tc := ⟨.hbm, 437, rfl⟩
abbrev main_while0b_call4_call0_c_22 : Ref sig .tc := ⟨.hbm, 438, rfl⟩
abbrev main_while0b_call4_call0_v89 : Ref sig .tc := ⟨.hbm, 439, rfl⟩
abbrev main_while0b_call4_call0_v90 : Ref sig .tc := ⟨.hbm, 440, rfl⟩
abbrev main_while0b_call4_call0_c_23 : Ref sig .tc := ⟨.hbm, 441, rfl⟩
abbrev main_while0b_call4_call0_v91 : Ref sig .tc := ⟨.hbm, 442, rfl⟩
abbrev main_while0b_call4_call0_v92 : Ref sig .tc := ⟨.hbm, 443, rfl⟩
abbrev main_while0b_call4_call0_v93 : Ref sig .tc := ⟨.hbm, 444, rfl⟩
abbrev main_while0b_call4_call0_v94 : Ref sig .tc := ⟨.hbm, 445, rfl⟩
abbrev main_while0b_call4_call0_v95 : Ref sig .tc := ⟨.hbm, 446, rfl⟩
abbrev main_while0b_call4_call0_c_24 : Ref sig .tc := ⟨.hbm, 447, rfl⟩
abbrev main_while0b_call4_call0_v96 : Ref sig .tc := ⟨.hbm, 448, rfl⟩
abbrev main_while0b_call4_call0_v97 : Ref sig .tc := ⟨.hbm, 449, rfl⟩
abbrev main_while0b_call4_call0_c_25 : Ref sig .tc := ⟨.hbm, 450, rfl⟩
abbrev main_while0b_call4_call0_v98 : Ref sig .tc := ⟨.hbm, 451, rfl⟩
abbrev main_while0b_call4_call0_v99 : Ref sig .tc := ⟨.hbm, 452, rfl⟩
abbrev main_while0b_call4_call0_v100 : Ref sig .tc := ⟨.hbm, 453, rfl⟩
abbrev main_while0b_call4_call0_v101 : Ref sig .tc := ⟨.hbm, 454, rfl⟩
abbrev main_while0b_call4_call0_v102 : Ref sig .tc := ⟨.hbm, 455, rfl⟩
abbrev main_while0b_call4_call0_v103 : Ref sig .tc := ⟨.hbm, 456, rfl⟩
abbrev main_while0b_call4_call0_v104 : Ref sig .tc := ⟨.hbm, 457, rfl⟩
abbrev main_while0b_call4_call0_v105 : Ref sig .tc := ⟨.hbm, 458, rfl⟩
abbrev main_while0b_call4_call0_c_26 : Ref sig .tc := ⟨.hbm, 459, rfl⟩
abbrev main_while0b_call4_call0_v106 : Ref sig .tc := ⟨.hbm, 460, rfl⟩
abbrev main_while0b_call4_call0_v107 : Ref sig .tc := ⟨.hbm, 461, rfl⟩
abbrev main_while0b_call4_call0_v108 : Ref sig .tc := ⟨.hbm, 462, rfl⟩
abbrev main_while0b_call4_call0_c_27 : Ref sig .tc := ⟨.hbm, 463, rfl⟩
abbrev main_while0b_call4_call0_v109 : Ref sig .tc := ⟨.hbm, 464, rfl⟩
abbrev main_while0b_call4_call0_v110 : Ref sig .tc := ⟨.hbm, 465, rfl⟩
abbrev main_while0b_call4_call0_c_28 : Ref sig .tc := ⟨.hbm, 466, rfl⟩
abbrev main_while0b_call4_call0_v111 : Ref sig .tc := ⟨.hbm, 467, rfl⟩
abbrev main_while0b_call4_call0_v112 : Ref sig .tc := ⟨.hbm, 468, rfl⟩
abbrev main_while0b_call4_call0_v113 : Ref sig .tc := ⟨.hbm, 469, rfl⟩
abbrev main_while0b_call4_call0_v114 : Ref sig .tc := ⟨.hbm, 470, rfl⟩
abbrev main_while0b_call4_call0_v115 : Ref sig .tc := ⟨.hbm, 471, rfl⟩
abbrev main_while0b_call4_call0_c_29 : Ref sig .tc := ⟨.hbm, 472, rfl⟩
abbrev main_while0b_call4_call0_v116 : Ref sig .tc := ⟨.hbm, 473, rfl⟩
abbrev main_while0b_call4_call0_v117 : Ref sig .tc := ⟨.hbm, 474, rfl⟩
abbrev main_while0b_call4_call0_c_30 : Ref sig .tc := ⟨.hbm, 475, rfl⟩
abbrev main_while0b_call4_call0_v118 : Ref sig .tc := ⟨.hbm, 476, rfl⟩
abbrev main_while0b_call4_call0_v119 : Ref sig .tc := ⟨.hbm, 477, rfl⟩
abbrev main_while0b_call4_call0_v120 : Ref sig .tc := ⟨.hbm, 478, rfl⟩
abbrev main_while0b_call4_call0_v121 : Ref sig .tc := ⟨.hbm, 479, rfl⟩
abbrev main_while0b_call4_call0_v122 : Ref sig .tc := ⟨.hbm, 480, rfl⟩
abbrev main_while0b_call4_call0_c_31 : Ref sig .tc := ⟨.hbm, 481, rfl⟩
abbrev main_while0b_call4_call0_v123 : Ref sig .tc := ⟨.hbm, 482, rfl⟩
abbrev main_while0b_call4_call0_v124 : Ref sig .tc := ⟨.hbm, 483, rfl⟩
abbrev main_while0b_call4_call0_c_32 : Ref sig .tc := ⟨.hbm, 484, rfl⟩
abbrev main_while0b_call4_call0_v125 : Ref sig .tc := ⟨.hbm, 485, rfl⟩
abbrev main_while0b_call4_call0_v126 : Ref sig .tc := ⟨.hbm, 486, rfl⟩
abbrev main_while0b_call4_call0_v127 : Ref sig .tc := ⟨.hbm, 487, rfl⟩
abbrev main_while0b_call4_call0_v128 : Ref sig .tc := ⟨.hbm, 488, rfl⟩
abbrev main_while0b_call4_call0_v129 : Ref sig .tc := ⟨.hbm, 489, rfl⟩
abbrev main_while0b_call4_call0_c_33 : Ref sig .tc := ⟨.hbm, 490, rfl⟩
abbrev main_while0b_call4_call0_v130 : Ref sig .tc := ⟨.hbm, 491, rfl⟩
abbrev main_while0b_call4_call0_v131 : Ref sig .tc := ⟨.hbm, 492, rfl⟩
abbrev main_while0b_call4_call0_c_34 : Ref sig .tc := ⟨.hbm, 493, rfl⟩
abbrev main_while0b_call4_call0_v132 : Ref sig .tc := ⟨.hbm, 494, rfl⟩
abbrev main_while0b_call4_call0_v133 : Ref sig .tc := ⟨.hbm, 495, rfl⟩
abbrev main_while0b_call4_call0_v134 : Ref sig .tc := ⟨.hbm, 496, rfl⟩
abbrev main_while0b_call4_call0_v135 : Ref sig .tc := ⟨.hbm, 497, rfl⟩
abbrev main_while0b_call4_call0_v136 : Ref sig .tc := ⟨.hbm, 498, rfl⟩
abbrev main_while0b_call4_call0_v137 : Ref sig .tc := ⟨.hbm, 499, rfl⟩
abbrev main_while0b_call4_call0_v138 : Ref sig .tc := ⟨.hbm, 500, rfl⟩
abbrev main_while0b_call4_call0_v139 : Ref sig .tc := ⟨.hbm, 501, rfl⟩
abbrev main_while0b_call4_call0_c_35 : Ref sig .tc := ⟨.hbm, 502, rfl⟩
abbrev main_while0b_call4_call0_v140 : Ref sig .tc := ⟨.hbm, 503, rfl⟩
abbrev main_while0b_call4_call0_v141 : Ref sig .tc := ⟨.hbm, 504, rfl⟩
abbrev main_while0b_call4_call0_v142 : Ref sig .tc := ⟨.hbm, 505, rfl⟩
abbrev main_while0b_call4_call0_c_36 : Ref sig .tc := ⟨.hbm, 506, rfl⟩
abbrev main_while0b_call4_call0_v143 : Ref sig .tc := ⟨.hbm, 507, rfl⟩
abbrev main_while0b_call4_call0_v144 : Ref sig .tc := ⟨.hbm, 508, rfl⟩
abbrev main_while0b_call4_call0_c_37 : Ref sig .tc := ⟨.hbm, 509, rfl⟩
abbrev main_while0b_call4_call0_v145 : Ref sig .tc := ⟨.hbm, 510, rfl⟩
abbrev main_while0b_call4_call0_v146 : Ref sig .tc := ⟨.hbm, 511, rfl⟩
abbrev main_while0b_call4_call0_v147 : Ref sig .tc := ⟨.hbm, 512, rfl⟩
abbrev main_while0b_call4_call0_v148 : Ref sig .tc := ⟨.hbm, 513, rfl⟩
abbrev main_while0b_call4_call0_v149 : Ref sig .tc := ⟨.hbm, 514, rfl⟩
abbrev main_while0b_call4_call0_c_38 : Ref sig .tc := ⟨.hbm, 515, rfl⟩
abbrev main_while0b_call4_call0_v150 : Ref sig .tc := ⟨.hbm, 516, rfl⟩
abbrev main_while0b_call4_call0_v151 : Ref sig .tc := ⟨.hbm, 517, rfl⟩
abbrev main_while0b_call4_call0_c_39 : Ref sig .tc := ⟨.hbm, 518, rfl⟩
abbrev main_while0b_call4_call0_v152 : Ref sig .tc := ⟨.hbm, 519, rfl⟩
abbrev main_while0b_call4_call0_v153 : Ref sig .tc := ⟨.hbm, 520, rfl⟩
abbrev main_while0b_call4_call0_v154 : Ref sig .tc := ⟨.hbm, 521, rfl⟩
abbrev main_while0b_call4_call0_v155 : Ref sig .tc := ⟨.hbm, 522, rfl⟩
abbrev main_while0b_call4_call0_v156 : Ref sig .tc := ⟨.hbm, 523, rfl⟩
abbrev main_while0b_call4_call0_c_40 : Ref sig .tc := ⟨.hbm, 524, rfl⟩
abbrev main_while0b_call4_call0_v157 : Ref sig .tc := ⟨.hbm, 525, rfl⟩
abbrev main_while0b_call4_call0_v158 : Ref sig .tc := ⟨.hbm, 526, rfl⟩
abbrev main_while0b_call4_call0_c_41 : Ref sig .tc := ⟨.hbm, 527, rfl⟩
abbrev main_while0b_call4_call0_v159 : Ref sig .tc := ⟨.hbm, 528, rfl⟩
abbrev main_while0b_call4_call0_v160 : Ref sig .tc := ⟨.hbm, 529, rfl⟩
abbrev main_while0b_call4_call0_v161 : Ref sig .tc := ⟨.hbm, 530, rfl⟩
abbrev main_while0b_call4_call0_v162 : Ref sig .tc := ⟨.hbm, 531, rfl⟩
abbrev main_while0b_call4_call0_v163 : Ref sig .tc := ⟨.hbm, 532, rfl⟩
abbrev main_while0b_call4_call0_c_42 : Ref sig .tc := ⟨.hbm, 533, rfl⟩
abbrev main_while0b_call4_call0_v164 : Ref sig .tc := ⟨.hbm, 534, rfl⟩
abbrev main_while0b_call4_call0_v165 : Ref sig .tc := ⟨.hbm, 535, rfl⟩
abbrev main_while0b_call4_call0_c_43 : Ref sig .tc := ⟨.hbm, 536, rfl⟩
abbrev main_while0b_call4_call0_v166 : Ref sig .tc := ⟨.hbm, 537, rfl⟩
abbrev main_while0b_call4_call0_v167 : Ref sig .tc := ⟨.hbm, 538, rfl⟩
abbrev main_while0b_call4_call0_v168 : Ref sig .tc := ⟨.hbm, 539, rfl⟩
abbrev main_while0b_call4_call0_v169 : Ref sig .tc := ⟨.hbm, 540, rfl⟩
abbrev main_while0b_call4_call0_v170 : Ref sig .tc := ⟨.hbm, 541, rfl⟩
abbrev main_while0b_call4_v23_0 : Ref sig .tc := ⟨.hbm, 542, rfl⟩
abbrev main_while0b_call4_call0_v172 : Ref sig .tc := ⟨.hbm, 543, rfl⟩
abbrev main_while0b_call4_call0_v173 : Ref sig .tc := ⟨.hbm, 544, rfl⟩
abbrev main_while0b_call4_call0_c_44 : Ref sig .tc := ⟨.hbm, 545, rfl⟩
abbrev main_while0b_call4_call0_v174 : Ref sig .tc := ⟨.hbm, 546, rfl⟩
abbrev main_while0b_call4_v23_1 : Ref sig .tc := ⟨.hbm, 547, rfl⟩
abbrev main_while0b_call4_v24 : Ref sig .tc := ⟨.hbm, 548, rfl⟩
abbrev main_while0b_call4_c_3 : Ref sig .tc := ⟨.hbm, 549, rfl⟩
abbrev main_while0b_call4_v25 : Ref sig .tc := ⟨.hbm, 550, rfl⟩
abbrev main_while0b_call4_v26 : Ref sig .tc := ⟨.hbm, 551, rfl⟩
abbrev main_while0b_call4_c_4 : Ref sig .tc := ⟨.hbm, 552, rfl⟩
abbrev main_while0b_call4_v27 : Ref sig .tc := ⟨.hbm, 553, rfl⟩
abbrev main_while0b_call4_v28 : Ref sig .tc := ⟨.hbm, 554, rfl⟩
abbrev main_while0b_call4_v29 : Ref sig .tc := ⟨.hbm, 555, rfl⟩
abbrev main_while0b_call4_cst : Ref sig .tc := ⟨.hbm, 556, rfl⟩
abbrev main_while0b_call4_v30 : Ref sig .tc := ⟨.hbm, 557, rfl⟩
abbrev main_while0b_call4_v31 : Ref sig .tc := ⟨.hbm, 558, rfl⟩
abbrev main_while0b_call4_v32 : Ref sig .tc := ⟨.hbm, 559, rfl⟩
abbrev main_while0b_call4_v33 : Ref sig .tc := ⟨.hbm, 560, rfl⟩
abbrev main_while0b_call4_v34 : Ref sig .tc := ⟨.hbm, 561, rfl⟩
abbrev main_while0b_call4_v35 : Ref sig .tc := ⟨.hbm, 562, rfl⟩
abbrev main_while0b_call4_v36 : Ref sig .tc := ⟨.hbm, 563, rfl⟩
abbrev main_while0b_call4_v37 : Ref sig .tc := ⟨.hbm, 564, rfl⟩
abbrev main_while0b_v30 : Ref sig .tc := ⟨.hbm, 565, rfl⟩
abbrev main_while0b_cst_12 : Ref sig .tc := ⟨.hbm, 566, rfl⟩
abbrev main_while0b_v31 : Ref sig .tc := ⟨.hbm, 567, rfl⟩
abbrev main_while0b_v32 : Ref sig .tc := ⟨.hbm, 568, rfl⟩
abbrev main_while0b_cst_13 : Ref sig .tc := ⟨.hbm, 569, rfl⟩
abbrev main_while0b_v33 : Ref sig .tc := ⟨.hbm, 570, rfl⟩
abbrev main_while0b_v34 : Ref sig .tc := ⟨.hbm, 571, rfl⟩
abbrev main_while0b_cst_14 : Ref sig .tc := ⟨.hbm, 572, rfl⟩
abbrev main_while0b_v35 : Ref sig .tc := ⟨.hbm, 573, rfl⟩
abbrev main_while0b_v36 : Ref sig .tc := ⟨.hbm, 574, rfl⟩
abbrev main_while0b_v37 : Ref sig .tc := ⟨.hbm, 575, rfl⟩
abbrev main_while0b_v38 : Ref sig .tc := ⟨.hbm, 576, rfl⟩
abbrev main_while0b_v39 : Ref sig .tc := ⟨.hbm, 577, rfl⟩
abbrev main_while0b_v40 : Ref sig .tc := ⟨.hbm, 578, rfl⟩
abbrev main_while0b_v41 : Ref sig .tc := ⟨.hbm, 579, rfl⟩
abbrev main_while0b_cst_15 : Ref sig .tc := ⟨.hbm, 580, rfl⟩
abbrev main_while0b_v42 : Ref sig .tc := ⟨.hbm, 581, rfl⟩
abbrev main_while0b_v43 : Ref sig .tc := ⟨.hbm, 582, rfl⟩
abbrev main_while0b_cst_16 : Ref sig .tc := ⟨.hbm, 583, rfl⟩
abbrev main_while0b_v44 : Ref sig .tc := ⟨.hbm, 584, rfl⟩
abbrev main_while0b_cst_17 : Ref sig .tc := ⟨.hbm, 585, rfl⟩
abbrev main_while0b_v45 : Ref sig .tc := ⟨.hbm, 586, rfl⟩
abbrev main_while0b_v46 : Ref sig .tc := ⟨.hbm, 587, rfl⟩
abbrev main_while0b_v47 : Ref sig .tc := ⟨.hbm, 588, rfl⟩
abbrev main_while0b_v48 : Ref sig .tc := ⟨.hbm, 589, rfl⟩
abbrev main_while0b_v49 : Ref sig .tc := ⟨.hbm, 590, rfl⟩
abbrev main_while0b_v50 : Ref sig .tc := ⟨.hbm, 591, rfl⟩
abbrev main_while0b_cst_18 : Ref sig .tc := ⟨.hbm, 592, rfl⟩
abbrev main_while0b_v51 : Ref sig .tc := ⟨.hbm, 593, rfl⟩
abbrev main_while0b_v52 : Ref sig .tc := ⟨.hbm, 594, rfl⟩
abbrev main_while0b_v53 : Ref sig .tc := ⟨.hbm, 595, rfl⟩
abbrev main_while0b_v54 : Ref sig .tc := ⟨.hbm, 596, rfl⟩
abbrev main_while0b_call5_v0 : Ref sig .tc := ⟨.hbm, 597, rfl⟩
abbrev main_while0b_call5_cst : Ref sig .tc := ⟨.hbm, 598, rfl⟩
abbrev main_while0b_call5_c : Ref sig .tc := ⟨.hbm, 599, rfl⟩
abbrev main_while0b_call5_v1_0 : Ref sig .tc := ⟨.hbm, 600, rfl⟩
abbrev main_while0b_v55 : Ref sig .tc := ⟨.hbm, 601, rfl⟩
abbrev main_while0b_call6_v0 : Ref sig .tc := ⟨.hbm, 602, rfl⟩
abbrev main_while0b_call6_v1 : Ref sig .tc := ⟨.hbm, 603, rfl⟩
abbrev main_while0b_call6_v2 : Ref sig .tc := ⟨.hbm, 604, rfl⟩
abbrev main_while0b_call6_v3 : Ref sig .tc := ⟨.hbm, 605, rfl⟩
abbrev main_while0b_call6_v4 : Ref sig .tc := ⟨.hbm, 606, rfl⟩
abbrev main_while0b_v56 : Ref sig .tc := ⟨.hbm, 607, rfl⟩
abbrev main_while0b_v57 : Ref sig .tc := ⟨.hbm, 608, rfl⟩
abbrev main_while0b_v58 : Ref sig .tc := ⟨.hbm, 609, rfl⟩
abbrev main_while0b_v59 : Ref sig .tc := ⟨.hbm, 610, rfl⟩
abbrev main_while0b_call7_v0 : Ref sig .tc := ⟨.hbm, 611, rfl⟩
abbrev main_while0b_call7_c : Ref sig .tc := ⟨.hbm, 612, rfl⟩
abbrev main_while0b_call7_c_0 : Ref sig .tc := ⟨.hbm, 613, rfl⟩
abbrev main_while0b_call7_c_1 : Ref sig .tc := ⟨.hbm, 614, rfl⟩
abbrev main_while0b_v60 : Ref sig .tc := ⟨.hbm, 615, rfl⟩
abbrev main_while0b_c_19 : Ref sig .tc := ⟨.hbm, 616, rfl⟩
abbrev main_while0b_v61 : Ref sig .tc := ⟨.hbm, 617, rfl⟩
abbrev main_v20 : Ref sig .tc := ⟨.hbm, 618, rfl⟩
abbrev main_v21 : Ref sig .tc := ⟨.hbm, 619, rfl⟩
abbrev main_v22 : Ref sig .tc := ⟨.hbm, 620, rfl⟩

abbrev nD : Nat := 1
abbrev τ : Topo := Topo.v7x

variable {F : FTy → Type} [FloatOps F]

abbrev main_while0_count : Scf.Loop 32 := ⟨0#32, 32#32, 1#32⟩
-- ==== Proof.Threefry.lean ====
/-
  The counter-based random words both programs draw: twenty rounds of the threefry mixer on a pair of word vectors, five key
  injections between them, and the Gumbel noise read off the mixed words. Stated once, at any shape, on the vector operations
  that the kernel's body is printed with.
-/
module

public import Idealize.ShloMosaic.Lib.Tactic
public import Idealize.ShloMosaic.PureOps.Ideal

@[expose] public section

noncomputable section

namespace Cert.Noise

open Idealize.ShloMosaic

variable {F : FTy → Type} [FloatOps F] {s : Shape}

/-- One round: add, rotate the second word left by `r` (`r + r' = 32`), xor. -/
def round (r r' : BitVec 32) (x : IVec s 32 × IVec s 32) : IVec s 32 × IVec s 32 :=
  (addi x.1 x.2, xori (addi x.1 x.2) (ori (shli x.2 (broadcast s r)) (shrui x.2 (broadcast s r'))))

/-- A key injection: one word added to each of the two vectors. -/
def inject (a b : BitVec 32) (x : IVec s 32 × IVec s 32) : IVec s 32 × IVec s 32 :=
  (addi x.1 (broadcast s a), addi x.2 (broadcast s b))

/-- Four rounds with the first four rotations, -/
def roundsA (x : IVec s 32 × IVec s 32) : IVec s 32 × IVec s 32 :=
  round 6#32 26#32 (round 26#32 6#32 (round 15#32 17#32 (round 13#32 19#32 x)))
/-- and with the other four. -/
def roundsB (x : IVec s 32 × IVec s 32) : IVec s 32 × IVec s 32 :=
  round 24#32 8#32 (round 16#32 16#32 (round 29#32 3#32 (round 17#32 15#32 x)))

/-- The key schedule's third word. -/
def third (a b : BitVec 32) : BitVec 32 := a ^^^ b ^^^ 0x1BD11BDA#32

/-- The mixer under the key `(a, b)`, from the two words after the first injection. -/
def mix (a b : BitVec 32) (x : IVec s 32 × IVec s 32) : IVec s 32 × IVec s 32 :=
  inject (third a b) (a + 5#32) (roundsA (inject b (third a b + 4#32) (roundsB (inject a (b + 3#32)
    (roundsA (inject (third a b) (a + 2#32) (roundsB (inject b (third a b + 1#32) (roundsA x)))))))))

/-- The mixer's two words for the counters `(0, idx)`, xored. -/
def bits (a b : BitVec 32) (idx : IVec s 32) : IVec s 32 :=
  xori (mix a b (broadcast s a, addi idx (broadcast s b))).1 (mix a b (broadcast s a, addi idx (broadcast s b))).2

/-- The noise of a vector of random words: the top 23 bits as a float in [1, 2), less 1, scaled and shifted into (0, 1), and
    `-log (-log u)` of that. -/
def gumbelOf (w : IVec s 32) : FVec F s .f32 :=
  subf (broadcast s (Scalar.ofBits .f32 0x00000000#32)) (log (subf (broadcast s (Scalar.ofBits .f32 0x00000000#32)) (log
    (maximumf (broadcast s (Scalar.ofBits .f32 0x00800000#32))
      (addf (mulf (subf (bitcastToFloat .f32 (ori (shrui w (broadcast s 9#32)) (broadcast s 1065353216#32)))
        (broadcast s (Scalar.ofBits .f32 0x3F800000#32))) (broadcast s (Scalar.ofBits .f32 0x3F800000#32)))
        (broadcast s (Scalar.ofBits .f32 0x00800000#32)))))))

/-- The key words of position `p`. -/
def key1 (p : ℕ) : BitVec 32 := [
    0x6d3e048f#32, 0x03d7b32d#32, 0x92fb20ea#32, 0xbad56946#32, 0xb013aee3#32, 0xa4d91a96#32,
    0xa506c508#32, 0x97d0552f#32, 0x3c999167#32, 0x4349448b#32, 0x3df0e1d3#32, 0x0eb4f3d8#32,
    0xb99c0582#32, 0xd181e6dd#32, 0x969d2d83#32, 0x3b1a4151#32, 0x058d3668#32, 0xa1128e08#32,
    0x38eb112d#32, 0xf7d22e13#32, 0x85daa268#32, 0x1e858c9e#32, 0x988b7618#32, 0xce913f97#32,
    0x69ac4320#32, 0xfda520b2#32, 0x8b3aa7c9#32, 0x21f80071#32, 0x846a0583#32, 0x339d7f6d#32,
    0x3b49834b#32, 0x660fd86e#32].getD p 0#32
def key2 (p : ℕ) : BitVec 32 := [
    0x1022172d#32, 0xadd083f4#32, 0x0f38d913#32, 0x354ba891#32, 0xc34eddf6#32, 0x3122544e#32,
    0xb6207291#32, 0x51bf719f#32, 0x8e776fea#32, 0x92d8bf3b#32, 0x645d7be2#32, 0xd1c5d1a8#32,
    0x549a95c6#32, 0x0db060e5#32, 0xecddd059#32, 0xea9246f9#32, 0xb396635b#32, 0x37234531#32,
    0x2a0b6421#32, 0x30c06e4a#32, 0xe24b3e2f#32, 0x00fb5046#32, 0x9e33c7e5#32, 0x6d300779#32,
    0x0e303598#32, 0x1eecb036#32, 0x9fe12574#32, 0x6a19312b#32, 0x1f2559e8#32, 0xc3ad5548#32,
    0xfac03e31#32, 0x1366dbec#32].getD p 0#32

end Cert.Noise

end
-- ==== Proof.Body.KernelIdealSpec.lean ====
/-
  What the kernel's body computes, as one function of the five blocks that it loads: the logits of its 128 cells, then for
  each of 32 positions the masked, perturbed logits' softmax over the enemies, the first enemy of greatest weight as a
  one-hot column, and that enemy masked for the positions after.
-/
module

public import proofs.«01_k».proof.Proof.Gen.KernelIdeal
public import proofs.«01_k».proof.Proof.Threefry

@[expose] public section

set_option maxRecDepth 16384

noncomputable section

namespace Cert.KernelIdeal.Body

open Idealize.ShloMosaic Idealize.SL.Sem Cert.KernelIdeal Cert.KernelIdeal.Gen Cert.Noise

variable {F : FTy → Type} [FloatOps F]

/-- The hidden layer of the block's 128 × 32 rows, -/
def hidden (v0 : FVec F S128x32x128 .f32) (v3 : FVec F S128x256 .f32) (v5 : FVec F S1x256 .f32) : FVec F S4096x256 .f32 :=
  maximumf (addf (matmul dot_S4096x128_S128x256_S4096x256_1_0_0_1_n_n none
      (shapeCast S4096x128 (shapeCast S128x32x128 v0 shapeCasts_S128x32x128_S128x32x128) shapeCasts_S128x32x128_S4096x128) v3
      (constant S4096x256 .f32 0x00000000#32))
    (broadcastTo S4096x256 (shapeCast S1x256 v5 shapeCasts_S1x256_S1x256) broadcasts_S1x256_S4096x256))
    (broadcast S4096x256 (Scalar.ofBits .f32 0x00000000#32))

/-- and the logits, position by enemy by cell. -/
def logits (v0 : FVec F S128x32x128 .f32) (v3 : FVec F S128x256 .f32) (v5 : FVec F S1x256 .f32) (v11 : FVec F S256x32 .f32)
    (v13 : FVec F S1x32 .f32) : FVec F S32x32x128 .f32 :=
  transpose S32x32x128 [0, 2, 1] (shapeCast S32x128x32 (transpose S32x4096 [1, 0]
    (addf (matmul dot_S4096x256_S256x32_S4096x32_1_0_0_1_n_n none (hidden v0 v3 v5) v11 (constant S4096x32 .f32 0x00000000#32))
      (broadcastTo S4096x32 (shapeCast S1x32 v13 shapeCasts_S1x32_S1x32) broadcasts_S1x32_S4096x32))
    transposes_S4096x32_p1_0_S32x4096) shapeCasts_S32x4096_S32x128x32) transposes_S32x128x32_p0_2_1_S32x32x128

/-- The enemy's number at each entry, -/
def enemy : IVec S32x128 32 := iota .tc S32x128 32 [0] iota_S32x128_d0_w32

/-- and the entry's flat position in the whole array, for the block of grid point `t`. -/
def flatAt (t : ℕ) : IVec S32x128 32 :=
  addi (muli (addi (broadcast S32x128 (Scalar.muli (BitVec.ofNat 32 t) 128#32)) (iota .tc S32x128 32 [1] iota_S32x128_d1_w32))
    (broadcast S32x128 32#32)) enemy

/-- A position's row lies within the logits. -/
theorem slices_row (p : ℕ) : S32x32x128.Slices ![p % 32, 0, 0] S1x32x128 :=
  ⟨rfl, fun a => by
    have h : p % 32 < 32 := Nat.mod_lt _ (by omega)
    fin_cases a
    · show p % 32 + 1 ≤ 32; omega
    · show 0 + 32 ≤ 32; omega
    · show 0 + 128 ≤ 128; omega⟩

/-- Position `p`'s logits. -/
def row (L : FVec F S32x32x128 .f32) (p : ℕ) : FVec F S32x128 .f32 :=
  shapeCast S32x128 (extractStridedSlice S1x32x128 ![p % 32, 0, 0] L (slices_row p)) shapeCasts_S1x32x128_S32x128

/-- One value per cell, copied to every enemy. -/
def spread {α : Type} (v : S128.Idx → α) : S32x128.Idx → α :=
  broadcastTo S32x128 (shapeCast S1x128 v shapeCasts_S128_S1x128) broadcasts_S1x128_S32x128

/-- The numerators of the softmax over the enemies, -/
def expo (x : FVec F S32x128 .f32) : FVec F S32x128 .f32 :=
  exp (subf x (spread (multiReduction .maximumf [0] S128 x 0xFF800000#32 reduces_S32x128_S128 (.inl rfl) rfl)))

/-- and the softmax. -/
def soft (x : FVec F S32x128 .f32) : FVec F S32x128 .f32 :=
  divf (expo x) (spread (multiReduction .add [0] S128 (expo x) 0x00000000#32 reduces_S32x128_S128 (.inl rfl) rfl))

/-- The least enemy at the greatest entry, as a one-hot column per cell. -/
def pick (r : FVec F S32x128 .f32) : FVec F S32x128 .f32 :=
  sitofp .f32 (extui 32 (cmpi .eq enemy (spread (multiReductionI .minsi [0] S128
    (select (cmpf .oeq r (spread (multiReduction .maximumf [0] S128 r 0xFF800000#32 reduces_S32x128_S128 (.inl rfl) rfl)))
      enemy (broadcast S32x128 32#32)) 2147483647#32 reduces_S32x128_S128 rfl))) natLt_1_32)

/-- What position `p` picks under the mask `k`. -/
def choice (L : FVec F S32x32x128 .f32) (t p : ℕ) (k : FVec F S32x128 .f32) : FVec F S32x128 .f32 :=
  pick (soft (addf (addf (row L p) k) (gumbelOf (bits (key1 p) (key2 p) (flatAt t)))))

/-- The mask before position `p`: the mask's word once per earlier pick. -/
def mask (L : FVec F S32x32x128 .f32) (t : ℕ) : ℕ → FVec F S32x128 .f32
  | 0 => broadcast S32x128 (Scalar.ofBits .f32 0x00000000#32)
  | p + 1 => addf (mask L t p) (mulf (choice L t p (mask L t p)) (broadcast S32x128 (Scalar.ofBits .f32 0xFF7FC99E#32)))

/-- Thirty-two slabs of one position each stack to the whole. -/
theorem slabs_stack {α : Type} (f : ℕ → S1x32x128.Idx → α) :
    Shape.Concatenates (((List.range 32).map fun p => (⟨S1x32x128, f p⟩ : (s : Shape) × (s.Idx → α))).map (·.1))
      S32x32x128 0 := by
  rw [List.map_map]
  exact (by decide : Shape.Concatenates ((List.range 32).map fun _ => S1x32x128) S32x32x128 0)

/-- The picks of all positions, stacked: position by enemy by cell. -/
def picks (L : FVec F S32x32x128 .f32) (t : ℕ) : FVec F S32x32x128 .f32 :=
  concatenate S32x32x128 0 ((List.range 32).map fun p =>
    ⟨S1x32x128, shapeCast S1x32x128 (choice L t p (mask L t p)) shapeCasts_S32x128_S1x32x128⟩) (slabs_stack _)

/-- The block the body stores into its first result: cell by position by enemy. -/
def perm (L : FVec F S32x32x128 .f32) (t : ℕ) : FVec F S128x32x32 .f32 :=
  transpose S128x32x32 [1, 0, 2] (transpose S32x128x32 [0, 2, 1] (picks L t) transposes_S32x32x128_p0_2_1_S32x128x32)
    transposes_S32x128x32_p1_0_2_S128x32x32

/-- And into its second: cell by enemy by position. -/
def inv (L : FVec F S32x32x128 .f32) (t : ℕ) : FVec F S128x32x32 .f32 :=
  transpose S128x32x32 [0, 2, 1] (perm L t) transposes_S128x32x32_p0_2_1_S128x32x32

end Cert.KernelIdeal.Body

end
-- ==== Proof.Body.KernelIdealBody.lean ====
/-
  The kernel's printed body is five loads, the body's function, and two stores.
-/
module

public import proofs.«01_k».proof.Proof.Body.KernelIdealSpec
public import Idealize.ShloMosaic.Lib.Pipeline.Regions

@[expose] public section

set_option maxRecDepth 65536

noncomputable section

namespace Cert.KernelIdeal.Body

open Idealize.ShloMosaic Idealize.SL.Sem Cert.KernelIdeal Cert.KernelIdeal.Gen Cert.Noise

variable {F : FTy → Type} [FloatOps F]

variable (i : grid0.Coords) (arg1 : Memref sig .tc .vmem S128x32x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x32 .f32) (harg4 : arg4.IsWhole) (arg5 : Memref sig .tc .vmem S1x32 .f32) (harg5 : arg5.IsWhole) (arg6 : Memref sig .tc .vmem S128x32x32 .f32) (harg6 : arg6.IsWhole) (arg7 : Memref sig .tc .vmem S128x32x32 .f32) (harg7 : arg7.IsWhole) (arg8 : Sems sig S_)

/-- The body with its pure part in one place. -/
def body : Prog (TpuEff nD τ sig (Elt F) Λ₀ .tc) PUnit := do
  let v0 : Vec F S128x32x128 .f32 ← Prog.lift (.load arg1 (Rect.unit (s := S128x32x128) ![0, 0, 0] S128x32x128.size inb_S128x32x128_S128x32x128_0_0_0).toLoadRect (View.loadsAt_vmem h_S128x32x128))
  let v3 : Vec F S128x256 .f32 ← Prog.lift (.load arg2 (Rect.unit (s := S128x256) ![0, 0] S128x256.size inb_S128x256_S128x256_0_0).toLoadRect (View.loadsAt_vmem h_S128x256))
  let v5 : Vec F S1x256 .f32 ← Prog.lift (.load arg3 (Rect.unit (s := S1x256) ![0, 0] S1x256.size inb_S1x256_S1x256_0_0).toLoadRect (View.loadsAt_vmem h_S1x256))
  let v11 : Vec F S256x32 .f32 ← Prog.lift (.load arg4 (Rect.unit (s := S256x32) ![0, 0] S256x32.size inb_S256x32_S256x32_0_0).toLoadRect (View.loadsAt_vmem h_S256x32))
  let v13 : Vec F S1x32 .f32 ← Prog.lift (.load arg5 (Rect.unit (s := S1x32) ![0, 0] S1x32.size inb_S1x32_S1x32_0_0).toLoadRect (View.loadsAt_vmem h_S1x32))
  let v6813 : Vec F S128x32x32 .f32 ← Prog.lift (.load arg6 (Rect.unit (s := S128x32x32) ![0, 0, 0] S128x32x32.size inb_S128x32x32_S128x32x32_0_0_0).toLoadRect (View.loadsAt_vmem h_S128x32x32))
  Prog.lift (.store arg6 (Rect.unit (s := S128x32x32) ![0, 0, 0] S128x32x32.size inb_S128x32x32_S128x32x32_0_0_0) (perm (logits v0 v3 v5 v11 v13) (i 0).val) Finset.univ (View.stores_vmem_bits_univ h_S128x32x32 rfl) (.inl rfl))
  let v6815 : Vec F S128x32x32 .f32 ← Prog.lift (.load arg7 (Rect.unit (s := S128x32x32) ![0, 0, 0] S128x32x32.size inb_S128x32x32_S128x32x32_0_0_0).toLoadRect (View.loadsAt_vmem h_S128x32x32))
  Prog.lift (.store arg7 (Rect.unit (s := S128x32x32) ![0, 0, 0] S128x32x32.size inb_S128x32x32_S128x32x32_0_0_0) (inv (logits v0 v3 v5 v11 v13) (i 0).val) Finset.univ (View.stores_vmem_bits_univ h_S128x32x32 rfl) (.inl rfl))
  pure ⟨⟩

/-- The printed body is that one, by unfolding. -/
theorem printed_eq : cc0__fused_kernel (F := F) i arg1 harg1 arg2 harg2 arg3 harg3 arg4 harg4 arg5 harg5 arg6 harg6 arg7 harg7 arg8 = body i arg1 arg2 arg3 arg4 arg5 arg6 arg7 := by
  chain_rfl

end Cert.KernelIdeal.Body

end
-- ==== Proof.Body.KernelIdealRun.lean ====
/-
  The kernel's run: its body on whole staging buffers, the pipeline's proof data, and the launch. After the body at grid
  point `t` each input's buffer is as fetched, and the two outputs' hold `perm` and `inv` of the block's logits.
-/
module

public import proofs.«01_k».proof.Proof.Body.KernelIdealBody
public import proofs.«01_k».proof.Proof.Gen.KernelIdeal.Frame
public import proofs.«01_k».proof.Proof.Gen.KernelIdeal.Points
public import Idealize.ShloMosaic.Lib.Pipeline.FrameBody
public import Idealize.ShloMosaic.Lib.Pipeline.Value
public import Idealize.ShloMosaic.Lib.Pipeline.Quiescent
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Three offsets of nothing -/
theorem zero3 : (![0, 0, 0] : Fin 3 → ℕ) = fun _ => 0 := funext fun a => by fin_cases a <;> rfl
/-- and two. -/
theorem zero2 : (![0, 0] : Fin 2 → ℕ) = fun _ => 0 := funext fun a => by fin_cases a <;> rfl

/-- A load of a whole buffer reads what it holds. -/
theorem readAt_whole {sp : Space} {S : Shape} {e : EltTy} (M : Memref sig .tc sp S e) {off : Fin S.rank → ℕ} (h : off = fun _ => 0)
    (inb : ∀ a, off a + S.size a ≤ S.size a) (f : M.view.ty.Contents (Elt F)) :
    View.readAt (Elt F) M.view (Rect.unit off S.size inb).toLoadRect f = View.read (Elt F) M.view f :=
  View.ld_unit_zero h inb (View.read (Elt F) M.view f)

/-- The block of the first result at grid point `n`, from the input windows' blocks, -/
def outPerm (n : ℕ) (x0 : Vec F S128x32x128 .f32) (x1 : Vec F S128x256 .f32) (x2 : Vec F S1x256 .f32) (x3 : Vec F S256x32 .f32) (x4 : Vec F S1x32 .f32) : Vec F S128x32x32 .f32 := perm (logits x0 x1 x2 x3 x4) n
/-- and of the second. -/
def outInv (n : ℕ) (x0 : Vec F S128x32x128 .f32) (x1 : Vec F S128x256 .f32) (x2 : Vec F S1x256 .f32) (x3 : Vec F S256x32 .f32) (x4 : Vec F S1x32 .f32) : Vec F S128x32x32 .f32 := inv (logits x0 x1 x2 x3 x4) n

/-- One store through a whole buffer covers it. -/
theorem cover_one (p0 : Vec F S128x32x32 .f32) (y : S128x32x32.Idx) :
    ∃ pc ∈ ([⟨Rect.unit (s := S128x32x32) ![0, 0, 0] S128x32x32.size inb_S128x32x32_S128x32x32_0_0_0, p0⟩] : List (View.Piece (Elt F) S128x32x32 .f32)), y ∈ pc.1.set :=
  View.cover_of_tiled [⟨Rect.unit (s := S128x32x32) ![0, 0, 0] S128x32x32.size inb_S128x32x32_S128x32x32_0_0_0, p0⟩] S128x32x32.size (by rfl) y

attribute [local irreducible] perm inv logits in
/-- The body on whole staging buffers, the inputs at contents `xW` and the outputs at anything: it returns with the inputs
    as they were and the outputs at `outPerm` and `outInv`. -/
theorem sound_kernel (c : Dev nD) (E : Set ℕ) (i : grid0.Coords) (arg1 : Memref sig .tc .vmem S128x32x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x32 .f32) (harg4 : arg4.IsWhole)
    (arg5 : Memref sig .tc .vmem S1x32 .f32) (harg5 : arg5.IsWhole) (arg6 : Memref sig .tc .vmem S128x32x32 .f32) (harg6 : arg6.IsWhole) (arg7 : Memref sig .tc .vmem S128x32x32 .f32) (harg7 : arg7.IsWhole) (arg8 : Sems sig S_)
    (x0 : Vec F S128x32x128 .f32) (x1 : Vec F S128x256 .f32) (x2 : Vec F S1x256 .f32) (x3 : Vec F S256x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outPerm (i 0).val x0 x1 x2 x3 x4)
            ∗ owns (c : Thread nD τ) arg7 fullShare (outInv (i 0).val x0 x1 x2 x3 x4)) -∗ K ⟨⟩))
      ⊢ wp frame (wpE (defs₀ (F := F)) Variants.none c none) E
        (cc0__fused_kernel i arg1 harg1 arg2 harg2 arg3 harg3 arg4 harg4 arg5 harg5 arg6 harg6 arg7 harg7 arg8) K := by
  rw [printed_eq]
  unfold body
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_one _)).trans ?_
    rw [View.canon_unit_zero zero3]
    unfold outPerm
    congr 2 <;> first | exact readAt_whole (F := F) (S := S128x32x128) _ zero3 _ _ | exact readAt_whole (F := F) (S := S128x256) _ zero2 _ _ | exact readAt_whole (F := F) (S := S1x256) _ zero2 _ _ | exact readAt_whole (F := F) (S := S256x32) _ zero2 _ _ | exact readAt_whole (F := F) (S := S1x32) _ zero2 _ _
  iexists _; isplitr
  swap; · iexact H6
  ipureintro
  refine (View.read_writes_eq_canon _ _ _ (cover_one _)).trans ?_
  rw [View.canon_unit_zero zero3]
  unfold outInv
  congr 2 <;> first | exact readAt_whole (F := F) (S := S128x32x128) _ zero3 _ _ | exact readAt_whole (F := F) (S := S128x256) _ zero2 _ _ | exact readAt_whole (F := F) (S := S1x256) _ zero2 _ _ | exact readAt_whole (F := F) (S := S256x32) _ zero2 _ _ | exact readAt_whole (F := F) (S := S1x32) _ zero2 _ _

/-- The pipeline's proof data on core `c`: the arrays as the region finds them; after the body each input's buffer at its
    block, each output's at the body's function of the blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outPerm (grid0.coords t 0).val (iblk m c 0 t) (iblk m c 1 t) (iblk m c 2 t) (iblk m c 3 t) (iblk m c 4 t)
    | ⟨6, _⟩ => outInv (grid0.coords t 0).val (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- After the body the features' block is as it was, -/
theorem after_0 (c : Dev nD) (t : Fin cfg0.N) : (dats m 0 c).after 0 t = iblk m c 0 t := by dsimp only [dats]
/-- and the first weights', -/
theorem after_1 (c : Dev nD) (t : Fin cfg0.N) : (dats m 0 c).after 1 t = iblk m c 1 t := by dsimp only [dats]
/-- the first biases', -/
theorem after_2 (c : Dev nD) (t : Fin cfg0.N) : (dats m 0 c).after 2 t = iblk m c 2 t := by dsimp only [dats]
/-- the second weights' -/
theorem after_3 (c : Dev nD) (t : Fin cfg0.N) : (dats m 0 c).after 3 t = iblk m c 3 t := by dsimp only [dats]
/-- and the second biases'; -/
theorem after_4 (c : Dev nD) (t : Fin cfg0.N) : (dats m 0 c).after 4 t = iblk m c 4 t := by dsimp only [dats]
/-- the first result's holds the picks -/
theorem after_5 (c : Dev nD) (t : Fin cfg0.N) : (dats m 0 c).after 5 t = outPerm (grid0.coords t 0).val (iblk m c 0 t) (iblk m c 1 t) (iblk m c 2 t) (iblk m c 3 t) (iblk m c 4 t) := by dsimp only [dats]
/-- and the second's the picks the other way around. -/
theorem after_6 (c : Dev nD) (t : Fin cfg0.N) : (dats m 0 c).after 6 t = outInv (grid0.coords t 0).val (iblk m c 0 t) (iblk m c 1 t) (iblk m c 2 t) (iblk m c 3 t) (iblk m c 4 t) := by dsimp only [dats]

/-- Each input's staging buffer holds its block at every point, fetched there or not. -/
theorem before_0 (c : Dev nD) (t : Fin cfg0.N) (d) : (dats m 0 c).before 0 t d = iblk m c 0 t :=
  before0_0_of m (dats m 0 c) (A_eq m c 0) (after_0 m c) t d
/-- so are the first weights', -/
theorem before_1 (c : Dev nD) (t : Fin cfg0.N) (d) : (dats m 0 c).before 1 t d = iblk m c 1 t :=
  before0_1_of m (dats m 0 c) (A_eq m c 1) (after_1 m c) t d
/-- the first biases', -/
theorem before_2 (c : Dev nD) (t : Fin cfg0.N) (d) : (dats m 0 c).before 2 t d = iblk m c 2 t :=
  before0_2_of m (dats m 0 c) (A_eq m c 2) (after_2 m c) t d
/-- the second weights' -/
theorem before_3 (c : Dev nD) (t : Fin cfg0.N) (d) : (dats m 0 c).before 3 t d = iblk m c 3 t :=
  before0_3_of m (dats m 0 c) (A_eq m c 3) (after_3 m c) t d
/-- and the second biases'. -/
theorem before_4 (c : Dev nD) (t : Fin cfg0.N) (d) : (dats m 0 c).before 4 t d = iblk m c 4 t :=
  before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one, which takes unfolding plain
-- definitions in a metavariable's type
set_option backward.isDefEq.respectTransparency.types false in
/-- The launch: every weakly fair run ends with the pipeline's arrays at what the proof data says, every other unscoped
    buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Body

end
-- ==== Proof.Value.Model.lean ====
/-
  One cell's assignment on the extended reals, as both programs make it: the softmax over the enemies of the masked, perturbed
  logits, the first enemy of greatest weight as a one-hot row, and the mask that grows by that row once per position. And the
  two ways the programs find the first greatest entry: a fold of minima over the entries that equal the maximum, and a fold of
  (value, index) pairs.
-/
module

public import Idealize.ShloMosaic.Lib.Tactic
public import Idealize.ShloMosaic.PureOps.Ideal.Laws
public import Idealize.ShloMosaic.PureOps.Reduce
public import Idealize.ShloMosaic.Lib.IdealHost

@[expose] public section

noncomputable section

namespace Cert.Model

open Idealize.ShloMosaic

/-- The greatest of the entries. -/
def peak (x : Fin 32 → EReal) : EReal := Finset.fold max (Ideal.ofBits .f32 4286578688#32) x Finset.univ

/-- The numerators of the softmax -/
def weigh (x : Fin 32 → EReal) (e : Fin 32) : EReal := Ideal.exp (x e - peak x)

/-- and the softmax. -/
def share (x : Fin 32 → EReal) (e : Fin 32) : EReal := Ideal.div (weigh x e) (∑ k, weigh x k)

/-- Entry `i` is the first of the greatest ones. -/
def First (r : Fin 32 → EReal) (i : Fin 32) : Prop := r i = peak r ∧ ∀ j < i, r j ≠ peak r

open Classical in
/-- One at the first greatest entry, nothing elsewhere. -/
def hot (r : Fin 32 → EReal) (e : Fin 32) : EReal := if First r e then 1 else 0

/-- The number a picked enemy's logit is lowered by. -/
abbrev fall : EReal := Ideal.ofBits .f32 4286564766#32

/-- What one position picks, from its logits, its noise and the mask so far. -/
def pickOf (l g k : Fin 32 → EReal) : Fin 32 → EReal := hot (share fun e => l e + k e + g e)

/-- The mask before position `p`, under every position's logits and noise. -/
def held (l g : ℕ → Fin 32 → EReal) : ℕ → Fin 32 → EReal
  | 0 => fun _ => 0
  | p + 1 => fun e => held l g p e + pickOf (l p) (g p) (held l g p) e * fall

/-- What position `p` picks. -/
def picked (l g : ℕ → Fin 32 → EReal) (p : ℕ) : Fin 32 → EReal := pickOf (l p) (g p) (held l g p)

/-! ### The greatest entry -/

/-- The maxima start at the least extended real. -/
theorem low_eq : Ideal.ofBits .f32 4286578688#32 = ⊥ := by simp [Ideal.ofBits, Ideal.ieee]

/-- No entry exceeds the greatest. -/
theorem le_peak (x : Fin 32 → EReal) (e : Fin 32) : x e ≤ peak x :=
  (Finset.le_fold_max (x e)).mpr (.inr ⟨e, Finset.mem_univ e, le_rfl⟩)

/-- Some entry is the greatest. -/
theorem peak_mem (x : Fin 32 → EReal) : ∃ e, x e = peak x := by
  obtain ⟨e, -, he⟩ := Finset.exists_max_image Finset.univ x ⟨0, Finset.mem_univ _⟩
  refine ⟨e, le_antisymm (le_peak x e) ?_⟩
  refine (Finset.fold_max_le (x e)).mpr ⟨?_, fun k hk => he k hk⟩
  rw [low_eq]
  exact bot_le

/-- An entry that no entry exceeds is the greatest. -/
theorem eq_peak {x : Fin 32 → EReal} {e : Fin 32} (h : ∀ k, x k ≤ x e) : x e = peak x := by
  obtain ⟨k, hk⟩ := peak_mem x
  exact le_antisymm (le_peak x e) (hk ▸ h k)

/-- There is a first greatest entry, -/
theorem first_exists (r : Fin 32 → EReal) : ∃ i, First r i := by
  classical
  have h : (Finset.univ.filter fun i => r i = peak r).Nonempty := by
    obtain ⟨e, he⟩ := peak_mem r
    exact ⟨e, by simp [he]⟩
  refine ⟨_, (Finset.mem_filter.mp (Finset.min'_mem _ h)).2, fun j hj hr => ?_⟩
  exact absurd (Finset.min'_le _ j (by simp [hr])) (not_le.mpr hj)

/-- and only one. -/
theorem first_unique {r : Fin 32 → EReal} {i j : Fin 32} (hi : First r i) (hj : First r j) : i = j := by
  rcases lt_trichotomy i j with h | h | h
  · exact absurd hi.1 (hj.2 i h)
  · exact h
  · exact absurd hj.1 (hi.2 j h)

/-- The one-hot row, from the first greatest entry's number. -/
theorem hot_eq {r : Fin 32 → EReal} {i : Fin 32} (h : First r i) (e : Fin 32) : hot r e = if i = e then 1 else 0 := by
  unfold hot
  by_cases he : i = e
  · subst he; simp [h]
  · rw [if_neg he, if_neg fun h' => he (first_unique h h')]

/-! ### Small words -/

/-- An enemy's word read as a number, -/
theorem toNat_small (i : Fin 32) : (BitVec.ofNat 32 i.val).toNat = i.val := by
  rw [BitVec.toNat_ofNat]; omega

/-- and as a signed number. -/
theorem toInt_small (i : Fin 32) : (BitVec.ofNat 32 i.val).toInt = i.val := by
  rw [BitVec.toInt_eq_toNat_of_lt (by rw [toNat_small]; omega), toNat_small]

/-- Two enemies' words are equal when the enemies are. -/
theorem word_inj (i e : Fin 32) : BitVec.ofNat 32 i.val = BitVec.ofNat 32 e.val ↔ i = e :=
  ⟨fun h => Fin.ext (by rw [← toNat_small i, h, toNat_small]), fun h => h ▸ rfl⟩

/-- The compare of two enemies' words, read as a number. -/
theorem same_signed (i e : Fin 32) :
    FloatOps.sitofp (F := Ideal) .f32 (BitVec.setWidth 32 (IntOp.cmpi .eq (BitVec.ofNat 32 e.val) (BitVec.ofNat 32 i.val)))
      = (if i = e then 1 else 0 : EReal) := by
  show ((((BitVec.setWidth 32 (BitVec.ofBool (BitVec.ofNat 32 e.val == BitVec.ofNat 32 i.val))).toInt : ℤ) : ℝ) : EReal) = _
  by_cases h : i = e
  · subst h; simp
  · have : (BitVec.ofNat 32 e.val == BitVec.ofNat 32 i.val) = false := by
      rw [beq_eq_false_iff_ne]; exact fun h' => h ((word_inj e i).mp h').symm
    rw [this, if_neg h]; simp

/-- The same, the compare the other way round and read unsigned. -/
theorem same_unsigned (i e : Fin 32) :
    FloatOps.uitofp (F := Ideal) .f32 (IntOp.cmpi .eq (BitVec.ofNat 32 i.val) (BitVec.ofNat 32 e.val))
      = (if i = e then 1 else 0 : EReal) := by
  show ((((BitVec.ofBool (BitVec.ofNat 32 i.val == BitVec.ofNat 32 e.val)).toNat : ℕ) : ℝ) : EReal) = _
  by_cases h : i = e
  · subst h; simp
  · have : (BitVec.ofNat 32 i.val == BitVec.ofNat 32 e.val) = false := by
      rw [beq_eq_false_iff_ne]; exact fun h' => h ((word_inj i e).mp h')
    rw [this, if_neg h]; simp

/-! ### The first greatest entry by a fold of minima -/

/-- The lesser of two words is the lesser of their numbers. -/
theorem toInt_minsi (x y : BitVec 32) : (IntOp.minsi x y).toInt = min x.toInt y.toInt := by
  unfold IntOp.minsi
  by_cases h : x.slt y = true
  · rw [if_pos h, min_eq_left]
    exact le_of_lt (by simpa [BitVec.slt] using h)
  · rw [if_neg h, min_eq_right]
    exact not_lt.mp (by simpa [BitVec.slt] using h)

/-- The least of the numbers of the greatest entries is the first greatest entry's number. -/
theorem fold_first {r : Fin 32 → EReal} {i : Fin 32} (h : First r i) [DecidablePred fun k => r k = peak r] :
    Finset.fold IntOp.minsi (2147483647#32) (fun k => if r k = peak r then BitVec.ofNat 32 k.val else 32#32) Finset.univ
      = BitVec.ofNat 32 i.val := by
  apply BitVec.eq_of_toInt_eq
  rw [← Finset.fold_hom (op' := min) toInt_minsi, toInt_small]
  refine le_antisymm ?_ ?_
  · exact Finset.fold_min_le _ |>.mpr (.inr ⟨i, Finset.mem_univ i, by rw [if_pos h.1, toInt_small]⟩)
  · refine Finset.le_fold_min _ |>.mpr ⟨by have := i.isLt; rw [show (2147483647#32 : BitVec 32).toInt = 2147483647 from rfl]; omega, fun k _ => ?_⟩
    split
    · rename_i hk
      rw [toInt_small]
      exact_mod_cast not_lt.mp fun hlt => h.2 k hlt hk
    · have := i.isLt
      rw [show (32#32 : BitVec 32).toInt = 32 from rfl]; omega

/-! ### The first greatest entry by a fold of pairs -/

/-- The greater of two pairs: by value, then by the lesser number. -/
def better (a b : EReal × BitVec 32) : EReal × BitVec 32 :=
  (if b.1 < a.1 then a.1 else b.1, if b.1 < a.1 ∨ (a.1 = b.1 ∧ a.2.toInt < b.2.toInt) then a.2 else b.2)

/-- What a fold of `better` holds: no pair exceeds it, none of its value has a lesser number, and it is one of the pairs. -/
theorem fold_better (l : List (EReal × BitVec 32)) (a : EReal × BitVec 32) :
    (∀ q ∈ a :: l, q.1 ≤ (l.foldl better a).1 ∧ (q.1 = (l.foldl better a).1 → (l.foldl better a).2.toInt ≤ q.2.toInt))
      ∧ l.foldl better a ∈ a :: l := by
  induction l generalizing a with
  | nil => simp
  | cons b l ih =>
    obtain ⟨h, hm⟩ := ih (better a b)
    rw [List.foldl_cons]
    have hb := h (better a b) (by simp)
    have key : ∀ q : EReal × BitVec 32, (q.1 < (better a b).1 ∨ (q.1 = (better a b).1 ∧ (better a b).2.toInt ≤ q.2.toInt)) →
        q.1 ≤ (l.foldl better (better a b)).1
          ∧ (q.1 = (l.foldl better (better a b)).1 → (l.foldl better (better a b)).2.toInt ≤ q.2.toInt) := by
      rintro q (hq | ⟨hq, hq'⟩)
      · exact ⟨hq.le.trans hb.1, fun e => absurd (e ▸ hb.1) (not_le.mpr hq)⟩
      · exact ⟨hq ▸ hb.1, fun e => (hb.2 (hq ▸ e)).trans hq'⟩
    have hab : better a b = a ∨ better a b = b := by
      unfold better
      by_cases h1 : b.1 < a.1
      · left; simp [h1]
      · by_cases h2 : a.1 = b.1 ∧ a.2.toInt < b.2.toInt
        · left; rw [if_neg h1, if_pos (.inr h2), ← h2.1]
        · right; rw [if_neg h1, if_neg (by tauto)]
    refine ⟨fun q hq => ?_, ?_⟩
    · rcases List.mem_cons.mp hq with rfl | hq
      · refine key _ ?_
        unfold better
        rcases lt_trichotomy b.1 q.1 with h1 | h1 | h1
        · right; simp [h1]
        · by_cases h2 : q.2.toInt < b.2.toInt
          · right; simp [h1, h2]
          · right; simp [h1, h2]; omega
        · left; simp [h1, not_lt.mpr h1.le]
      · rcases List.mem_cons.mp hq with rfl | hq
        · refine key _ ?_
          unfold better
          rcases lt_trichotomy q.1 a.1 with h1 | h1 | h1
          · left; simp [h1]
          · by_cases h2 : a.2.toInt < q.2.toInt
            · right; simp [h1, h2]; omega
            · right; simp [h1, h2]
          · right; simp [not_lt.mpr h1.le, h1.ne]
        · exact h q (by simp [hq])
    · rcases List.mem_cons.mp hm with hm | hm
      · rw [hm]; rcases hab with e | e <;> rw [e] <;> simp
      · simp [hm]

/-- The fold over the pairs of every entry ends at the first greatest entry's number. -/
theorem fold_pairs {r : Fin 32 → EReal} {i : Fin 32} (h : First r i) (l : List (EReal × BitVec 32))
    (hl : ∀ q, q ∈ l ↔ ∃ k : Fin 32, q = (r k, BitVec.ofNat 32 k.val)) :
    (l.foldl better (⊥, 0#32)).2 = BitVec.ofNat 32 i.val := by
  obtain ⟨hall, hm⟩ := fold_better l (⊥, 0#32)
  have hk := fun k : Fin 32 => hall (r k, BitVec.ofNat 32 k.val) (List.mem_cons_of_mem _ ((hl _).mpr ⟨k, rfl⟩))
  have main : ∃ k : Fin 32, l.foldl better (⊥, 0#32) = (r k, BitVec.ofNat 32 k.val) := by
    rcases List.mem_cons.mp hm with hm | hm
    · refine ⟨0, ?_⟩
      rw [hm]
      have := (hk 0).1
      rw [hm] at this
      exact Prod.ext (le_bot_iff.mp this).symm rfl
    · exact (hl _).mp hm
  obtain ⟨k, e⟩ := main
  rw [e] at hk ⊢
  have hf : First r k := by
    refine ⟨eq_peak fun j => (hk j).1, fun j hj hr => ?_⟩
    have := (hk j).2 (hr.trans (eq_peak fun j => (hk j).1).symm)
    rw [toInt_small, toInt_small] at this
    have : k.val ≤ j.val := by exact_mod_cast this
    exact absurd hj (not_lt.mpr this)
  rw [first_unique h hf]

end Cert.Model

end
-- ==== Proof.Value.Finite.lean ====
/-
  Which values of one cell are real numbers: the noise of every random word, the softmax of real logits, and the mask. On real
  values the reference's straight-through sum is its one-hot row, and its mask times the lowering number is the kernel's mask.
-/
module

public import proofs.«01_k».proof.Proof.Value.Model

@[expose] public section

noncomputable section

namespace Cert.Model

open Idealize.ShloMosaic

/-- The extended real is a real number. -/
def Real' (x : EReal) : Prop := ∃ r : ℝ, x = r

/-- Real numbers are closed under sums, -/
theorem Real'.add {x y : EReal} : Real' x → Real' y → Real' (x + y)
  | ⟨r, hr⟩, ⟨s, hs⟩ => ⟨r + s, by rw [hr, hs, EReal.coe_add]⟩
/-- products, -/
theorem Real'.mul {x y : EReal} : Real' x → Real' y → Real' (x * y)
  | ⟨r, hr⟩, ⟨s, hs⟩ => ⟨r * s, by rw [hr, hs, EReal.coe_mul]⟩
/-- and the greater of two. -/
theorem Real'.max {x y : EReal} (hx : Real' x) (hy : Real' y) : Real' (max x y) := by
  rcases max_choice x y with h | h <;> rw [h] <;> assumption
/-- A sum of real numbers, among the reals or the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
/-- A sum of real numbers is real. -/
theorem Real'.sum {ι : Type*} (s : Finset ι) (f : ι → EReal) (h : ∀ i, Real' (f i)) : Real' (∑ i ∈ s, f i) := by
  choose g hg using h
  exact ⟨∑ i ∈ s, g i, by simp only [hg]; exact coe_sum s g⟩
/-- Nothing is a real number. -/
theorem Real'.zero : Real' 0 := ⟨0, rfl⟩

/-- The softmax of real numbers is real. -/
theorem share_real {x : Fin 32 → EReal} (h : ∀ e, Real' (x e)) (e : Fin 32) : Real' (share x e) := by
  choose g hg using h
  obtain ⟨i, hi⟩ := peak_mem x
  have hw : ∀ k, weigh x k = ((Real.exp (g k - g i) : ℝ) : EReal) := fun k => by
    unfold weigh
    rw [← hi, hg, hg, ← EReal.coe_sub]
    rfl
  have hs : ∑ k, weigh x k = ((∑ k, Real.exp (g k - g i) : ℝ) : EReal) := by
    simp only [hw]; exact coe_sum _ _
  have hpos : 0 < ∑ k : Fin 32, Real.exp (g k - g i) := Finset.sum_pos (fun k _ => Real.exp_pos _) ⟨0, Finset.mem_univ _⟩
  refine ⟨Real.exp (g e - g i) * (∑ k, Real.exp (g k - g i))⁻¹, ?_⟩
  unfold share Ideal.div
  rw [hs, hw, if_neg (by exact_mod_cast hpos.ne'), ← EReal.coe_inv, ← EReal.coe_mul]

/-- A one-hot row is real -/
theorem hot_real (r : Fin 32 → EReal) (e : Fin 32) : Real' (hot r e) := by
  unfold hot; split
  · exact ⟨1, rfl⟩
  · exact ⟨0, rfl⟩
/-- and not negative. -/
theorem hot_nonneg (r : Fin 32 → EReal) (e : Fin 32) : 0 ≤ hot r e := by
  unfold hot; split <;> simp

/-- A normal pattern of no sign is its significand at its exponent. -/
theorem ofBits_normal (b : BitVec 32) (ex fr : ℕ) (hs : b.extractLsb' 31 1 ≠ 1#1) (he : (b.extractLsb' 23 8).toNat = ex)
    (hf : (b.extractLsb' 0 23).toNat = fr) (h0 : ex ≠ 0) (h1 : ex ≠ 255) :
    Ideal.ofBits .f32 b = (((2 ^ 23 + fr : ℕ) * (2 : ℝ) ^ ((ex : ℤ) - 150) : ℝ) : EReal) := by
  show Ideal.ieee 8 23 b = _
  unfold Ideal.ieee
  simp only [he, hf, h0, h1, show (2 ^ 8 - 1 : ℕ) = 255 from rfl, if_false]
  rw [if_neg (by simpa using hs), one_mul]
  congr 3
  norm_num
  ring

/-- The lowering number is real. -/
theorem fall_real : Real' fall := by
  show Real' (Ideal.ieee 8 23 4286564766#32)
  unfold Ideal.ieee
  simp only []
  rw [if_neg (by decide), if_neg (by decide)]
  exact ⟨_, rfl⟩

/-- The mask is real. -/
theorem held_real (l g : ℕ → Fin 32 → EReal) : ∀ p e, Real' (held l g p e)
  | 0, _ => Real'.zero
  | p + 1, e => (held_real l g p e).add ((hot_real _ e).mul fall_real)

/-- Adding and taking away a real number changes nothing. -/
theorem through {s : EReal} (h : Real' s) (x : EReal) : x - s + s = x := by
  obtain ⟨r, rfl⟩ := h
  exact EReal.sub_add_cancel

/-! ### The noise of a random word -/

/-- The least normal number. -/
abbrev tiny : EReal := Ideal.ofBits .f32 8388608#32

/-- The float in [1, 2) of the word's top 23 bits. -/
def fraction (w : BitVec 32) : EReal := Ideal.ofBits .f32 (IntOp.ori (IntOp.shrui .vector w 9#32) 1065353216#32)

/-- The noise of a word. -/
def noise (w : BitVec 32) : EReal := 0 - Ideal.log (0 - Ideal.log (max tiny (fraction w - 1 + tiny)))

/-- The least normal number's value. -/
theorem tiny_eq : tiny = (((2 : ℝ) ^ (-126 : ℤ) : ℝ) : EReal) := by
  rw [tiny, ofBits_normal 8388608#32 1 0 (by decide) (by decide) (by decide) (by decide) (by decide)]
  norm_num

/-- The fraction is 1 and a number of steps of 2⁻²³, fewer than 2²³. -/
theorem fraction_eq (w : BitVec 32) : ∃ n : ℕ, n < 2 ^ 23 ∧ fraction w = ((1 + n * (2 : ℝ) ^ (-23 : ℤ) : ℝ) : EReal) := by
  have hn : (IntOp.shrui .vector w 9#32).toNat < 2 ^ 23 := by
    show (w >>> (9#32).toNat).toNat < _
    rw [BitVec.toNat_ushiftRight, Nat.shiftRight_eq_div_pow]
    have := w.isLt
    show w.toNat / 2 ^ 9 < _
    omega
  unfold fraction
  generalize IntOp.shrui .vector w 9#32 = v at hn ⊢
  have ht : (IntOp.ori v 1065353216#32).toNat = 2 ^ 23 * 127 + v.toNat := by
    rw [Nat.two_pow_add_eq_or_of_lt hn, Nat.or_comm]
    exact BitVec.toNat_or ..
  generalize IntOp.ori v _ = u at ht ⊢
  refine ⟨v.toNat, hn, ?_⟩
  rw [ofBits_normal u 127 v.toNat ?_ ?_ ?_ (by decide) (by decide)]
  · congr 1
    push_cast
    rw [add_mul]
    norm_num
  · intro h
    have := congrArg BitVec.toNat h
    rw [BitVec.extractLsb'_toNat, ht, Nat.shiftRight_eq_div_pow] at this
    have e : (2 ^ 23 * 127 + v.toNat) / 2 ^ 31 = 0 := Nat.div_eq_of_lt (by omega)
    rw [e] at this
    exact absurd this (by decide)
  · rw [BitVec.extractLsb'_toNat, ht, Nat.shiftRight_eq_div_pow]
    omega
  · rw [BitVec.extractLsb'_toNat, ht, Nat.shiftRight_zero]
    omega

/-- The number whose logarithms the noise is: it lies strictly between nothing and one. -/
theorem inner_eq (w : BitVec 32) : ∃ u : ℝ, 0 < u ∧ u < 1 ∧ 0 ≤ fraction w - 1 ∧ max tiny (fraction w - 1 + tiny) = (u : EReal) := by
  obtain ⟨n, hn, h⟩ := fraction_eq w
  have hf : fraction w - 1 = ((n * (2 : ℝ) ^ (-23 : ℤ) : ℝ) : EReal) := by
    rw [h, show (1 : EReal) = ((1 : ℝ) : EReal) from rfl, ← EReal.coe_sub]
    congr 1
    ring
  have h0 : (0 : ℝ) ≤ n * (2 : ℝ) ^ (-23 : ℤ) := by positivity
  have h1 : (n : ℝ) * (2 : ℝ) ^ (-23 : ℤ) ≤ 1 - (2 : ℝ) ^ (-23 : ℤ) := by
    have : (n : ℝ) ≤ 2 ^ 23 - 1 := by
      have : n + 1 ≤ 2 ^ 23 := hn
      have : ((n + 1 : ℕ) : ℝ) ≤ ((2 ^ 23 : ℕ) : ℝ) := by exact_mod_cast this
      push_cast at this
      linarith
    calc (n : ℝ) * (2 : ℝ) ^ (-23 : ℤ) ≤ (2 ^ 23 - 1) * (2 : ℝ) ^ (-23 : ℤ) := mul_le_mul_of_nonneg_right this (by positivity)
      _ = 1 - (2 : ℝ) ^ (-23 : ℤ) := by norm_num
  have ht : (2 : ℝ) ^ (-126 : ℤ) < (2 : ℝ) ^ (-23 : ℤ) := by norm_num
  refine ⟨n * (2 : ℝ) ^ (-23 : ℤ) + (2 : ℝ) ^ (-126 : ℤ), by positivity, by linarith, ?_, ?_⟩
  · rw [hf]; exact_mod_cast h0
  · rw [hf, tiny_eq, ← EReal.coe_add, max_eq_right]
    exact_mod_cast le_add_of_nonneg_left h0

/-- The noise is a real number. -/
theorem noise_real (w : BitVec 32) : Real' (noise w) := by
  obtain ⟨u, h0, h1, -, h⟩ := inner_eq w
  have hl : Ideal.log (u : EReal) = ((Real.log u : ℝ) : EReal) := by
    show (if u ≤ 0 then (⊥ : EReal) else (Real.log u : EReal)) = _
    rw [if_neg (not_le.mpr h0)]
  have hneg : 0 < -Real.log u := neg_pos.mpr (Real.log_neg h0 h1)
  have hl' : Ideal.log ((-Real.log u : ℝ) : EReal) = ((Real.log (-Real.log u) : ℝ) : EReal) := by
    show (if -Real.log u ≤ 0 then (⊥ : EReal) else (Real.log (-Real.log u) : EReal)) = _
    rw [if_neg (not_le.mpr hneg)]
  refine ⟨-Real.log (-Real.log u), ?_⟩
  unfold noise
  rw [h, hl, zero_sub, zero_sub, ← EReal.coe_neg, hl', ← EReal.coe_neg]

/-- The reference's spelling of it: the fraction less 1 stretched from nothing to one, and no less than nothing. -/
theorem noise_stretched (w : BitVec 32) :
    -Ideal.log (-Ideal.log (max tiny (max 0 ((fraction w - 1) * (1 - 0) + 0) + tiny))) = noise w := by
  obtain ⟨u, -, -, h, -⟩ := inner_eq w
  unfold noise
  rw [sub_zero, mul_one, add_zero, max_eq_right h, zero_sub, zero_sub]

end Cert.Model

end
-- ==== Proof.Value.Draw.lean ====
/-
  The mixer works entry by entry: what it makes of an entry depends on that entry's counter alone, at whatever shape. So the
  noise of position `p` at flat number `n` is one extended real, whichever program draws it.
-/
module

public import proofs.«01_k».proof.Proof.Threefry
public import proofs.«01_k».proof.Proof.Value.Finite

@[expose] public section

noncomputable section

namespace Cert.Noise

open Idealize.ShloMosaic

variable {s s' : Shape}

/-- A pair of word vectors read along an index map. -/
def pull (f : s'.Idx → s.Idx) (x : IVec s 32 × IVec s 32) : IVec s' 32 × IVec s' 32 := (fun i => x.1 (f i), fun i => x.2 (f i))

/-- A round reads element by element, -/
theorem pull_round (f : s'.Idx → s.Idx) (r r' : BitVec 32) (x : IVec s 32 × IVec s 32) : pull f (round r r' x) = round r r' (pull f x) := rfl
/-- and so does the adding of key words. -/
theorem pull_inject (f : s'.Idx → s.Idx) (a b : BitVec 32) (x : IVec s 32 × IVec s 32) : pull f (inject a b x) = inject a b (pull f x) := rfl

/-- The mixer commutes with reading along an index map. -/
theorem pull_mix (f : s'.Idx → s.Idx) (a b : BitVec 32) (x : IVec s 32 × IVec s 32) : pull f (mix a b x) = mix a b (pull f x) := by
  simp only [mix, roundsA, roundsB, pull_round, pull_inject]

/-- The shape of one entry, -/
abbrev Point : Shape := ⟨0, ![]⟩
/-- and its index. -/
abbrev point : Point.Idx := fun a => a.elim0

/-- The word under the key `(a, b)` and the counter `n`. -/
def draw (a b n : BitVec 32) : BitVec 32 := bits a b (fun _ : Point.Idx => n) point

/-- A vector of drawn words, entry by entry. -/
theorem bits_at (a b : BitVec 32) (idx : IVec s 32) (i : s.Idx) : bits a b idx i = draw a b (idx i) := by
  have h := pull_mix (fun _ : Point.Idx => i) a b (broadcast s a, addi idx (broadcast s b))
  have h1 := congrFun (congrArg Prod.fst h) point
  have h2 := congrFun (congrArg Prod.snd h) point
  show IntOp.xori _ _ = IntOp.xori _ _
  exact congrArg₂ IntOp.xori h1 h2

/-- The noise of position `p` at the flat number `n`. -/
def gum (p : ℕ) (n : BitVec 32) : EReal := Model.noise (draw (key1 p) (key2 p) n)

end Cert.Noise

end
-- ==== Proof.Value.Outcome.lean ====
/- The one function of the nine arguments that both programs' results are: the logits of a cell, the noise its position
   draws, and what is picked for it. -/
module

public import proofs.«01_k».proof.Proof.Value.Model
public import proofs.«01_k».proof.Proof.Value.Draw

@[expose] public section

noncomputable section

namespace Cert.Model

open Idealize.ShloMosaic Cert.Noise

/-- The logit of cell `(b, a)`, enemy `e`, for position `p`: two layers of weights, the first cut off below nothing. -/
def logit (X : Fin 512 → Fin 32 → Fin 32 → Fin 128 → EReal) (W : Fin 128 → Fin 256 → EReal) (u : Fin 256 → EReal)
    (W' : Fin 256 → Fin 32 → EReal) (u' : Fin 32 → EReal) (b : Fin 512) (a e p : Fin 32) : EReal :=
  (∑ h : Fin 256, max ((∑ d : Fin 128, X b a e d * W d h) + u h) 0 * W' h p) + u' p

/-- The noise of cell `n`, enemy `e`, at position `p`. -/
def cellNoise (n p : ℕ) (e : Fin 32) : EReal := gum p (BitVec.ofNat 32 (n * 32 + e.val))

/-- The logits of cell `n` by position, the position counted around thirty-two. -/
def cellRow (l : Fin 512 → Fin 32 → Fin 32 → Fin 32 → EReal) (n : Fin 16384) (p : ℕ) (e : Fin 32) : EReal :=
  l ⟨n.val / 32, by omega⟩ ⟨n.val % 32, Nat.mod_lt _ (by omega)⟩ e ⟨p % 32, Nat.mod_lt _ (by omega)⟩

/-- What is picked for cell `n`, position `p`, enemy `e`. -/
def outcome (l : Fin 512 → Fin 32 → Fin 32 → Fin 32 → EReal) (n : Fin 16384) (p e : Fin 32) : EReal :=
  picked (cellRow l n) (cellNoise n.val) p.val e

end Cert.Model

end
-- ==== Proof.Body.KernelIdealCell.lean ====
/-
  The kernel's block on the extended reals, cell by cell: each column of a block follows the common description of one cell's
  assignment, from that column's logits and the noise at the column's flat numbers.
-/
module

public import proofs.«01_k».proof.Proof.Body.KernelIdealSpec
public import proofs.«01_k».proof.Proof.Value.Outcome
public import Idealize.ShloMosaic.Lib.Pointwise

@[expose] public section

set_option maxRecDepth 16384

noncomputable section

namespace Cert.KernelIdeal.Body

open Idealize.ShloMosaic Idealize.SL.Sem Cert.KernelIdeal Cert.KernelIdeal.Gen Cert.Noise Cert.Model

/-- The exponentials of a column, at an element, -/
theorem expo_at (x : FVec Ideal S32x128 .f32) (e : Fin 32) (a : Fin 128) : expo x (ix2 e a) = weigh (fun k => x (ix2 k a)) e := by
  unfold expo spread
  pointwise
  rfl

/-- its softmax, -/
theorem soft_at (x : FVec Ideal S32x128 .f32) (e : Fin 32) (a : Fin 128) : soft x (ix2 e a) = share (fun k => x (ix2 k a)) e := by
  unfold soft spread
  pointwise
  simp only [expo_at]
  rfl

/-- its one-hot row, -/
theorem pick_at (x : FVec Ideal S32x128 .f32) (e : Fin 32) (a : Fin 128) : pick x (ix2 e a) = hot (fun k => x (ix2 k a)) e := by
  unfold pick spread enemy
  pointwise
  obtain ⟨i, hi⟩ := first_exists fun k => x (ix2 k a)
  rw [hot_eq hi]
  refine (congrArg (fun w => FloatOps.sitofp (F := Ideal) .f32 (BitVec.setWidth 32 (IntOp.cmpi .eq (BitVec.ofNat 32 e.val) w))) (fold_first hi)).trans ?_
  exact same_signed i e

/-- The logits of a position, at an element. -/
theorem row_at (L : FVec Ideal S32x32x128 .f32) (p : ℕ) (e : Fin 32) (a : Fin 128) :
    row L p (ix2 e a) = L (ix3 ⟨p % 32, Nat.mod_lt _ (by omega)⟩ e a) := by
  unfold row
  pointwise

/-- The noise of a random word. -/
theorem gumbelOf_at (w : IVec S32x128 32) (e : Fin 32) (a : Fin 128) : gumbelOf (F := Ideal) w (ix2 e a) = noise (w (ix2 e a)) := by
  unfold gumbelOf
  pointwise
  rfl

/-- The flat number of enemy `e` of the block's cell `a`. -/
def flatNo (t a : ℕ) (e : Fin 32) : BitVec 32 := BitVec.ofNat 32 ((t * 128 + a) * 32 + e.val)

/-- An element's number among all cells' elements. -/
theorem flatAt_at (t : ℕ) (e : Fin 32) (a : Fin 128) : flatAt t (ix2 e a) = flatNo t a.val e := by
  unfold flatAt enemy flatNo
  pointwise
  show (BitVec.ofNat 32 t * BitVec.ofNat 32 128 + BitVec.ofNat 32 a.val) * BitVec.ofNat 32 32 + BitVec.ofNat 32 e.val = _
  rw [← BitVec.ofNat_mul, ← BitVec.ofNat_add, ← BitVec.ofNat_mul, ← BitVec.ofNat_add]

/-- The block's logits of cell `a`, by position and enemy. -/
def cellLogit (L : FVec Ideal S32x32x128 .f32) (a : Fin 128) (p : ℕ) (e : Fin 32) : EReal := L (ix3 ⟨p % 32, Nat.mod_lt _ (by omega)⟩ e a)
/-- One position's choice is the model's. -/
theorem choice_at (L : FVec Ideal S32x32x128 .f32) (t p : ℕ) (k : FVec Ideal S32x128 .f32) (e : Fin 32) (a : Fin 128) :
    choice L t p k (ix2 e a) = pickOf (cellLogit L a p) (cellNoise (t * 128 + a.val) p) (fun e => k (ix2 e a)) e := by
  unfold choice
  rw [pick_at]
  simp only [soft_at]
  unfold pickOf
  refine congrFun (congrArg hot (congrArg share (funext fun e' => ?_))) e
  show addf (addf (row L p) k) (gumbelOf (bits (key1 p) (key2 p) (flatAt t))) (ix2 e' a) = _
  rw [ValueIdx.addf_apply, ValueIdx.addf_apply, row_at, gumbelOf_at, bits_at, flatAt_at]
  rfl

/-- The mask before a position is the model's. -/
theorem mask_at (L : FVec Ideal S32x32x128 .f32) (t : ℕ) (a : Fin 128) :
    ∀ p (e : Fin 32), mask L t p (ix2 e a) = held (cellLogit L a) (cellNoise (t * 128 + a.val)) p e
  | 0, e => by
    show Ideal.ofBits .f32 0x00000000#32 = 0
    exact Ideal.ofBits_zero_f32
  | p + 1, e => by
    unfold mask held
    rw [ValueIdx.addf_apply, ValueIdx.mulf_apply, choice_at, mask_at L t a p e, funext fun e => mask_at L t a p e]
    rfl

/-- Slabs stacked in order are slabs stacked by their number. -/
theorem stack_ofFn (f : ℕ → S1x32x128.Idx → EReal) (h : Shape.Concatenates (((List.range 32).map fun p =>
      (⟨S1x32x128, f p⟩ : (s : Shape) × (s.Idx → EReal))).map (·.1)) S32x32x128 0)
    (h' : Shape.Concatenates ((List.ofFn fun p : Fin 32 => (⟨S1x32x128, f p.val⟩ : (s : Shape) × (s.Idx → EReal))).map (·.1)) S32x32x128 0) :
    concatenate S32x32x128 0 ((List.range 32).map fun p => ⟨S1x32x128, f p⟩) h
      = concatenate S32x32x128 0 (List.ofFn fun p : Fin 32 => ⟨S1x32x128, f p.val⟩) h' := by
  congr 1

/-- What the block picks, cell by cell. -/
theorem picks_at (L : FVec Ideal S32x32x128 .f32) (t : ℕ) (p e : Fin 32) (a : Fin 128) :
    picks L t (ix3 p e a) = picked (cellLogit L a) (cellNoise (t * 128 + a.val)) p.val e := by
  have h : picks L t (ix3 p e a) = choice L t p.val (mask L t p.val) (ix2 e a) := by
    unfold picks
    rw [stack_ofFn _ _ (slabs_stack _)]
    pointwise
  rw [h, choice_at, funext fun e => mask_at L t a p e]
  rfl

/-- The first block at an element: what the model picks. -/
theorem perm_at (L : FVec Ideal S32x32x128 .f32) (t : ℕ) (p e : Fin 32) (a : Fin 128) :
    perm L t (ix3 a p e) = picked (cellLogit L a) (cellNoise (t * 128 + a.val)) p.val e := by
  unfold perm
  pointwise
  exact picks_at L t p e a

/-- The second block is the first with position and enemy the other way around. -/
theorem inv_at (L : FVec Ideal S32x32x128 .f32) (t : ℕ) (p e : Fin 32) (a : Fin 128) :
    inv L t (ix3 a e p) = picked (cellLogit L a) (cellNoise (t * 128 + a.val)) p.val e := by
  unfold inv
  pointwise
  exact perm_at L t p e a

end Cert.KernelIdeal.Body

end
-- ==== Proof.Body.KernelIdealLogits.lean ====
/- The block's logits on the extended reals, entry by entry. -/
module

public import proofs.«01_k».proof.Proof.Body.KernelIdealSpec
public import proofs.«01_k».proof.Proof.Value.Model
public import Idealize.ShloMosaic.PureOps.Ideal.Laws
public import Idealize.ShloMosaic.Lib.Pointwise

@[expose] public section

set_option maxRecDepth 16384

noncomputable section

namespace Cert.KernelIdeal.Body

open Idealize.ShloMosaic Idealize.SL.Sem Cert.KernelIdeal Cert.KernelIdeal.Gen

/-- An entry of the hidden layer. -/
theorem hidden_at (v0 : FVec Ideal S128x32x128 .f32) (v3 : FVec Ideal S128x256 .f32) (v5 : FVec Ideal S1x256 .f32)
    (a : Fin 128) (e : Fin 32) (h : Fin 256) (hr : a.val * 32 + e.val < 4096) :
    hidden v0 v3 v5 (ix2 ⟨a.val * 32 + e.val, hr⟩ h)
      = max ((∑ d : Fin 128, v0 (ix3 a e d) * v3 (ix2 d h)) + v5 (ix2 0 h)) 0 := by
  unfold hidden
  pointwise

/-- A logit. -/
theorem logits_at (v0 : FVec Ideal S128x32x128 .f32) (v3 : FVec Ideal S128x256 .f32) (v5 : FVec Ideal S1x256 .f32)
    (v11 : FVec Ideal S256x32 .f32) (v13 : FVec Ideal S1x32 .f32) (p e : Fin 32) (a : Fin 128) :
    logits v0 v3 v5 v11 v13 (ix3 p e a)
      = (∑ h : Fin 256, max ((∑ d : Fin 128, v0 (ix3 a e d) * v3 (ix2 d h)) + v5 (ix2 0 h)) 0 * v11 (ix2 h p)) + v13 (ix2 0 p) := by
  unfold logits
  generalize hh : hidden v0 v3 v5 = H
  pointwise
  subst hh
  simp only [hidden_at]

end Cert.KernelIdeal.Body

end
-- ==== Proof.Body.KernelIdealValue.lean ====
/- The kernel's two result arrays after a run, entry by entry: the outcome of the arguments. -/
module

public import proofs.«01_k».proof.Proof.Body.KernelIdealRun
public import proofs.«01_k».proof.Proof.Body.KernelIdealCell
public import proofs.«01_k».proof.Proof.Body.KernelIdealLogits
public import Idealize.ShloMosaic.Lib.Claim
public import Idealize.ShloMosaic.Lib.Pipeline.ValueKit.Point

@[expose] public section

set_option maxRecDepth 16384

noncomputable section

namespace Cert.KernelIdeal.Body

open Idealize.ShloMosaic Idealize.ShloMosaic.TcCoe Idealize.SL.Sem Cert.KernelIdeal Cert.KernelIdeal.Gen Cert.Model
open Idealize.ShloMosaic.Pipeline (Dat)

variable (m : (ℓ : Loc nD τ sig) → Buf (Elt Ideal) ℓ)

/-- The logits of the arguments. -/
def logitOf (c : Dev nD) : Fin 512 → Fin 32 → Fin 32 → Fin 32 → EReal :=
  logit (fun b a e d => (m ((c : Thread nD τ).loc main_arg1) : FVec Ideal S512x32x32x128 .f32) (ix4 b a e d))
    (fun d h => (m ((c : Thread nD τ).loc main_arg2) : FVec Ideal S128x256 .f32) (ix2 d h))
    (fun h => (m ((c : Thread nD τ).loc main_arg3) : FVec Ideal S256 .f32) (ix1 h))
    (fun h p => (m ((c : Thread nD τ).loc main_arg4) : FVec Ideal S256x32 .f32) (ix2 h p))
    (fun p => (m ((c : Thread nD τ).loc main_arg5) : FVec Ideal S32 .f32) (ix1 p))

/-- The first result. -/
def first (c : Dev nD) : FVec Ideal S16384x32x32 .f32 := fun i => outcome (logitOf m c) (i 0) (i 1) (i 2)
/-- The second: position and enemy the other way around. -/
def second (c : Dev nD) : FVec Ideal S16384x32x32 .f32 := fun i => outcome (logitOf m c) (i 0) (i 2) (i 1)

/-- The grid has one axis: a point's coordinate is its number. -/
theorem coord_at : ∀ t : Fin cfg0.N, (grid0.coords t 0).val = t.val := (by decide +kernel : ∀ t : Fin grid0.N, _)
/-- Where each window's block lies at a grid point: the features' at the point's number, -/
theorem index_0 : ∀ t : Fin cfg0.N, win0_0.index t = ![t.val, 0, 0] := (by decide +kernel : ∀ t : Fin grid0.N, _)
/-- the first weights' at the start, -/
theorem index_1 : ∀ t : Fin cfg0.N, win0_1.index t = ![0, 0] := (by decide +kernel : ∀ t : Fin grid0.N, _)
/-- the first biases' at the start, -/
theorem index_2 : ∀ t : Fin cfg0.N, win0_2.index t = ![0, 0] := (by decide +kernel : ∀ t : Fin grid0.N, _)
/-- the second weights' at the start, -/
theorem index_3 : ∀ t : Fin cfg0.N, win0_3.index t = ![0, 0] := (by decide +kernel : ∀ t : Fin grid0.N, _)
/-- the second biases' at the start, -/
theorem index_4 : ∀ t : Fin cfg0.N, win0_4.index t = ![0, 0] := (by decide +kernel : ∀ t : Fin grid0.N, _)
/-- the first result's at the point's number, -/
theorem index_5 : ∀ t : Fin cfg0.N, win0_5.index t = ![t.val, 0, 0] := (by decide +kernel : ∀ t : Fin grid0.N, _)
/-- and the second result's too. -/
theorem index_6 : ∀ t : Fin cfg0.N, win0_6.index t = ![t.val, 0, 0] := (by decide +kernel : ∀ t : Fin grid0.N, _)

/-- There are 128 grid points. -/
theorem point_lt (t : Fin cfg0.N) : t.val < 128 := t.isLt.trans_eq (by decide +kernel)

/-- What the body loads at point `t`, entry by entry: the features of the block's cells, -/
theorem read_0 (c : Dev nD) (t : Fin cfg0.N) (a : Fin 128) (e : Fin 32) (d : Fin 128) (h : t.val * 128 + a.val < 16384) :
    (iblk m c 0 t : FVec Ideal S128x32x128 .f32) (ix3 a e d) = (m ((c : Thread nD τ).loc main_arg1) : FVec Ideal S512x32x32x128 .f32)
      (ix4 ⟨(t.val * 128 + a.val) / 32, by omega⟩ ⟨(t.val * 128 + a.val) % 32, Nat.mod_lt _ (by omega)⟩ e d) := by
  blk_ext! [iblk, V, index_0 t]
/-- and the weights, whole. -/
theorem read_1 (c : Dev nD) (t : Fin cfg0.N) (d : Fin 128) (h : Fin 256) : (iblk m c 1 t : FVec Ideal S128x256 .f32) (ix2 d h)
    = (m ((c : Thread nD τ).loc main_arg2) : FVec Ideal S128x256 .f32) (ix2 d h) := by blk_ext! [iblk, V, index_1 t]
/-- a first bias, -/
theorem read_2 (c : Dev nD) (t : Fin cfg0.N) (h : Fin 256) : (iblk m c 2 t : FVec Ideal S1x256 .f32) (ix2 0 h)
    = (m ((c : Thread nD τ).loc main_arg3) : FVec Ideal S256 .f32) (ix1 h) := by blk_ext! [iblk, V, index_2 t]
/-- a second weight, -/
theorem read_3 (c : Dev nD) (t : Fin cfg0.N) (h : Fin 256) (p : Fin 32) : (iblk m c 3 t : FVec Ideal S256x32 .f32) (ix2 h p)
    = (m ((c : Thread nD τ).loc main_arg4) : FVec Ideal S256x32 .f32) (ix2 h p) := by blk_ext! [iblk, V, index_3 t]
/-- a second bias. -/
theorem read_4 (c : Dev nD) (t : Fin cfg0.N) (p : Fin 32) : (iblk m c 4 t : FVec Ideal S1x32 .f32) (ix2 0 p)
    = (m ((c : Thread nD τ).loc main_arg5) : FVec Ideal S32 .f32) (ix1 p) := by blk_ext! [iblk, V, index_4 t]

/-- The logits of the block at point `t`, -/
def blockLogits (c : Dev nD) (t : Fin cfg0.N) : FVec Ideal S32x32x128 .f32 :=
  logits (F := Ideal) (iblk m c 0 t) (iblk m c 1 t) (iblk m c 2 t) (iblk m c 3 t) (iblk m c 4 t)

/-- which are those of the arguments at the block's cells, -/
theorem block_logits (c : Dev nD) (t : Fin cfg0.N) (p e : Fin 32) (a : Fin 128) (h : t.val * 128 + a.val < 16384) :
    blockLogits m c t (ix3 p e a) = logitOf m c ⟨(t.val * 128 + a.val) / 32, by omega⟩
      ⟨(t.val * 128 + a.val) % 32, Nat.mod_lt _ (by omega)⟩ e p := by
  unfold blockLogits
  refine (logits_at _ _ _ _ _ p e a).trans ?_
  unfold logitOf logit
  rw [read_4]
  simp only [fun d => read_0 m c t a e d h, read_1, read_2, read_3]

/-- and the picks the body stores there. -/
theorem block_perm (c : Dev nD) (t : Fin cfg0.N) (p e : Fin 32) (a : Fin 128) (h : t.val * 128 + a.val < 16384) :
    perm (blockLogits m c t) t.val (ix3 a p e) = outcome (logitOf m c) ⟨t.val * 128 + a.val, h⟩ p e := by
  rw [perm_at]
  unfold outcome
  have hl : cellLogit (blockLogits m c t) a = cellRow (logitOf m c) ⟨t.val * 128 + a.val, h⟩ :=
    funext fun q => funext fun e => block_logits m c t _ e a h
  rw [hl]

/-- The second block of a grid point is the model's outcome. -/
theorem block_inv (c : Dev nD) (t : Fin cfg0.N) (p e : Fin 32) (a : Fin 128) (h : t.val * 128 + a.val < 16384) :
    inv (blockLogits m c t) t.val (ix3 a e p) = outcome (logitOf m c) ⟨t.val * 128 + a.val, h⟩ p e :=
  (inv_at ..).trans ((perm_at ..).symm.trans (block_perm m c t p e a h))

/-- The first result array after the run, -/
theorem first_eq (c : Dev nD) : (dats m 0 c).arrAt 5 cfg0.N = first m c := by
  refine (dats m 0 c).arrAt_eq_of_covers 5 _ (by decide +kernel) fun t hf y => ?_
  blk_simp
  rw [after_5, coord_at]
  have ht := point_lt t
  have h0 : (y 0).val < 128 := (y 0).isLt
  have hy : (y : S128x32x32.Idx) = ix3 (y 0) (y 1) (y 2) := funext fun k => by fin_cases k <;> rfl
  have he : (win0_5.blk t).view.emb y = (ix3 ⟨t.val * 128 + (y 0).val, by omega⟩ (y 1) (y 2) : S16384x32x32.Idx) := by
    blk_ext [index_5 t]
  rw [he]
  refine (congrArg (perm (blockLogits m c t) t.val) hy).trans ?_
  exact block_perm m c t (y 1) (y 2) (y 0) _

/-- and the second. -/
theorem second_eq (c : Dev nD) : (dats m 0 c).arrAt 6 cfg0.N = second m c := by
  refine (dats m 0 c).arrAt_eq_of_covers 6 _ (by decide +kernel) fun t hf y => ?_
  blk_simp
  rw [after_6, coord_at]
  have ht := point_lt t
  have h0 : (y 0).val < 128 := (y 0).isLt
  have hy : (y : S128x32x32.Idx) = ix3 (y 0) (y 1) (y 2) := funext fun k => by fin_cases k <;> rfl
  have he : (win0_6.blk t).view.emb y = (ix3 ⟨t.val * 128 + (y 0).val, by omega⟩ (y 1) (y 2) : S16384x32x32.Idx) := by
    blk_ext [index_6 t]
  rw [he]
  refine (congrArg (inv (blockLogits m c t) t.val) hy).trans ?_
  exact block_inv m c t (y 2) (y 1) (y 0) _

variable (ρ : Dev nD → PrngReg)

/-- The run: the results at the outcome of the arguments. -/
theorem run_results : θ_run defs (onTc (τ := τ) (main (F := Ideal))) ⟨m, fun _ => 0, ρ⟩ (fun r => ∀ c : Dev nD,
      r.2.mem ((c.tc : Thread nD τ).loc main_v3_0) = first m c ∧ r.2.mem ((c.tc : Thread nD τ).loc main_v3_1) = second m c) :=
  (θ_run defs _ _).mono (fun _ h c => ⟨((h c).1 5).trans (first_eq m c), ((h c).1 6).trans (second_eq m c)⟩) (run_main m ρ)

end Cert.KernelIdeal.Body

end
-- ==== Proof.Ref.Ops.lean ====
/- The reference's host program as lists of operations, one per stage of the computation. Each list is the
   program's own operations in their order, at the buffers the program names. -/
module

public import proofs.«01_k».proof.ReferenceIdeal
public import proofs.«01_k».proof.Proof.Gen.ReferenceIdeal
public import Idealize.ShloMosaic.Lib.StableHlo.RunLoop
public import Idealize.ShloMosaic.Lib.Pipeline.Regions

@[expose] public section

set_option maxRecDepth 16384

noncomputable section

namespace Cert.ReferenceIdeal.Stages

open Idealize.ShloMosaic Idealize.SL.Sem
open Facts₀ Facts

variable {F : FTy → Type} [FloatOps F]

/-- The opponent of this trip, its slab of the logits, and the logits less the penalty of the cells already taken. -/
abbrev indexOps : List (HloOp τ sig (Elt F)) :=
  [StableHlo.TRef.unaryIndexed (.of main_v19_0 : StableHlo.TRef sig ⟨S32, .i32⟩) ![(.of main_v19_3 : StableHlo.TRef sig ⟨S_, .i32⟩)] (.of main_while0b_call1_v0 : StableHlo.TRef sig ⟨S1, .i32⟩) (fun x i => Host.dynamicSlice S1 x (fun k => (i k (Shape.Idx.first h_S_)).toInt) sliceFits_S32_S1),
   StableHlo.reshape main_while0b_call1_v0 main_while0b_v23 rfl shapeCasts_S1_S_,
   StableHlo.nullary main_while0b_call2_c ((constantI S_ 32 0#32) : (⟨S_, .i32⟩ : BufTy).Contents (Elt F)),
   StableHlo.binary main_while0b_v23 main_while0b_call2_c main_while0b_call2_v0 ((cmpi .slt) : (⟨S_, .i32⟩ : BufTy).Contents (Elt F) → (⟨S_, .i32⟩ : BufTy).Contents (Elt F) → (⟨S_, .i1⟩ : BufTy).Contents (Elt F)),
   StableHlo.nullary main_while0b_call2_c_0 ((constantI S_ 32 32#32) : (⟨S_, .i32⟩ : BufTy).Contents (Elt F)),
   StableHlo.binary main_while0b_v23 main_while0b_call2_c_0 main_while0b_call2_v1 (addi : (⟨S_, .i32⟩ : BufTy).Contents (Elt F) → (⟨S_, .i32⟩ : BufTy).Contents (Elt F) → (⟨S_, .i32⟩ : BufTy).Contents (Elt F)),
   StableHlo.ternary main_while0b_call2_v0 main_while0b_call2_v1 main_while0b_v23 main_while0b_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.nullary main_while0b_call2_c_1 ((constantI S_ 32 0#32) : (⟨S_, .i32⟩ : BufTy).Contents (Elt F)),
   StableHlo.nullary main_while0b_call2_c_2 ((constantI S_ 32 0#32) : (⟨S_, .i32⟩ : BufTy).Contents (Elt F)),
   StableHlo.nullary main_while0b_call2_c_3 ((constantI S_ 32 0#32) : (⟨S_, .i32⟩ : BufTy).Contents (Elt F)),
   StableHlo.TRef.unaryIndexed (.of main_v19_1 : StableHlo.TRef sig ⟨S512x32x32x32, .f32⟩) ![(.of main_while0b_call2_c_1 : StableHlo.TRef sig ⟨S_, .i32⟩), (.of main_while0b_call2_c_2 : StableHlo.TRef sig ⟨S_, .i32⟩), (.of main_while0b_call2_c_3 : StableHlo.TRef sig ⟨S_, .i32⟩), (.of main_while0b_call2_v2 : StableHlo.TRef sig ⟨S_, .i32⟩)] (.of main_while0b_call2_v3 : StableHlo.TRef sig ⟨S512x32x32x1, .f32⟩) (fun x i => Host.dynamicSlice S512x32x32x1 x (fun k => (i k (Shape.Idx.first h_S_)).toInt) sliceFits_S512x32x32x32_S512x32x32x1),
   StableHlo.reshape main_while0b_call2_v3 main_while0b_v24 rfl shapeCasts_S512x32x32x1_S512x32x32,
   StableHlo.nullary main_while0b_cst_9 (constant S_ .f32 0xFF7FC99E#32),
   StableHlo.unary main_while0b_cst_9 main_while0b_v25 (broadcastInDim S512x32x32 ![] bcast_S_S512x32x32 : (⟨S_, .f32⟩ : BufTy).Contents (Elt F) → (⟨S512x32x32, .f32⟩ : BufTy).Contents (Elt F)),
   StableHlo.binary main_v19_4 main_while0b_v25 main_while0b_v26 (mulf : (⟨S512x32x32, .f32⟩ : BufTy).Contents (Elt F) → (⟨S512x32x32, .f32⟩ : BufTy).Contents (Elt F) → (⟨S512x32x32, .f32⟩ : BufTy).Contents (Elt F)),
   StableHlo.binary main_while0b_v24 main_while0b_v26 main_while0b_v27 (addf : (⟨S512x32x32, .f32⟩ : BufTy).Contents (Elt F) → (⟨S512x32x32, .f32⟩ : BufTy).Contents (Elt F) → (⟨S512x32x32, .f32⟩ : BufTy).Contents (Elt F)),
   StableHlo.unary main_while0b_v23 main_while0b_v28 (id : (⟨S_, .i32⟩ : BufTy).Contents (Elt F) → (⟨S_, .i32⟩ : BufTy).Contents (Elt F))]

/-- The trip's number spread into two words and the running key's two words, the operands of the key's derivation. -/
abbrev foldKeyOps : List (HloOp τ sig (Elt F)) :=
  [StableHlo.nullary main_while0b_call3_c ((constantI S_ 32 32#32) : (⟨S_, .i32⟩ : BufTy).Contents (Elt F)),
   StableHlo.binary main_while0b_v28 main_while0b_call3_c main_while0b_call3_v0 (Host.shrui : (⟨S_, .i32⟩ : BufTy).Contents (Elt F) → (⟨S_, .i32⟩ : BufTy).Contents (Elt F) → (⟨S_, .i32⟩ : BufTy).Contents (Elt F)),
   StableHlo.unary main_while0b_call3_v0 main_while0b_call3_v1 ((broadcastInDim S1 ![] bcast_S_S1) : (⟨S_, .i32⟩ : BufTy).Contents (Elt F) → (⟨S1, .i32⟩ : BufTy).Contents (Elt F)),
   StableHlo.nullary main_while0b_call3_c_0 ((constantI S_ 32 4294967295#32) : (⟨S_, .i32⟩ : BufTy).Contents (Elt F)),
   StableHlo.binary main_while0b_v28 main_while0b_call3_c_0 main_while0b_call3_v2 (andi : (⟨S_, .i32⟩ : BufTy).Contents (Elt F) → (⟨S_, .i32⟩ : BufTy).Contents (Elt F) → (⟨S_, .i32⟩ : BufTy).Contents (Elt F)),
   StableHlo.unary main_while0b_call3_v2 main_while0b_call3_v3 ((broadcastInDim S1 ![] bcast_S_S1) : (⟨S_, .i32⟩ : BufTy).Contents (Elt F) → (⟨S1, .i32⟩ : BufTy).Contents (Elt F)),
   StableHlo.binary main_while0b_call3_v1 main_while0b_call3_v3 main_while0b_call3_v4 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.unary main_v19_2 main_while0b_call3_v5 ((extractStridedSlice S1 ![0] · slices_S2_S1_0) : (⟨S2, .i32⟩ : BufTy).Contents (Elt F) → (⟨S1, .i32⟩ : BufTy).Contents (Elt F)),
   StableHlo.reshape main_while0b_call3_v5 main_while0b_call3_v6 rfl shapeCasts_S1_S_,
   StableHlo.unary main_v19_2 main_while0b_call3_v7 ((extractStridedSlice S1 ![1] · slices_S2_S1_1) : (⟨S2, .i32⟩ : BufTy).Contents (Elt F) → (⟨S1, .i32⟩ : BufTy).Contents (Elt F)),
   StableHlo.reshape main_while0b_call3_v7 main_while0b_call3_v8 rfl shapeCasts_S1_S_,
   StableHlo.unary main_while0b_call3_v4 main_while0b_call3_v9 ((extractStridedSlice S1 ![0] · slices_S2_S1_0) : (⟨S2, .i32⟩ : BufTy).Contents (Elt F) → (⟨S1, .i32⟩ : BufTy).Contents (Elt F)),
   StableHlo.unary main_while0b_call3_v4 main_while0b_call3_v10 ((extractStridedSlice S1 ![1] · slices_S2_S1_1) : (⟨S2, .i32⟩ : BufTy).Contents (Elt F) → (⟨S1, .i32⟩ : BufTy).Contents (Elt F))]

/-- The first injection and four rounds, number 0 of the five that derive the trip's key. -/
abbrev fold0Ops : List (HloOp τ sig (Elt F)) :=
  [StableHlo.binary main_while0b_call3_v6 main_while0b_call3_v8 main_while0b_call3_call0_v0 (xori : (⟨S_, .i32⟩ : BufTy).Contents (Elt F) → (⟨S_, .i32⟩ : BufTy).Contents (Elt F) → (⟨S_, .i32⟩ : BufTy).Contents (Elt F)),
   StableHlo.nullary main_while0b_call3_call0_c ((constantI S_ 32 466688986#32) : (⟨S_, .i32⟩ : BufTy).Contents (Elt F)),
   StableHlo.binary main_while0b_call3_call0_v0 main_while0b_call3_call0_c main_while0b_call3_call0_v1 (xori : (⟨S_, .i32⟩ : BufTy).Contents (Elt F) → (⟨S_, .i32⟩ : BufTy).Contents (Elt F) → (⟨S_, .i32⟩ : BufTy).Contents (Elt F)),
   StableHlo.unary main_while0b_call3_v6 main_while0b_call3_call0_v2 ((broadcastInDim S1 ![] bcast_S_S1) : (⟨S_, .i32⟩ : BufTy).Contents (Elt F) → (⟨S1, .i32⟩ : BufTy).Contents (Elt F)),
   StableHlo.binary main_while0b_call3_v9 main_while0b_call3_call0_v2 main_while0b_call3_call0_v3 (addi : (⟨S1, .i32⟩ : BufTy).Contents (Elt F) → (⟨S1, .i32⟩ : BufTy).Contents (Elt F) → (⟨S1, .i32⟩ : BufTy).Contents (Elt F)),
   StableHlo.unary main_while0b_call3_v8 main_while0b_call3_call0_v4 ((broadcastInDim S1 ![] bcast_S_S1) : (⟨S_, .i32⟩ : BufTy).Contents (Elt F) → (⟨S1, .i32⟩ : BufTy).Contents (Elt F)),
   StableHlo.binary main_while0b_call3_v10 main_while0b_call3_call0_v4 main_while0b_call3_call0_v5 (addi : (⟨S1, .i32⟩ : BufTy).Contents (Elt F) → (⟨S1, .i32⟩ : BufTy).Contents (Elt F) → (⟨S1, .i32⟩ : BufTy).Contents (Elt F)),
   StableHlo.binary main_while0b_call3_call0_v3 main_while0b_call3_call0_v5 main_while0b_call3_call0_v6 (addi : (⟨S1, .i32⟩ : BufTy).Contents (Elt F) → (⟨S1, .i32⟩ : BufTy).Contents (Elt F) → (⟨S1, .i32⟩ : BufTy).Contents (Elt F)),
   StableHlo.nullary main_while0b_call3_call0_c_0 ((constantI S_ 32 13#32) : (⟨S_, .i32⟩ : BufTy).Contents (Elt F)),
   StableHlo.unary main_while0b_call3_call0_c_0 main_while0b_call3_call0_v7 ((broadcastInDim S1 ![] bcast_S_S1) : (⟨S_, .i32⟩ : BufTy).Contents (Elt F) → (⟨S1, .i32⟩ : BufTy).Contents (Elt F)),
   StableHlo.binary main_while0b_call3_call0_v5 main_while0b_call3_call0_v7 main_while0b_call3_call0_v8 (Host.shli : (⟨S1, .i32⟩ : BufTy).Contents (Elt F) → (⟨S1, .i32⟩ : BufTy).Contents (Elt F) → (⟨S1, .i32⟩ : BufTy).Contents (Elt F)),
   StableHlo.nullary main_while0b_call3_call0_c_1 ((constantI S_ 32 19#32) : (⟨S_, .i32⟩ : BufTy).Contents (Elt F)),
   StableHlo.unary main_while0b_call3_call0_c_1 main_while0b_call3_call0_v9 ((broadcastInDim S1 ![] bcast_S_S1) : (⟨S_, .i32⟩ : BufTy).Contents (Elt F) → (⟨S1, .i32⟩ : BufTy).Contents (Elt F)),
   StableHlo.binary main_while0b_call3_call0_v5 main_while0b_call3_call0_v9 main_while0b_call3_call0_v10 (Host.shrui : (⟨S1, .i32⟩ : BufTy).Contents (Elt F) → (⟨S1, .i32⟩ : BufTy).Contents (Elt F) → (⟨S1, .i32⟩ : BufTy).Contents (Elt F)),
   StableHlo.binary main_while0b_call3_call0_v8 main_while0b_call3_call0_v10 main_while0b_call3_call0_v11 (ori : (⟨S1, .i32⟩ : BufTy).Contents (Elt F) → (⟨S1, .i32⟩ : BufTy).Contents (Elt F) → (⟨S1, .i32⟩ : BufTy).Contents (Elt F)),
   StableHlo.binary main_while0b_call3_call0_v6 main_while0b_call3_call0_v11 main_while0b_call3_call0_v12 (xori : (⟨S1, .i32⟩ : BufTy).Contents (Elt F) → (⟨S1, .i32⟩ : BufTy).Contents (Elt F) → (⟨S1, .i32⟩ : BufTy).Contents (Elt F)),
   StableHlo.binary main_while0b_call3_call0_v6 main_while0b_call3_call0_v12 main_while0b_call3_call0_v13 (addi : (⟨S1, .i32⟩ : BufTy).Contents (Elt F) → (⟨S1, .i32⟩ : BufTy).Contents (Elt F) → (⟨S1, .i32⟩ : BufTy).Contents (Elt F)),
   StableHlo.nullary main_while0b_call3_call0_c_2 ((constantI S_ 32 15#32) : (⟨S_, .i32⟩ : BufTy).Contents (Elt F)),
   StableHlo.unary main_while0b_call3_call0_c_2 main_while0b_call3_call0_v14 ((broadcastInDim S1 ![] bcast_S_S1) : (⟨S_, .i32⟩ : BufTy).Contents (Elt F) → (⟨S1, .i32⟩ : BufTy).Contents (Elt F)),
   StableHlo.binary main_while0b_call3_call0_v12 main_while0b_call3_call0_v14 main_while0b_call3_call0_v15 (Host.shli : (⟨S1, .i32⟩ : BufTy).Contents (Elt F) → (⟨S1, .i32⟩ : BufTy).Contents (Elt F) → (⟨S1, .i32⟩ : BufTy).Contents (Elt F)),
   StableHlo.nullary main_while0b_call3_call0_c_3 ((constantI S_ 32 17#32) : (⟨S_, .i32⟩ : BufTy).Contents (Elt F)),
   StableHlo.unary main_while0b_call3_call0_c_3 main_while0b_call3_call0_v16 ((broadcastInDim S1 ![] bcast_S_S1) : (⟨S_, .i32⟩ : BufTy).Contents (Elt F) → (⟨S1, .i32⟩ : BufTy).Contents (Elt F)),
   StableHlo.binary main_while0b_call3_call0_v12 main_while0b_call3_call0_v16 main_while0b_call3_call0_v17 (Host.shrui : (⟨S1, .i32⟩ : BufTy).Contents (Elt F) → (⟨S1, .i32⟩ : BufTy).Contents (Elt F) → (⟨S1, .i32⟩ : BufTy).Contents (Elt F)),
   StableHlo.binary main_while0b_call3_call0_v15 main_while0b_call3_call0_v17 main_while0b_call3_call0_v18 (ori : (⟨S1, .i32⟩ : BufTy).Contents (Elt F) → (⟨S1, .i32⟩ : BufTy).Contents (Elt F) → (⟨S1, .i32⟩ : BufTy).Contents (Elt F)),
   StableHlo.binary main_while0b_call3_call0_v13 main_while0b_call3_call0_v18 main_while0b_call3_call0_v19 (xori : (⟨S1, .i32⟩ : BufTy).Contents (Elt F) → (⟨S1, .i32⟩ : BufTy).Contents (Elt F) → (⟨S1, .i32⟩ : BufTy).Contents (Elt F)),
   StableHlo.binary main_while0b_call3_call0_v13 main_while0b_call3_call0_v19 main_while0b_call3_call0_v20 (addi : (⟨S1, .i32⟩ : BufTy).Contents (Elt F) → (⟨S1, .i32⟩ : BufTy).Contents (Elt F) → (⟨S1, .i32⟩ : BufTy).Contents (Elt F)),
   StableHlo.nullary main_while0b_call3_call0_c_4 ((constantI S_ 32 26#32) : (⟨S_, .i32⟩ : BufTy).Contents (Elt F)),
   StableHlo.unary main_while0b_call3_call0_c_4 main_while0b_call3_call0_v21 ((broadcastInDim S1 ![] bcast_S_S1) : (⟨S_, .i32⟩ : BufTy).Contents (Elt F) → (⟨S1, .i32⟩ : BufTy).Contents (Elt F)),
   StableHlo.binary main_while0b_call3_call0_v19 main_while0b_call3_call0_v21 main_while0b_call3_call0_v22 (Host.shli : (⟨S1, .i32⟩ : BufTy).Contents (Elt F) → (⟨S1, .i32⟩ : BufTy).Contents (Elt F) → (⟨S1, .i32⟩ : BufTy).Contents (Elt F)),
   StableHlo.nullary main_while0b_call3_call0_c_5 ((constantI S_ 32 6#32) : (⟨S_, .i32⟩ : BufTy).Contents (Elt F)),
   StableHlo.unary main_while0b_call3_call0_c_5 main_while0b_call3_call0_v23 ((broadcastInDim S1 ![] bcast_S_S1) : (⟨S_, .i32⟩ : BufTy).Contents (Elt F) → (⟨S1, .i32⟩ : BufTy).Contents (Elt F)),
   StableHlo.binary main_while0b_call3_call0_v19 main_while0b_call3_call0_v23 main_while0b_call3_call0_v24 (Host.shrui : (⟨S1, .i32⟩ : BufTy).Contents (Elt F) → (⟨S1, .i32⟩ : BufTy).Contents (Elt F) → (⟨S1, .i32⟩ : BufTy).Contents (Elt F)),
   StableHlo.binary main_while0b_call3_call0_v22 main_while0b_call3_call0_v24 main_while0b_call3_call0_v25 (ori : (⟨S1, .i32⟩ : BufTy).Contents (Elt F) → (⟨S1, .i32⟩ : BufTy).Contents (Elt F) → (⟨S1, .i32⟩ : BufTy).Contents (Elt F)),
   StableHlo.binary main_while0b_call3_call0_v20 main_while0b_call3_call0_v25 main_while0b_call3_call0_v26 (xori : (⟨S1, .i32⟩ : BufTy).Contents (Elt F) → (⟨S1, .i32⟩ : BufTy).Contents (Elt F) → (⟨S1, .i32⟩ : BufTy).Contents (Elt F)),
   StableHlo.binary main_while0b_call3_call0_v20 main_while0b_call3_call0_v26 main_while0b_call3_call0_v27 (addi : (⟨S1, .i32⟩ : BufTy).Contents (Elt F) → (⟨S1, .i32⟩ : BufTy).Contents (Elt F) → (⟨S1, .i32⟩ : BufTy).Contents (Elt F)),
   StableHlo.nullary main_while0b_call3_call0_c_6 ((constantI S_ 32 6#32) : (⟨S_, .i32⟩ : BufTy).Contents (Elt F)),
   StableHlo.unary main_while0b_call3_call0_c_6 main_while0b_call3_call0_v28 ((broadcastInDim S1 ![] bcast_S_S1) : (⟨S_, .i32⟩ : BufTy).Contents (Elt F) → (⟨S1, .i32⟩ : BufTy).Contents (Elt F)),
   StableHlo.binary main_while0b_call3_call0_v26 main_while0b_call3_call0_v28 main_while0b_call3_call0_v29 (Host.shli : (⟨S1, .i32⟩ : BufTy).Contents (Elt F) → (⟨S1, .i32⟩ : BufTy).Contents (Elt F) → (⟨S1, .i32⟩ : BufTy).Contents (Elt F)),
   StableHlo.nullary main_while0b_call3_call0_c_7 ((constantI S_ 32 26#32) : (⟨S_, .i32⟩ : BufTy).Contents (Elt F)),
   StableHlo.unary main_while0b_call3_call0_c_7 main_while0b_call3_call0_v30 ((broadcastInDim S1 ![] bcast_S_S1) : (⟨S_, .i32⟩ : BufTy).Contents (Elt F) → (⟨S1, .i32⟩ : BufTy).Contents (Elt F)),
   StableHlo.binary main_while0b_call3_call0_v26 main_while0b_call3_call0_v30 main_while0b_call3_call0_v31 (Host.shrui : (⟨S1, .i32⟩ : BufTy).Contents (Elt F) → (⟨S1, .i32⟩ : BufTy).Contents (Elt F) → (⟨S1, .i32⟩ : BufTy).Contents (Elt F)),
   StableHlo.binary main_while0b_call3_call0_v29 main_while0b_call3_call0_v31 main_while0b_call3_call0_v32 (ori : (⟨S1, .i32⟩ : BufTy).Contents (Elt F) → (⟨S1, .i32⟩ : BufTy).Contents (Elt F) → (⟨S1, .i32⟩ : BufTy).Contents (Elt F)),
   StableHlo.binary main_while0b_call3_call0_v27 main_while0b_call3_call0_v32 main_while0b_call3_call0_v33 (xori : (⟨S1, .i32⟩ : BufTy).Contents (Elt F) → (⟨S1, .i32⟩ : BufTy).Contents (Elt F) → (⟨S1, .i32⟩ : BufTy).Contents (Elt F)),
   StableHlo.unary main_while0b_call3_v8 main_while0b_call3_call0_v34 ((broadcastInDim S1 ![] bcast_S_S1) : (⟨S_, .i32⟩ : BufTy).Contents (Elt F) → (⟨S1, .i32⟩ : BufTy).Contents (Elt F)),
   StableHlo.binary main_while0b_call3_call0_v27 main_while0b_call3_call0_v34 main_while0b_call3_call0_v35 (addi : (⟨S1, .i32⟩ : BufTy).Contents (Elt F) → (⟨S1, .i32⟩ : BufTy).Contents (Elt F) → (⟨S1, .i32⟩ : BufTy).Contents (Elt F)),
   StableHlo.unary main_while0b_call3_call0_v1 main_while0b_call3_call0_v36 ((broadcastInDim S1 ![] bcast_S_S1) : (⟨S_, .i32⟩ : BufTy).Contents (Elt F) → (⟨S1, .i32⟩ : BufTy).Contents (Elt F)),
   StableHlo.binary main_while0b_call3_call0_v33 main_while0b_call3_call0_v36 main_while0b_call3_call0_v37 (addi : (⟨S1, .i32⟩ : BufTy).Contents (Elt F) → (⟨S1, .i32⟩ : BufTy).Contents (Elt F) → (⟨S1, .i32⟩ : BufTy).Contents (Elt F)),
   StableHlo.nullary main_while0b_call3_call0_c_8 ((constantI S_ 32 1#32) : (⟨S_, .i32⟩ : BufTy).Contents (Elt F)),
   StableHlo.unary main_while0b_call3_call0_c_8 main_while0b_call3_call0_v38 ((broadcastInDim S1 ![] bcast_S_S1) : (⟨S_, .i32⟩ : BufTy).Contents (Elt F) → (⟨S1, .i32⟩ : BufTy).Contents (Elt F)),
   StableHlo.binary main_while0b_call3_call0_v37 main_while0b_call3_call0_v38 main_while0b_call3_call0_v39 (addi : (⟨S1, .i32⟩ : BufTy).Contents (Elt F) → (⟨S1, .i32⟩ : BufTy).Contents (Elt F) → (⟨S1, .i32⟩ : BufTy).Contents (Elt F))]

/-- Four rounds and an injection, number 1 of the five that derive the trip's key. -/
abbrev fold1Ops : List (HloOp τ sig (Elt F)) :=
  [StableHlo.binary main_while0b_call3_call0_v35 main_while0b_call3_call0_v39 main_while0b_call3_call0_v40 (addi : (⟨S1, .i32⟩ : BufTy).Contents (Elt F) → (⟨S1, .i32⟩ : BufTy).Contents (Elt F) → (⟨S1, .i32⟩ : BufTy).Contents (Elt F)),
   StableHlo.nullary main_while0b_call3_call0_c_9 ((constantI S_ 32 17#32) : (⟨S_, .i32⟩ : BufTy).Contents (Elt F)),
   StableHlo.unary main_while0b_call3_call0_c_9 main_while0b_call3_call0_v41 ((broadcastInDim S1 ![] bcast_S_S1) : (⟨S_, .i32⟩ : BufTy).Contents (Elt F) → (⟨S1, .i32⟩ : BufTy).Contents (Elt F)),
   StableHlo.binary main_while0b_call3_call0_v39 main_while0b_call3_call0_v41 main_while0b_call3_call0_v42 (Host.shli : (⟨S1, .i32⟩ : BufTy).Contents (Elt F) → (⟨S1, .i32⟩ : BufTy).Contents (Elt F) → (⟨S1, .i32⟩ : BufTy).Contents (Elt F)),
   StableHlo.nullary main_while0b_call3_call0_c_10 ((constantI S_ 32 15#32) : (⟨S_, .i32⟩ : BufTy).Contents (Elt F)),
   StableHlo.unary main_while0b_call3_call0_c_10 main_while0b_call3_call0_v43 ((broadcastInDim S1 ![] bcast_S_S1) : (⟨S_, .i32⟩ : BufTy).Contents (Elt F) → (⟨S1, .i32⟩ : BufTy).Contents (Elt F)),
   StableHlo.binary main_while0b_call3_call0_v39 main_while0b_call3_call0_v43 main_while0b_call3_call0_v44 (Host.shrui : (⟨S1, .i32⟩ : BufTy).Contents (Elt F) → (⟨S1, .i32⟩ : BufTy).Contents (Elt F) → (⟨S1, .i32⟩ : BufTy).Contents (Elt F)),
   StableHlo.binary main_while0b_call3_call0_v42 main_while0b_call3_call0_v44 main_while0b_call3_call0_v45 (ori : (⟨S1, .i32⟩ : BufTy).Contents (Elt F) → (⟨S1, .i32⟩ : BufTy).Contents (Elt F) → (⟨S1, .i32⟩ : BufTy).Contents (Elt F)),
   StableHlo.binary main_while0b_call3_call0_v40 main_while0b_call3_call0_v45 main_while0b_call3_call0_v46 (xori : (⟨S1, .i32⟩ : BufTy).Contents (Elt F) → (⟨S1, .i32⟩ : BufTy).Contents (Elt F) → (⟨S1, .i32⟩ : BufTy).Contents (Elt F)),
   StableHlo.binary main_while0b_call3_call0_v40 main_while0b_call3_call0_v46 main_while0b_call3_call0_v47 (addi : (⟨S1, .i32⟩ : BufTy).Contents (Elt F) → (⟨S1, .i32⟩ : BufTy).Contents (Elt F) → (⟨S1, .i32⟩ : BufTy).Contents (Elt F)),
   StableHlo.nullary main_while0b_call3_call0_c_11 ((constantI S_ 32 29#32) : (⟨S_, .i32⟩ : BufTy).Contents (Elt F)),
   StableHlo.unary main_while0b_call3_call0_c_11 main_while0b_call3_call0_v48 ((broadcastInDim S1 ![] bcast_S_S1) : (⟨S_, .i32⟩ : BufTy).Contents (Elt F) → (⟨S1, .i32⟩ : BufTy).Contents (Elt F)),
   StableHlo.binary main_while0b_call3_call0_v46 main_while0b_call3_call0_v48 main_while0b_call3_call0_v49 (Host.shli : (⟨S1, .i32⟩ : BufTy).Contents (Elt F) → (⟨S1, .i32⟩ : BufTy).Contents (Elt F) → (⟨S1, .i32⟩ : BufTy).Contents (Elt F)),
   StableHlo.nullary main_while0b_call3_call0_c_12 ((constantI S_ 32 3#32) : (⟨S_, .i32⟩ : BufTy).Contents (Elt F)),
   StableHlo.unary main_while0b_call3_call0_c_12 main_while0b_call3_call0_v50 ((broadcastInDim S1 ![] bcast_S_S1) : (⟨S_, .i32⟩ : BufTy).Contents (Elt F) → (⟨S1, .i32⟩ : BufTy).Contents (Elt F)),
   StableHlo.binary main_while0b_call3_call0_v46 main_while0b_call3_call0_v50 main_while0b_call3_call0_v51 (Host.shrui : (⟨S1, .i32⟩ : BufTy).Contents (Elt F) → (⟨S1, .i32⟩ : BufTy).Contents (Elt F) → (⟨S1, .i32⟩ : BufTy).Contents (Elt F)),
   StableHlo.binary main_while0b_call3_call0_v49 main_while0b_call3_call0_v51 main_while0b_call3_call0_v52 (ori : (⟨S1, .i32⟩ : BufTy).Contents (Elt F) → (⟨S1, .i32⟩ : BufTy).Contents (Elt F) → (⟨S1, .i32⟩ : BufTy).Contents (Elt F)),
   StableHlo.binary main_while0b_call3_call0_v47 main_while0b_call3_call0_v52 main_while0b_call3_call0_v53 (xori : (⟨S1, .i32⟩ : BufTy).Contents (Elt F) → (⟨S1, .i32⟩ : BufTy).Contents (Elt F) → (⟨S1, .i32⟩ : BufTy).Contents (Elt F)),
   StableHlo.binary main_while0b_call3_call0_v47 main_while0b_call3_call0_v53 main_while0b_call3_call0_v54 (addi : (⟨S1, .i32⟩ : BufTy).Contents (Elt F) → (⟨S1, .i32⟩ : BufTy).Contents (Elt F) → (⟨S1, .i32⟩ : BufTy).Contents (Elt F)),
   StableHlo.nullary main_while0b_call3_call0_c_13 ((constantI S_ 32 16#32) : (⟨S_, .i32⟩ : BufTy).Contents (Elt F)),
   StableHlo.unary main_while0b_call3_call0_c_13 main_while0b_call3_call0_v55 ((broadcastInDim S1 ![] bcast_S_S1) : (⟨S_, .i32⟩ : BufTy).Contents (Elt F) → (⟨S1, .i32⟩ : BufTy).Contents (Elt F)),
   StableHlo.binary main_while0b_call3_call0_v53 main_while0b_call3_call0_v55 main_while0b_call3_call0_v56 (Host.shli : (⟨S1, .i32⟩ : BufTy).Contents (Elt F) → (⟨S1, .i32⟩ : BufTy).Contents (Elt F) → (⟨S1, .i32⟩ : BufTy).Contents (Elt F)),
   StableHlo.nullary main_while0b_call3_call0_c_14 ((constantI S_ 32 16#32) : (⟨S_, .i32⟩ : BufTy).Contents (Elt F)),
   StableHlo.unary main_while0b_call3_call0_c_14 main_while0b_call3_call0_v57 ((broadcastInDim S1 ![] bcast_S_S1) : (⟨S_, .i32⟩ : BufTy).Contents (Elt F) → (⟨S1, .i32⟩ : BufTy).Contents (Elt F)),
   StableHlo.binary main_while0b_call3_call0_v53 main_while0b_call3_call0_v57 main_while0b_call3_call0_v58 (Host.shrui : (⟨S1, .i32⟩ : BufTy).Contents (Elt F) → (⟨S1, .i32⟩ : BufTy).Contents (Elt F) → (⟨S1, .i32⟩ : BufTy).Contents (Elt F)),
   StableHlo.binary main_while0b_call3_call0_v56 main_while0b_call3_call0_v58 main_while0b_call3_call0_v59 (ori : (⟨S1, .i32⟩ : BufTy).Contents (Elt F) → (⟨S1, .i32⟩ : BufTy).Contents (Elt F) → (⟨S1, .i32⟩ : BufTy).Contents (Elt F)),
   StableHlo.binary main_while0b_call3_call0_v54 main_while0b_call3_call0_v59 main_while0b_call3_call0_v60 (xori : (⟨S1, .i32⟩ : BufTy).Contents (Elt F) → (⟨S1, .i32⟩ : BufTy).Contents (Elt F) → (⟨S1, .i32⟩ : BufTy).Contents (Elt F)),
   StableHlo.binary main_while0b_call3_call0_v54 main_while0b_call3_call0_v60 main_while0b_call3_call0_v61 (addi : (⟨S1, .i32⟩ : BufTy).Contents (Elt F) → (⟨S1, .i32⟩ : BufTy).Contents (Elt F) → (⟨S1, .i32⟩ : BufTy).Contents (Elt F)),
   StableHlo.nullary main_while0b_call3_call0_c_15 ((constantI S_ 32 24#32) : (⟨S_, .i32⟩ : BufTy).Contents (Elt F)),
   StableHlo.unary main_while0b_call3_call0_c_15 main_while0b_call3_call0_v62 ((broadcastInDim S1 ![] bcast_S_S1) : (⟨S_, .i32⟩ : BufTy).Contents (Elt F) → (⟨S1, .i32⟩ : BufTy).Contents (Elt F)),
   StableHlo.binary main_while0b_call3_call0_v60 main_while0b_call3_call0_v62 main_while0b_call3_call0_v63 (Host.shli : (⟨S1, .i32⟩ : BufTy).Contents (Elt F) → (⟨S1, .i32⟩ : BufTy).Contents (Elt F) → (⟨S1, .i32⟩ : BufTy).Contents (Elt F)),
   StableHlo.nullary main_while0b_call3_call0_c_16 ((constantI S_ 32 8#32) : (⟨S_, .i32⟩ : BufTy).Contents (Elt F)),
   StableHlo.unary main_while0b_call3_call0_c_16 main_while0b_call3_call0_v64 ((broadcastInDim S1 ![] bcast_S_S1) : (⟨S_, .i32⟩ : BufTy).Contents (Elt F) → (⟨S1, .i32⟩ : BufTy).Contents (Elt F)),
   StableHlo.binary main_while0b_call3_call0_v60 main_while0b_call3_call0_v64 main_while0b_call3_call0_v65 (Host.shrui : (⟨S1, .i32⟩ : BufTy).Contents (Elt F) → (⟨S1, .i32⟩ : BufTy).Contents (Elt F) → (⟨S1, .i32⟩ : BufTy).Contents (Elt F)),
   StableHlo.binary main_while0b_call3_call0_v63 main_while0b_call3_call0_v65 main_while0b_call3_call0_v66 (ori : (⟨S1, .i32⟩ : BufTy).Contents (Elt F) → (⟨S1, .i32⟩ : BufTy).Contents (Elt F) → (⟨S1, .i32⟩ : BufTy).Contents (Elt F)),
   StableHlo.binary main_while0b_call3_call0_v61 main_while0b_call3_call0_v66 main_while0b_call3_call0_v67 (xori : (⟨S1, .i32⟩ : BufTy).Contents (Elt F) → (⟨S1, .i32⟩ : BufTy).Contents (Elt F) → (⟨S1, .i32⟩ : BufTy).Contents (Elt F)),
   StableHlo.unary main_while0b_call3_call0_v1 main_while0b_call3_call0_v68 ((broadcastInDim S1 ![] bcast_S_S1) : (⟨S_, .i32⟩ : BufTy).Contents (Elt F) → (⟨S1, .i32⟩ : BufTy).Contents (Elt F)),
   StableHlo.binary main_while0b_call3_call0_v61 main_while0b_call3_call0_v68 main_while0b_call3_call0_v69 (addi : (⟨S1, .i32⟩ : BufTy).Contents (Elt F) → (⟨S1, .i32⟩ : BufTy).Contents (Elt F) → (⟨S1, .i32⟩ : BufTy).Contents (Elt F)),
   StableHlo.unary main_while0b_call3_v6 main_while0b_call3_call0_v70 ((broadcastInDim S1 ![] bcast_S_S1) : (⟨S_, .i32⟩ : BufTy).Contents (Elt F) → (⟨S1, .i32⟩ : BufTy).Contents (Elt F)),
   StableHlo.binary main_while0b_call3_call0_v67 main_while0b_call3_call0_v70 main_while0b_call3_call0_v71 (addi : (⟨S1, .i32⟩ : BufTy).Contents (Elt F) → (⟨S1, .i32⟩ : BufTy).Contents (Elt F) → (⟨S1, .i32⟩ : BufTy).Contents (Elt F)),
   StableHlo.nullary main_while0b_call3_call0_c_17 ((constantI S_ 32 2#32) : (⟨S_, .i32⟩ : BufTy).Contents (Elt F)),
   StableHlo.unary main_while0b_call3_call0_c_17 main_while0b_call3_call0_v72 ((broadcastInDim S1 ![] bcast_S_S1) : (⟨S_, .i32⟩ : BufTy).Contents (Elt F) → (⟨S1, .i32⟩ : BufTy).Contents (Elt F)),
   StableHlo.binary main_while0b_call3_call0_v71 main_while0b_call3_call0_v72 main_while0b_call3_call0_v73 (addi : (⟨S1, .i32⟩ : BufTy).Contents (Elt F) → (⟨S1, .i32⟩ : BufTy).Contents (Elt F) → (⟨S1, .i32⟩ : BufTy).Contents (Elt F))]

/-- Four rounds and an injection, number 2 of the five that derive the trip's key. -/
abbrev fold2Ops : List (HloOp τ sig (Elt F)) :=
  [StableHlo.binary main_while0b_call3_call0_v69 main_while0b_call3_call0_v73 main_while0b_call3_call0_v74 (addi : (⟨S1, .i32⟩ : BufTy).Contents (Elt F) → (⟨S1, .i32⟩ : BufTy).Contents (Elt F) → (⟨S1, .i32⟩ : BufTy).Contents (Elt F)),
   StableHlo.nullary main_while0b_call3_call0_c_18 ((constantI S_ 32 13#32) : (⟨S_, .i32⟩ : BufTy).Contents (Elt F)),
   StableHlo.unary main_while0b_call3_call0_c_18 main_while0b_call3_call0_v75 ((broadcastInDim S1 ![] bcast_S_S1) : (⟨S_, .i32⟩ : BufTy).Contents (Elt F) → (⟨S1, .i32⟩ : BufTy).Contents (Elt F)),
   StableHlo.binary main_while0b_call3_call0_v73 main_while0b_call3_call0_v75 main_while0b_call3_call0_v76 (Host.shli : (⟨S1, .i32⟩ : BufTy).Contents (Elt F) → (⟨S1, .i32⟩ : BufTy).Contents (Elt F) → (⟨S1, .i32⟩ : BufTy).Contents (Elt F)),
   StableHlo.nullary main_while0b_call3_call0_c_19 ((constantI S_ 32 19#32) : (⟨S_, .i32⟩ : BufTy).Contents (Elt F)),
   StableHlo.unary main_while0b_call3_call0_c_19 main_while0b_call3_call0_v77 ((broadcastInDim S1 ![] bcast_S_S1) : (⟨S_, .i32⟩ : BufTy).Contents (Elt F) → (⟨S1, .i32⟩ : BufTy).Contents (Elt F)),
   StableHlo.binary main_while0b_call3_call0_v73 main_while0b_call3_call0_v77 main_while0b_call3_call0_v78 (Host.shrui : (⟨S1, .i32⟩ : BufTy).Contents (Elt F) → (⟨S1, .i32⟩ : BufTy).Contents (Elt F) → (⟨S1, .i32⟩ : BufTy).Contents (Elt F)),
   StableHlo.binary main_while0b_call3_call0_v76 main_while0b_call3_call0_v78 main_while0b_call3_call0_v79 (ori : (⟨S1, .i32⟩ : BufTy).Contents (Elt F) → (⟨S1, .i32⟩ : BufTy).Contents (Elt F) → (⟨S1, .i32⟩ : BufTy).Contents (Elt F)),
   StableHlo.binary main_while0b_call3_call0_v74 main_while0b_call3_call0_v79 main_while0b_call3_call0_v80 (xori : (⟨S1, .i32⟩ : BufTy).Contents (Elt F) → (⟨S1, .i32⟩ : BufTy).Contents (Elt F) → (⟨S1, .i32⟩ : BufTy).Contents (Elt F)),
   StableHlo.binary main_while0b_call3_call0_v74 main_while0b_call3_call0_v80 main_while0b_call3_call0_v81 (addi : (⟨S1, .i32⟩ : BufTy).Contents (Elt F) → (⟨S1, .i32⟩ : BufTy).Contents (Elt F) → (⟨S1, .i32⟩ : BufTy).Contents (Elt F)),
   StableHlo.nullary main_while0b_call3_call0_c_20 ((constantI S_ 32 15#32) : (⟨S_, .i32⟩ : BufTy).Contents (Elt F)),
   StableHlo.unary main_while0b_call3_call0_c_20 main_while0b_call3_call0_v82 ((broadcastInDim S1 ![] bcast_S_S1) : (⟨S_, .i32⟩ : BufTy).Contents (Elt F) → (⟨S1, .i32⟩ : BufTy).Contents (Elt F)),
   StableHlo.binary main_while0b_call3_call0_v80 main_while0b_call3_call0_v82 main_while0b_call3_call0_v83 (Host.shli : (⟨S1, .i32⟩ : BufTy).Contents (Elt F) → (⟨S1, .i32⟩ : BufTy).Contents (Elt F) → (⟨S1, .i32⟩ : BufTy).Contents (Elt F)),
   StableHlo.nullary main_while0b_call3_call0_c_21 ((constantI S_ 32 17#32) : (⟨S_, .i32⟩ : BufTy).Contents (Elt F)),
   StableHlo.unary main_while0b_call3_call0_c_21 main_while0b_call3_call0_v84 ((broadcastInDim S1 ![] bcast_S_S1) : (⟨S_, .i32⟩ : BufTy).Contents (Elt F) → (⟨S1, .i32⟩ : BufTy).Contents (Elt F)),
   StableHlo.binary main_while0b_call3_call0_v80 main_while0b_call3_call0_v84 main_while0b_call3_call0_v85 (Host.shrui : (⟨S1, .i32⟩ : BufTy).Contents (Elt F) → (⟨S1, .i32⟩ : BufTy).Contents (Elt F) → (⟨S1, .i32⟩ : BufTy).Contents (Elt F)),
   StableHlo.binary main_while0b_call3_call0_v83 main_while0b_call3_call0_v85 main_while0b_call3_call0_v86 (ori : (⟨S1, .i32⟩ : BufTy).Contents (Elt F) → (⟨S1, .i32⟩ : BufTy).Contents (Elt F) → (⟨S1, .i32⟩ : BufTy).Contents (Elt F)),
   StableHlo.binary main_while0b_call3_call0_v81 main_while0b_call3_call0_v86 main_while0b_call3_call0_v87 (xori : (⟨S1, .i32⟩ : BufTy).Contents (Elt F) → (⟨S1, .i32⟩ : BufTy).Contents (Elt F) → (⟨S1, .i32⟩ : BufTy).Contents (Elt F)),
   StableHlo.binary main_while0b_call3_call0_v81 main_while0b_call3_call0_v87 main_while0b_call3_call0_v88 (addi : (⟨S1, .i32⟩ : BufTy).Contents (Elt F) → (⟨S1, .i32⟩ : BufTy).Contents (Elt F) → (⟨S1, .i32⟩ : BufTy).Contents (Elt F)),
   StableHlo.nullary main_while0b_call3_call0_c_22 ((constantI S_ 32 26#32) : (⟨S_, .i32⟩ : BufTy).Contents (Elt F)),
   StableHlo.unary main_while0b_call3_call0_c_22 main_while0b_call3_call0_v89 ((broadcastInDim S1 ![] bcast_S_S1) : (⟨S_, .i32⟩ : BufTy).Contents (Elt F) → (⟨S1, .i32⟩ : BufTy).Contents (Elt F)),
   StableHlo.binary main_while0b_call3_call0_v87 main_while0b_call3_call0_v89 main_while0b_call3_call0_v90 (Host.shli : (⟨S1, .i32⟩ : BufTy).Contents (Elt F) → (⟨S1, .i32⟩ : BufTy).Contents (Elt F) → (⟨S1, .i32⟩ : BufTy).Contents (Elt F)),
   StableHlo.nullary main_while0b_call3_call0_c_23 ((constantI S_ 32 6#32) : (⟨S_, .i32⟩ : BufTy).Contents (Elt F)),
   StableHlo.unary main_while0b_call3_call0_c_23 main_while0b_call3_call0_v91 ((broadcastInDim S1 ![] bcast_S_S1) : (⟨S_, .i32⟩ : BufTy).Contents (Elt F) → (⟨S1, .i32⟩ : BufTy).Contents (Elt F)),
   StableHlo.binary main_while0b_call3_call0_v87 main_while0b_call3_call0_v91 main_while0b_call3_call0_v92 (Host.shrui : (⟨S1, .i32⟩ : BufTy).Contents (Elt F) → (⟨S1, .i32⟩ : BufTy).Contents (Elt F) → (⟨S1, .i32⟩ : BufTy).Contents (Elt F)),
   StableHlo.binary main_while0b_call3_call0_v90 main_while0b_call3_call0_v92 main_while0b_call3_call0_v93 (ori : (⟨S1, .i32⟩ : BufTy).Contents (Elt F) → (⟨S1, .i32⟩ : BufTy).Contents (Elt F) → (⟨S1, .i32⟩ : BufTy).Contents (Elt F)),
   StableHlo.binary main_while0b_call3_call0_v88 main_while0b_call3_call0_v93 main_while0b_call3_call0_v94 (xori : (⟨S1, .i32⟩ : BufTy).Contents (Elt F) → (⟨S1, .i32⟩ : BufTy).Contents (Elt F) → (⟨S1, .i32⟩ : BufTy).Contents (Elt F)),
   StableHlo.binary main_while0b_call3_call0_v88 main_while0b_call3_call0_v94 main_while0b_call3_call0_v95 (addi : (⟨S1, .i32⟩ : BufTy).Contents (Elt F) → (⟨S1, .i32⟩ : BufTy).Contents (Elt F) → (⟨S1, .i32⟩ : BufTy).Contents (Elt F)),
   StableHlo.nullary main_while0b_call3_call0_c_24 ((constantI S_ 32 6#32) : (⟨S_, .i32⟩ : BufTy).Contents (Elt F)),
   StableHlo.unary main_while0b_call3_call0_c_24 main_while0b_call3_call0_v96 ((broadcastInDim S1 ![] bcast_S_S1) : (⟨S_, .i32⟩ : BufTy).Contents (Elt F) → (⟨S1, .i32⟩ : BufTy).Contents (Elt F)),
   StableHlo.binary main_while0b_call3_call0_v94 main_while0b_call3_call0_v96 main_while0b_call3_call0_v97 (Host.shli : (⟨S1, .i32⟩ : BufTy).Contents (Elt F) → (⟨S1, .i32⟩ : BufTy).Contents (Elt F) → (⟨S1, .i32⟩ : BufTy).Contents (Elt F)),
   StableHlo.nullary main_while0b_call3_call0_c_25 ((constantI S_ 32 26#32) : (⟨S_, .i32⟩ : BufTy).Contents (Elt F)),
   StableHlo.unary main_while0b_call3_call0_c_25 main_while0b_call3_call0_v98 ((broadcastInDim S1 ![] bcast_S_S1) : (⟨S_, .i32⟩ : BufTy).Contents (Elt F) → (⟨S1, .i32⟩ : BufTy).Contents (Elt F)),
   StableHlo.binary main_while0b_call3_call0_v94 main_while0b_call3_call0_v98 main_while0b_call3_call0_v99 (Host.shrui : (⟨S1, .i32⟩ : BufTy).Contents (Elt F) → (⟨S1, .i32⟩ : BufTy).Contents (Elt F) → (⟨S1, .i32⟩ : BufTy).Contents (Elt F)),
   StableHlo.binary main_while0b_call3_call0_v97 main_while0b_call3_call0_v99 main_while0b_call3_call0_v100 (ori : (⟨S1, .i32⟩ : BufTy).Contents (Elt F) → (⟨S1, .i32⟩ : BufTy).Contents (Elt F) → (⟨S1, .i32⟩ : BufTy).Contents (Elt F)),
   StableHlo.binary main_while0b_call3_call0_v95 main_while0b_call3_call0_v100 main_while0b_call3_call0_v101 (xori : (⟨S1, .i32⟩ : BufTy).Contents (Elt F) → (⟨S1, .i32⟩ : BufTy).Contents (Elt F) → (⟨S1, .i32⟩ : BufTy).Contents (Elt F)),
   StableHlo.unary main_while0b_call3_v6 main_while0b_call3_call0_v102 ((broadcastInDim S1 ![] bcast_S_S1) : (⟨S_, .i32⟩ : BufTy).Contents (Elt F) → (⟨S1, .i32⟩ : BufTy).Contents (Elt F)),
   StableHlo.binary main_while0b_call3_call0_v95 main_while0b_call3_call0_v102 main_while0b_call3_call0_v103 (addi : (⟨S1, .i32⟩ : BufTy).Contents (Elt F) → (⟨S1, .i32⟩ : BufTy).Contents (Elt F) → (⟨S1, .i32⟩ : BufTy).Contents (Elt F)),
   StableHlo.unary main_while0b_call3_v8 main_while0b_call3_call0_v104 ((broadcastInDim S1 ![] bcast_S_S1) : (⟨S_, .i32⟩ : BufTy).Contents (Elt F) → (⟨S1, .i32⟩ : BufTy).Contents (Elt F)),
   StableHlo.binary main_while0b_call3_call0_v101 main_while0b_call3_call0_v104 main_while0b_call3_call0_v105 (addi : (⟨S1, .i32⟩ : BufTy).Contents (Elt F) → (⟨S1, .i32⟩ : BufTy).Contents (Elt F) → (⟨S1, .i32⟩ : BufTy).Contents (Elt F)),
   StableHlo.nullary main_while0b_call3_call0_c_26 ((constantI S_ 32 3#32) : (⟨S_, .i32⟩ : BufTy).Contents (Elt F)),
   StableHlo.unary main_while0b_call3_call0_c_26 main_while0b_call3_call0_v106 ((broadcastInDim S1 ![] bcast_S_S1) : (⟨S_, .i32⟩ : BufTy).Contents (Elt F) → (⟨S1, .i32⟩ : BufTy).Contents (Elt F)),
   StableHlo.binary main_while0b_call3_call0_v105 main_while0b_call3_call0_v106 main_while0b_call3_call0_v107 (addi : (⟨S1, .i32⟩ : BufTy).Contents (Elt F) → (⟨S1, .i32⟩ : BufTy).Contents (Elt F) → (⟨S1, .i32⟩ : BufTy).Contents (Elt F))]

/-- Four rounds and an injection, number 3 of the five that derive the trip's key. -/
abbrev fold3Ops : List (HloOp τ sig (Elt F)) :=
  [StableHlo.binary main_while0b_call3_call0_v103 main_while0b_call3_call0_v107 main_while0b_call3_call0_v108 (addi : (⟨S1, .i32⟩ : BufTy).Contents (Elt F) → (⟨S1, .i32⟩ : BufTy).Contents (Elt F) → (⟨S1, .i32⟩ : BufTy).Contents (Elt F)),
   StableHlo.nullary main_while0b_call3_call0_c_27 ((constantI S_ 32 17#32) : (⟨S_, .i32⟩ : BufTy).Contents (Elt F)),
   StableHlo.unary main_while0b_call3_call0_c_27 main_while0b_call3_call0_v109 ((broadcastInDim S1 ![] bcast_S_S1) : (⟨S_, .i32⟩ : BufTy).Contents (Elt F) → (⟨S1, .i32⟩ : BufTy).Contents (Elt F)),
   StableHlo.binary main_while0b_call3_call0_v107 main_while0b_call3_call0_v109 main_while0b_call3_call0_v110 (Host.shli : (⟨S1, .i32⟩ : BufTy).Contents (Elt F) → (⟨S1, .i32⟩ : BufTy).Contents (Elt F) → (⟨S1, .i32⟩ : BufTy).Contents (Elt F)),
   StableHlo.nullary main_while0b_call3_call0_c_28 ((constantI S_ 32 15#32) : (⟨S_, .i32⟩ : BufTy).Contents (Elt F)),
   StableHlo.unary main_while0b_call3_call0_c_28 main_while0b_call3_call0_v111 ((broadcastInDim S1 ![] bcast_S_S1) : (⟨S_, .i32⟩ : BufTy).Contents (Elt F) → (⟨S1, .i32⟩ : BufTy).Contents (Elt F)),
   StableHlo.binary main_while0b_call3_call0_v107 main_while0b_call3_call0_v111 main_while0b_call3_call0_v112 (Host.shrui : (⟨S1, .i32⟩ : BufTy).Contents (Elt F) → (⟨S1, .i32⟩ : BufTy).Contents (Elt F) → (⟨S1, .i32⟩ : BufTy).Contents (Elt F)),
   StableHlo.binary main_while0b_call3_call0_v110 main_while0b_call3_call0_v112 main_while0b_call3_call0_v113 (ori : (⟨S1, .i32⟩ : BufTy).Contents (Elt F) → (⟨S1, .i32⟩ : BufTy).Contents (Elt F) → (⟨S1, .i32⟩ : BufTy).Contents (Elt F)),
   StableHlo.binary main_while0b_call3_call0_v108 main_while0b_call3_call0_v113 main_while0b_call3_call0_v114 (xori : (⟨S1, .i32⟩ : BufTy).Contents (Elt F) → (⟨S1, .i32⟩ : BufTy).Contents (Elt F) → (⟨S1, .i32⟩ : BufTy).Contents (Elt F)),
   StableHlo.binary main_while0b_call3_call0_v108 main_while0b_call3_call0_v114 main_while0b_call3_call0_v115 (addi : (⟨S1, .i32⟩ : BufTy).Contents (Elt F) → (⟨S1, .i32⟩ : BufTy).Contents (Elt F) → (⟨S1, .i32⟩ : BufTy).Contents (Elt F)),
   StableHlo.nullary main_while0b_call3_call0_c_29 ((constantI S_ 32 29#32) : (⟨S_, .i32⟩ : BufTy).Contents (Elt F)),
   StableHlo.unary main_while0b_call3_call0_c_29 main_while0b_call3_call0_v116 ((broadcastInDim S1 ![] bcast_S_S1) : (⟨S_, .i32⟩ : BufTy).Contents (Elt F) → (⟨S1, .i32⟩ : BufTy).Contents (Elt F)),
   StableHlo.binary main_while0b_call3_call0_v114 main_while0b_call3_call0_v116 main_while0b_call3_call0_v117 (Host.shli : (⟨S1, .i32⟩ : BufTy).Contents (Elt F) → (⟨S1, .i32⟩ : BufTy).Contents (Elt F) → (⟨S1, .i32⟩ : BufTy).Contents (Elt F)),
   StableHlo.nullary main_while0b_call3_call0_c_30 ((constantI S_ 32 3#32) : (⟨S_, .i32⟩ : BufTy).Contents (Elt F)),
   StableHlo.unary main_while0b_call3_call0_c_30 main_while0b_call3_call0_v118 ((broadcastInDim S1 ![] bcast_S_S1) : (⟨S_, .i32⟩ : BufTy).Contents (Elt F) → (⟨S1, .i32⟩ : BufTy).Contents (Elt F)),
   StableHlo.binary main_while0b_call3_call0_v114 main_while0b_call3_call0_v118 main_while0b_call3_call0_v119 (Host.shrui : (⟨S1, .i32⟩ : BufTy).Contents (Elt F) → (⟨S1, .i32⟩ : BufTy).Contents (Elt F) → (⟨S1, .i32⟩ : BufTy).Contents (Elt F)),
   StableHlo.binary main_while0b_call3_call0_v117 main_while0b_call3_call0_v119 main_while0b_call3_call0_v120 (ori : (⟨S1, .i32⟩ : BufTy).Contents (Elt F) → (⟨S1, .i32⟩ : BufTy).Contents (Elt F) → (⟨S1, .i32⟩ : BufTy).Contents (Elt F)),
   StableHlo.binary main_while0b_call3_call0_v115 main_while0b_call3_call0_v120 main_while0b_call3_call0_v121 (xori : (⟨S1, .i32⟩ : BufTy).Contents (Elt F) → (⟨S1, .i32⟩ : BufTy).Contents (Elt F) → (⟨S1, .i32⟩ : BufTy).Contents (Elt F)),
   StableHlo.binary main_while0b_call3_call0_v115 main_while0b_call3_call0_v121 main_while0b_call3_call0_v122 (addi : (⟨S1, .i32⟩ : BufTy).Contents (Elt F) → (⟨S1, .i32⟩ : BufTy).Contents (Elt F) → (⟨S1, .i32⟩ : BufTy).Contents (Elt F)),
   StableHlo.nullary main_while0b_call3_call0_c_31 ((constantI S_ 32 16#32) : (⟨S_, .i32⟩ : BufTy).Contents (Elt F)),
   StableHlo.unary main_while0b_call3_call0_c_31 main_while0b_call3_call0_v123 ((broadcastInDim S1 ![] bcast_S_S1) : (⟨S_, .i32⟩ : BufTy).Contents (Elt F) → (⟨S1, .i32⟩ : BufTy).Contents (Elt F)),
   StableHlo.binary main_while0b_call3_call0_v121 main_while0b_call3_call0_v123 main_while0b_call3_call0_v124 (Host.shli : (⟨S1, .i32⟩ : BufTy).Contents (Elt F) → (⟨S1, .i32⟩ : BufTy).Contents (Elt F) → (⟨S1, .i32⟩ : BufTy).Contents (Elt F)),
   StableHlo.nullary main_while0b_call3_call0_c_32 ((constantI S_ 32 16#32) : (⟨S_, .i32⟩ : BufTy).Contents (Elt F)),
   StableHlo.unary main_while0b_call3_call0_c_32 main_while0b_call3_call0_v125 ((broadcastInDim S1 ![] bcast_S_S1) : (⟨S_, .i32⟩ : BufTy).Contents (Elt F) → (⟨S1, .i32⟩ : BufTy).Contents (Elt F)),
   StableHlo.binary main_while0b_call3_call0_v121 main_while0b_call3_call0_v125 main_while0b_call3_call0_v126 (Host.shrui : (⟨S1, .i32⟩ : BufTy).Contents (Elt F) → (⟨S1, .i32⟩ : BufTy).Contents (Elt F) → (⟨S1, .i32⟩ : BufTy).Contents (Elt F)),
   StableHlo.binary main_while0b_call3_call0_v124 main_while0b_call3_call0_v126 main_while0b_call3_call0_v127 (ori : (⟨S1, .i32⟩ : BufTy).Contents (Elt F) → (⟨S1, .i32⟩ : BufTy).Contents (Elt F) → (⟨S1, .i32⟩ : BufTy).Contents (Elt F)),
   StableHlo.binary main_while0b_call3_call0_v122 main_while0b_call3_call0_v127 main_while0b_call3_call0_v128 (xori : (⟨S1, .i32⟩ : BufTy).Contents (Elt F) → (⟨S1, .i32⟩ : BufTy).Contents (Elt F) → (⟨S1, .i32⟩ : BufTy).Contents (Elt F)),
   StableHlo.binary main_while0b_call3_call0_v122 main_while0b_call3_call0_v128 main_while0b_call3_call0_v129 (addi : (⟨S1, .i32⟩ : BufTy).Contents (Elt F) → (⟨S1, .i32⟩ : BufTy).Contents (Elt F) → (⟨S1, .i32⟩ : BufTy).Contents (Elt F)),
   StableHlo.nullary main_while0b_call3_call0_c_33 ((constantI S_ 32 24#32) : (⟨S_, .i32⟩ : BufTy).Contents (Elt F)),
   StableHlo.unary main_while0b_call3_call0_c_33 main_while0b_call3_call0_v130 ((broadcastInDim S1 ![] bcast_S_S1) : (⟨S_, .i32⟩ : BufTy).Contents (Elt F) → (⟨S1, .i32⟩ : BufTy).Contents (Elt F)),
   StableHlo.binary main_while0b_call3_call0_v128 main_while0b_call3_call0_v130 main_while0b_call3_call0_v131 (Host.shli : (⟨S1, .i32⟩ : BufTy).Contents (Elt F) → (⟨S1, .i32⟩ : BufTy).Contents (Elt F) → (⟨S1, .i32⟩ : BufTy).Contents (Elt F)),
   StableHlo.nullary main_while0b_call3_call0_c_34 ((constantI S_ 32 8#32) : (⟨S_, .i32⟩ : BufTy).Contents (Elt F)),
   StableHlo.unary main_while0b_call3_call0_c_34 main_while0b_call3_call0_v132 ((broadcastInDim S1 ![] bcast_S_S1) : (⟨S_, .i32⟩ : BufTy).Contents (Elt F) → (⟨S1, .i32⟩ : BufTy).Contents (Elt F)),
   StableHlo.binary main_while0b_call3_call0_v128 main_while0b_call3_call0_v132 main_while0b_call3_call0_v133 (Host.shrui : (⟨S1, .i32⟩ : BufTy).Contents (Elt F) → (⟨S1, .i32⟩ : BufTy).Contents (Elt F) → (⟨S1, .i32⟩ : BufTy).Contents (Elt F)),
   StableHlo.binary main_while0b_call3_call0_v131 main_while0b_call3_call0_v133 main_while0b_call3_call0_v134 (ori : (⟨S1, .i32⟩ : BufTy).Contents (Elt F) → (⟨S1, .i32⟩ : BufTy).Contents (Elt F) → (⟨S1, .i32⟩ : BufTy).Contents (Elt F)),
   StableHlo.binary main_while0b_call3_call0_v129 main_while0b_call3_call0_v134 main_while0b_call3_call0_v135 (xori : (⟨S1, .i32⟩ : BufTy).Contents (Elt F) → (⟨S1, .i32⟩ : BufTy).Contents (Elt F) → (⟨S1, .i32⟩ : BufTy).Contents (Elt F)),
   StableHlo.unary main_while0b_call3_v8 main_while0b_call3_call0_v136 ((broadcastInDim S1 ![] bcast_S_S1) : (⟨S_, .i32⟩ : BufTy).Contents (Elt F) → (⟨S1, .i32⟩ : BufTy).Contents (Elt F)),
   StableHlo.binary main_while0b_call3_call0_v129 main_while0b_call3_call0_v136 main_while0b_call3_call0_v137 (addi : (⟨S1, .i32⟩ : BufTy).Contents (Elt F) → (⟨S1, .i32⟩ : BufTy).Contents (Elt F) → (⟨S1, .i32⟩ : BufTy).Contents (Elt F)),
   StableHlo.unary main_while0b_call3_call0_v1 main_while0b_call3_call0_v138 ((broadcastInDim S1 ![] bcast_S_S1) : (⟨S_, .i32⟩ : BufTy).Contents (Elt F) → (⟨S1, .i32⟩ : BufTy).Contents (Elt F)),
   StableHlo.binary main_while0b_call3_call0_v135 main_while0b_call3_call0_v138 main_while0b_call3_call0_v139 (addi : (⟨S1, .i32⟩ : BufTy).Contents (Elt F) → (⟨S1, .i32⟩ : BufTy).Contents (Elt F) → (⟨S1, .i32⟩ : BufTy).Contents (Elt F)),
   StableHlo.nullary main_while0b_call3_call0_c_35 ((constantI S_ 32 4#32) : (⟨S_, .i32⟩ : BufTy).Contents (Elt F)),
   StableHlo.unary main_while0b_call3_call0_c_35 main_while0b_call3_call0_v140 ((broadcastInDim S1 ![] bcast_S_S1) : (⟨S_, .i32⟩ : BufTy).Contents (Elt F) → (⟨S1, .i32⟩ : BufTy).Contents (Elt F)),
   StableHlo.binary main_while0b_call3_call0_v139 main_while0b_call3_call0_v140 main_while0b_call3_call0_v141 (addi : (⟨S1, .i32⟩ : BufTy).Contents (Elt F) → (⟨S1, .i32⟩ : BufTy).Contents (Elt F) → (⟨S1, .i32⟩ : BufTy).Contents (Elt F))]

/-- Four rounds and an injection, number 4 of the five that derive the trip's key. -/
abbrev fold4Ops : List (HloOp τ sig (Elt F)) :=
  [StableHlo.binary main_while0b_call3_call0_v137 main_while0b_call3_call0_v141 main_while0b_call3_call0_v142 (addi : (⟨S1, .i32⟩ : BufTy).Contents (Elt F) → (⟨S1, .i32⟩ : BufTy).Contents (Elt F) → (⟨S1, .i32⟩ : BufTy).Contents (Elt F)),
   StableHlo.nullary main_while0b_call3_call0_c_36 ((constantI S_ 32 13#32) : (⟨S_, .i32⟩ : BufTy).Contents (Elt F)),
   StableHlo.unary main_while0b_call3_call0_c_36 main_while0b_call3_call0_v143 ((broadcastInDim S1 ![] bcast_S_S1) : (⟨S_, .i32⟩ : BufTy).Contents (Elt F) → (⟨S1, .i32⟩ : BufTy).Contents (Elt F)),
   StableHlo.binary main_while0b_call3_call0_v141 main_while0b_call3_call0_v143 main_while0b_call3_call0_v144 (Host.shli : (⟨S1, .i32⟩ : BufTy).Contents (Elt F) → (⟨S1, .i32⟩ : BufTy).Contents (Elt F) → (⟨S1, .i32⟩ : BufTy).Contents (Elt F)),
   StableHlo.nullary main_while0b_call3_call0_c_37 ((constantI S_ 32 19#32) : (⟨S_, .i32⟩ : BufTy).Contents (Elt F)),
   StableHlo.unary main_while0b_call3_call0_c_37 main_while0b_call3_call0_v145 ((broadcastInDim S1 ![] bcast_S_S1) : (⟨S_, .i32⟩ : BufTy).Contents (Elt F) → (⟨S1, .i32⟩ : BufTy).Contents (Elt F)),
   StableHlo.binary main_while0b_call3_call0_v141 main_while0b_call3_call0_v145 main_while0b_call3_call0_v146 (Host.shrui : (⟨S1, .i32⟩ : BufTy).Contents (Elt F) → (⟨S1, .i32⟩ : BufTy).Contents (Elt F) → (⟨S1, .i32⟩ : BufTy).Contents (Elt F)),
   StableHlo.binary main_while0b_call3_call0_v144 main_while0b_call3_call0_v146 main_while0b_call3_call0_v147 (ori : (⟨S1, .i32⟩ : BufTy).Contents (Elt F) → (⟨S1, .i32⟩ : BufTy).Contents (Elt F) → (⟨S1, .i32⟩ : BufTy).Contents (Elt F)),
   StableHlo.binary main_while0b_call3_call0_v142 main_while0b_call3_call0_v147 main_while0b_call3_call0_v148 (xori : (⟨S1, .i32⟩ : BufTy).Contents (Elt F) → (⟨S1, .i32⟩ : BufTy).Contents (Elt F) → (⟨S1, .i32⟩ : BufTy).Contents (Elt F)),
   StableHlo.binary main_while0b_call3_call0_v142 main_while0b_call3_call0_v148 main_while0b_call3_call0_v149 (addi : (⟨S1, .i32⟩ : BufTy).Contents (Elt F) → (⟨S1, .i32⟩ : BufTy).Contents (Elt F) → (⟨S1, .i32⟩ : BufTy).Contents (Elt F)),
   StableHlo.nullary main_while0b_call3_call0_c_38 ((constantI S_ 32 15#32) : (⟨S_, .i32⟩ : BufTy).Contents (Elt F)),
   StableHlo.unary main_while0b_call3_call0_c_38 main_while0b_call3_call0_v150 ((broadcastInDim S1 ![] bcast_S_S1) : (⟨S_, .i32⟩ : BufTy).Contents (Elt F) → (⟨S1, .i32⟩ : BufTy).Contents (Elt F)),
   StableHlo.binary main_while0b_call3_call0_v148 main_while0b_call3_call0_v150 main_while0b_call3_call0_v151 (Host.shli : (⟨S1, .i32⟩ : BufTy).Contents (Elt F) → (⟨S1, .i32⟩ : BufTy).Contents (Elt F) → (⟨S1, .i32⟩ : BufTy).Contents (Elt F)),
   StableHlo.nullary main_while0b_call3_call0_c_39 ((constantI S_ 32 17#32) : (⟨S_, .i32⟩ : BufTy).Contents (Elt F)),
   StableHlo.unary main_while0b_call3_call0_c_39 main_while0b_call3_call0_v152 ((broadcastInDim S1 ![] bcast_S_S1) : (⟨S_, .i32⟩ : BufTy).Contents (Elt F) → (⟨S1, .i32⟩ : BufTy).Contents (Elt F)),
   StableHlo.binary main_while0b_call3_call0_v148 main_while0b_call3_call0_v152 main_while0b_call3_call0_v153 (Host.shrui : (⟨S1, .i32⟩ : BufTy).Contents (Elt F) → (⟨S1, .i32⟩ : BufTy).Contents (Elt F) → (⟨S1, .i32⟩ : BufTy).Contents (Elt F)),
   StableHlo.binary main_while0b_call3_call0_v151 main_while0b_call3_call0_v153 main_while0b_call3_call0_v154 (ori : (⟨S1, .i32⟩ : BufTy).Contents (Elt F) → (⟨S1, .i32⟩ : BufTy).Contents (Elt F) → (⟨S1, .i32⟩ : BufTy).Contents (Elt F)),
   StableHlo.binary main_while0b_call3_call0_v149 main_while0b_call3_call0_v154 main_while0b_call3_call0_v155 (xori : (⟨S1, .i32⟩ : BufTy).Contents (Elt F) → (⟨S1, .i32⟩ : BufTy).Contents (Elt F) → (⟨S1, .i32⟩ : BufTy).Contents (Elt F)),
   StableHlo.binary main_while0b_call3_call0_v149 main_while0b_call3_call0_v155 main_while0b_call3_call0_v156 (addi : (⟨S1, .i32⟩ : BufTy).Contents (Elt F) → (⟨S1, .i32⟩ : BufTy).Contents (Elt F) → (⟨S1, .i32⟩ : BufTy).Contents (Elt F)),
   StableHlo.nullary main_while0b_call3_call0_c_40 ((constantI S_ 32 26#32) : (⟨S_, .i32⟩ : BufTy).Contents (Elt F)),
   StableHlo.unary main_while0b_call3_call0_c_40 main_while0b_call3_call0_v157 ((broadcastInDim S1 ![] bcast_S_S1) : (⟨S_, .i32⟩ : BufTy).Contents (Elt F) → (⟨S1, .i32⟩ : BufTy).Contents (Elt F)),
   StableHlo.binary main_while0b_call3_call0_v155 main_while0b_call3_call0_v157 main_while0b_call3_call0_v158 (Host.shli : (⟨S1, .i32⟩ : BufTy).Contents (Elt F) → (⟨S1, .i32⟩ : BufTy).Contents (Elt F) → (⟨S1, .i32⟩ : BufTy).Contents (Elt F)),
   StableHlo.nullary main_while0b_call3_call0_c_41 ((constantI S_ 32 6#32) : (⟨S_, .i32⟩ : BufTy).Contents (Elt F)),
   StableHlo.unary main_while0b_call3_call0_c_41 main_while0b_call3_call0_v159 ((broadcastInDim S1 ![] bcast_S_S1) : (⟨S_, .i32⟩ : BufTy).Contents (Elt F) → (⟨S1, .i32⟩ : BufTy).Contents (Elt F)),
   StableHlo.binary main_while0b_call3_call0_v155 main_while0b_call3_call0_v159 main_while0b_call3_call0_v160 (Host.shrui : (⟨S1, .i32⟩ : BufTy).Contents (Elt F) → (⟨S1, .i32⟩ : BufTy).Contents (Elt F) → (⟨S1, .i32⟩ : BufTy).Contents (Elt F)),
   StableHlo.binary main_while0b_call3_call0_v158 main_while0b_call3_call0_v160 main_while0b_call3_call0_v161 (ori : (⟨S1, .i32⟩ : BufTy).Contents (Elt F) → (⟨S1, .i32⟩ : BufTy).Contents (Elt F) → (⟨S1, .i32⟩ : BufTy).Contents (Elt F)),
   StableHlo.binary main_while0b_call3_call0_v156 main_while0b_call3_call0_v161 main_while0b_call3_call0_v162 (xori : (⟨S1, .i32⟩ : BufTy).Contents (Elt F) → (⟨S1, .i32⟩ : BufTy).Contents (Elt F) → (⟨S1, .i32⟩ : BufTy).Contents (Elt F)),
   StableHlo.binary main_while0b_call3_call0_v156 main_while0b_call3_call0_v162 main_while0b_call3_call0_v163 (addi : (⟨S1, .i32⟩ : BufTy).Contents (Elt F) → (⟨S1, .i32⟩ : BufTy).Contents (Elt F) → (⟨S1, .i32⟩ : BufTy).Contents (Elt F)),
   StableHlo.nullary main_while0b_call3_call0_c_42 ((constantI S_ 32 6#32) : (⟨S_, .i32⟩ : BufTy).Contents (Elt F)),
   StableHlo.unary main_while0b_call3_call0_c_42 main_while0b_call3_call0_v164 ((broadcastInDim S1 ![] bcast_S_S1) : (⟨S_, .i32⟩ : BufTy).Contents (Elt F) → (⟨S1, .i32⟩ : BufTy).Contents (Elt F)),
   StableHlo.binary main_while0b_call3_call0_v162 main_while0b_call3_call0_v164 main_while0b_call3_call0_v165 (Host.shli : (⟨S1, .i32⟩ : BufTy).Contents (Elt F) → (⟨S1, .i32⟩ : BufTy).Contents (Elt F) → (⟨S1, .i32⟩ : BufTy).Contents (Elt F)),
   StableHlo.nullary main_while0b_call3_call0_c_43 ((constantI S_ 32 26#32) : (⟨S_, .i32⟩ : BufTy).Contents (Elt F)),
   StableHlo.unary main_while0b_call3_call0_c_43 main_while0b_call3_call0_v166 ((broadcastInDim S1 ![] bcast_S_S1) : (⟨S_, .i32⟩ : BufTy).Contents (Elt F) → (⟨S1, .i32⟩ : BufTy).Contents (Elt F)),
   StableHlo.binary main_while0b_call3_call0_v162 main_while0b_call3_call0_v166 main_while0b_call3_call0_v167 (Host.shrui : (⟨S1, .i32⟩ : BufTy).Contents (Elt F) → (⟨S1, .i32⟩ : BufTy).Contents (Elt F) → (⟨S1, .i32⟩ : BufTy).Contents (Elt F)),
   StableHlo.binary main_while0b_call3_call0_v165 main_while0b_call3_call0_v167 main_while0b_call3_call0_v168 (ori : (⟨S1, .i32⟩ : BufTy).Contents (Elt F) → (⟨S1, .i32⟩ : BufTy).Contents (Elt F) → (⟨S1, .i32⟩ : BufTy).Contents (Elt F)),
   StableHlo.binary main_while0b_call3_call0_v163 main_while0b_call3_call0_v168 main_while0b_call3_call0_v169 (xori : (⟨S1, .i32⟩ : BufTy).Contents (Elt F) → (⟨S1, .i32⟩ : BufTy).Contents (Elt F) → (⟨S1, .i32⟩ : BufTy).Contents (Elt F)),
   StableHlo.unary main_while0b_call3_call0_v1 main_while0b_call3_call0_v170 ((broadcastInDim S1 ![] bcast_S_S1) : (⟨S_, .i32⟩ : BufTy).Contents (Elt F) → (⟨S1, .i32⟩ : BufTy).Contents (Elt F)),
   StableHlo.binary main_while0b_call3_call0_v163 main_while0b_call3_call0_v170 main_while0b_call3_v11_0 (addi : (⟨S1, .i32⟩ : BufTy).Contents (Elt F) → (⟨S1, .i32⟩ : BufTy).Contents (Elt F) → (⟨S1, .i32⟩ : BufTy).Contents (Elt F)),
   StableHlo.unary main_while0b_call3_v6 main_while0b_call3_call0_v172 ((broadcastInDim S1 ![] bcast_S_S1) : (⟨S_, .i32⟩ : BufTy).Contents (Elt F) → (⟨S1, .i32⟩ : BufTy).Contents (Elt F)),
   StableHlo.binary main_while0b_call3_call0_v169 main_while0b_call3_call0_v172 main_while0b_call3_call0_v173 (addi : (⟨S1, .i32⟩ : BufTy).Contents (Elt F) → (⟨S1, .i32⟩ : BufTy).Contents (Elt F) → (⟨S1, .i32⟩ : BufTy).Contents (Elt F)),
   StableHlo.nullary main_while0b_call3_call0_c_44 ((constantI S_ 32 5#32) : (⟨S_, .i32⟩ : BufTy).Contents (Elt F)),
   StableHlo.unary main_while0b_call3_call0_c_44 main_while0b_call3_call0_v174 ((broadcastInDim S1 ![] bcast_S_S1) : (⟨S_, .i32⟩ : BufTy).Contents (Elt F) → (⟨S1, .i32⟩ : BufTy).Contents (Elt F)),
   StableHlo.binary main_while0b_call3_call0_v173 main_while0b_call3_call0_v174 main_while0b_call3_v11_1 (addi : (⟨S1, .i32⟩ : BufTy).Contents (Elt F) → (⟨S1, .i32⟩ : BufTy).Contents (Elt F) → (⟨S1, .i32⟩ : BufTy).Contents (Elt F))]

/-- The derived key's two words joined, and the bounds of the uniform numbers. -/
abbrev foldEndOps : List (HloOp τ sig (Elt F)) :=
  [StableHlo.binary main_while0b_call3_v11_0 main_while0b_call3_v11_1 main_while0b_v29 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_while0b_cst_10 (constant S_ .f32 0x00000000#32),
   StableHlo.nullary main_while0b_cst_11 (constant S_ .f32 0x3F800000#32)]

/-- The key's words taken apart and every element's number, high and low word: the operands of the random bits. -/
abbrev uniKeyOps : List (HloOp τ sig (Elt F)) :=
  [StableHlo.unary main_while0b_cst_10 main_while0b_call4_v0 (id : (⟨S_, .f32⟩ : BufTy).Contents (Elt F) → (⟨S_, .f32⟩ : BufTy).Contents (Elt F)),
   StableHlo.unary main_while0b_cst_11 main_while0b_call4_v1 (id : (⟨S_, .f32⟩ : BufTy).Contents (Elt F) → (⟨S_, .f32⟩ : BufTy).Contents (Elt F)),
   StableHlo.unary main_while0b_call4_v0 main_while0b_call4_v2 ((broadcastInDim S1x1x1 ![] bcast_S_S1x1x1) : (⟨S_, .f32⟩ : BufTy).Contents (Elt F) → (⟨S1x1x1, .f32⟩ : BufTy).Contents (Elt F)),
   StableHlo.unary main_while0b_call4_v1 main_while0b_call4_v3 ((broadcastInDim S1x1x1 ![] bcast_S_S1x1x1) : (⟨S_, .f32⟩ : BufTy).Contents (Elt F) → (⟨S1x1x1, .f32⟩ : BufTy).Contents (Elt F)),
   StableHlo.unary main_while0b_v29 main_while0b_call4_v4 ((extractStridedSlice S1 ![0] · slices_S2_S1_0) : (⟨S2, .i32⟩ : BufTy).Contents (Elt F) → (⟨S1, .i32⟩ : BufTy).Contents (Elt F)),
   StableHlo.reshape main_while0b_call4_v4 main_while0b_call4_v5 rfl shapeCasts_S1_S_,
   StableHlo.unary main_while0b_v29 main_while0b_call4_v6 ((extractStridedSlice S1 ![1] · slices_S2_S1_1) : (⟨S2, .i32⟩ : BufTy).Contents (Elt F) → (⟨S1, .i32⟩ : BufTy).Contents (Elt F)),
   StableHlo.reshape main_while0b_call4_v6 main_while0b_call4_v7 rfl shapeCasts_S1_S_,
   StableHlo.nullary main_while0b_call4_v8 ((iotaInDim S512x32x32 64 0) : (⟨S512x32x32, .i64⟩ : BufTy).Contents (Elt F)),
   StableHlo.nullary main_while0b_call4_v9 ((iotaInDim S512x32x32 64 1) : (⟨S512x32x32, .i64⟩ : BufTy).Contents (Elt F)),
   StableHlo.nullary main_while0b_call4_v10 ((iotaInDim S512x32x32 64 2) : (⟨S512x32x32, .i64⟩ : BufTy).Contents (Elt F)),
   StableHlo.nullary main_while0b_call4_c ((constantI S_ 64 1024#64) : (⟨S_, .i64⟩ : BufTy).Contents (Elt F)),
   StableHlo.unary main_while0b_call4_c main_while0b_call4_v11 ((broadcastInDim S512x32x32 ![] bcast_S_S512x32x32) : (⟨S_, .i64⟩ : BufTy).Contents (Elt F) → (⟨S512x32x32, .i64⟩ : BufTy).Contents (Elt F)),
   StableHlo.binary main_while0b_call4_v11 main_while0b_call4_v8 main_while0b_call4_v12 (muli : (⟨S512x32x32, .i64⟩ : BufTy).Contents (Elt F) → (⟨S512x32x32, .i64⟩ : BufTy).Contents (Elt F) → (⟨S512x32x32, .i64⟩ : BufTy).Contents (Elt F)),
   StableHlo.nullary main_while0b_call4_c_0 ((constantI S_ 64 32#64) : (⟨S_, .i64⟩ : BufTy).Contents (Elt F)),
   StableHlo.unary main_while0b_call4_c_0 main_while0b_call4_v13 ((broadcastInDim S512x32x32 ![] bcast_S_S512x32x32) : (⟨S_, .i64⟩ : BufTy).Contents (Elt F) → (⟨S512x32x32, .i64⟩ : BufTy).Contents (Elt F)),
   StableHlo.binary main_while0b_call4_v13 main_while0b_call4_v9 main_while0b_call4_v14 (muli : (⟨S512x32x32, .i64⟩ : BufTy).Contents (Elt F) → (⟨S512x32x32, .i64⟩ : BufTy).Contents (Elt F) → (⟨S512x32x32, .i64⟩ : BufTy).Contents (Elt F)),
   StableHlo.nullary main_while0b_call4_c_1 ((constantI S_ 64 1#64) : (⟨S_, .i64⟩ : BufTy).Contents (Elt F)),
   StableHlo.unary main_while0b_call4_c_1 main_while0b_call4_v15 ((broadcastInDim S512x32x32 ![] bcast_S_S512x32x32) : (⟨S_, .i64⟩ : BufTy).Contents (Elt F) → (⟨S512x32x32, .i64⟩ : BufTy).Contents (Elt F)),
   StableHlo.binary main_while0b_call4_v15 main_while0b_call4_v10 main_while0b_call4_v16 (muli : (⟨S512x32x32, .i64⟩ : BufTy).Contents (Elt F) → (⟨S512x32x32, .i64⟩ : BufTy).Contents (Elt F) → (⟨S512x32x32, .i64⟩ : BufTy).Contents (Elt F)),
   StableHlo.binary main_while0b_call4_v12 main_while0b_call4_v14 main_while0b_call4_v17 (addi : (⟨S512x32x32, .i64⟩ : BufTy).Contents (Elt F) → (⟨S512x32x32, .i64⟩ : BufTy).Contents (Elt F) → (⟨S512x32x32, .i64⟩ : BufTy).Contents (Elt F)),
   StableHlo.binary main_while0b_call4_v17 main_while0b_call4_v16 main_while0b_call4_v18 (addi : (⟨S512x32x32, .i64⟩ : BufTy).Contents (Elt F) → (⟨S512x32x32, .i64⟩ : BufTy).Contents (Elt F) → (⟨S512x32x32, .i64⟩ : BufTy).Contents (Elt F)),
   StableHlo.nullary main_while0b_call4_c_2 ((constantI S_ 64 32#64) : (⟨S_, .i64⟩ : BufTy).Contents (Elt F)),
   StableHlo.unary main_while0b_call4_c_2 main_while0b_call4_v19 ((broadcastInDim S512x32x32 ![] bcast_S_S512x32x32) : (⟨S_, .i64⟩ : BufTy).Contents (Elt F) → (⟨S512x32x32, .i64⟩ : BufTy).Contents (Elt F)),
   StableHlo.binary main_while0b_call4_v18 main_while0b_call4_v19 main_while0b_call4_v20 (Host.shrui : (⟨S512x32x32, .i64⟩ : BufTy).Contents (Elt F) → (⟨S512x32x32, .i64⟩ : BufTy).Contents (Elt F) → (⟨S512x32x32, .i64⟩ : BufTy).Contents (Elt F)),
   StableHlo.unary main_while0b_call4_v18 main_while0b_call4_v21 ((trunci 32 · natLt_32_64) : (⟨S512x32x32, .i64⟩ : BufTy).Contents (Elt F) → (⟨S512x32x32, .i32⟩ : BufTy).Contents (Elt F)),
   StableHlo.unary main_while0b_call4_v20 main_while0b_call4_v22 ((trunci 32 · natLt_32_64) : (⟨S512x32x32, .i64⟩ : BufTy).Contents (Elt F) → (⟨S512x32x32, .i32⟩ : BufTy).Contents (Elt F))]

/-- The first injection and four rounds, number 0 of the five that make the random bits. -/
abbrev uni0Ops : List (HloOp τ sig (Elt F)) :=
  [StableHlo.binary main_while0b_call4_v5 main_while0b_call4_v7 main_while0b_call4_call0_v0 (xori : (⟨S_, .i32⟩ : BufTy).Contents (Elt F) → (⟨S_, .i32⟩ : BufTy).Contents (Elt F) → (⟨S_, .i32⟩ : BufTy).Contents (Elt F)),
   StableHlo.nullary main_while0b_call4_call0_c ((constantI S_ 32 466688986#32) : (⟨S_, .i32⟩ : BufTy).Contents (Elt F)),
   StableHlo.binary main_while0b_call4_call0_v0 main_while0b_call4_call0_c main_while0b_call4_call0_v1 (xori : (⟨S_, .i32⟩ : BufTy).Contents (Elt F) → (⟨S_, .i32⟩ : BufTy).Contents (Elt F) → (⟨S_, .i32⟩ : BufTy).Contents (Elt F)),
   StableHlo.unary main_while0b_call4_v5 main_while0b_call4_call0_v2 ((broadcastInDim S512x32x32 ![] bcast_S_S512x32x32) : (⟨S_, .i32⟩ : BufTy).Contents (Elt F) → (⟨S512x32x32, .i32⟩ : BufTy).Contents (Elt F)),
   StableHlo.binary main_while0b_call4_v22 main_while0b_call4_call0_v2 main_while0b_call4_call0_v3 (addi : (⟨S512x32x32, .i32⟩ : BufTy).Contents (Elt F) → (⟨S512x32x32, .i32⟩ : BufTy).Contents (Elt F) → (⟨S512x32x32, .i32⟩ : BufTy).Contents (Elt F)),
   StableHlo.unary main_while0b_call4_v7 main_while0b_call4_call0_v4 ((broadcastInDim S512x32x32 ![] bcast_S_S512x32x32) : (⟨S_, .i32⟩ : BufTy).Contents (Elt F) → (⟨S512x32x32, .i32⟩ : BufTy).Contents (Elt F)),
   StableHlo.binary main_while0b_call4_v21 main_while0b_call4_call0_v4 main_while0b_call4_call0_v5 (addi : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v3 main_while0b_call4_call0_v5 main_while0b_call4_call0_v6 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_0 ((constantI S_ 32 13#32) : (⟨S_, .i32⟩ : BufTy).Contents (Elt F)),
   StableHlo.unary main_while0b_call4_call0_c_0 main_while0b_call4_call0_v7 ((broadcastInDim S512x32x32 ![] bcast_S_S512x32x32) : (⟨S_, .i32⟩ : BufTy).Contents (Elt F) → (⟨S512x32x32, .i32⟩ : BufTy).Contents (Elt F)),
   StableHlo.binary main_while0b_call4_call0_v5 main_while0b_call4_call0_v7 main_while0b_call4_call0_v8 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_1 ((constantI S_ 32 19#32) : (⟨S_, .i32⟩ : BufTy).Contents (Elt F)),
   StableHlo.unary main_while0b_call4_call0_c_1 main_while0b_call4_call0_v9 ((broadcastInDim S512x32x32 ![] bcast_S_S512x32x32) : (⟨S_, .i32⟩ : BufTy).Contents (Elt F) → (⟨S512x32x32, .i32⟩ : BufTy).Contents (Elt F)),
   StableHlo.binary main_while0b_call4_call0_v5 main_while0b_call4_call0_v9 main_while0b_call4_call0_v10 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v8 main_while0b_call4_call0_v10 main_while0b_call4_call0_v11 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v6 main_while0b_call4_call0_v11 main_while0b_call4_call0_v12 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v6 main_while0b_call4_call0_v12 main_while0b_call4_call0_v13 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_2 ((constantI S_ 32 15#32) : (⟨S_, .i32⟩ : BufTy).Contents (Elt F)),
   StableHlo.unary main_while0b_call4_call0_c_2 main_while0b_call4_call0_v14 ((broadcastInDim S512x32x32 ![] bcast_S_S512x32x32) : (⟨S_, .i32⟩ : BufTy).Contents (Elt F) → (⟨S512x32x32, .i32⟩ : BufTy).Contents (Elt F)),
   StableHlo.binary main_while0b_call4_call0_v12 main_while0b_call4_call0_v14 main_while0b_call4_call0_v15 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_3 ((constantI S_ 32 17#32) : (⟨S_, .i32⟩ : BufTy).Contents (Elt F)),
   StableHlo.unary main_while0b_call4_call0_c_3 main_while0b_call4_call0_v16 ((broadcastInDim S512x32x32 ![] bcast_S_S512x32x32) : (⟨S_, .i32⟩ : BufTy).Contents (Elt F) → (⟨S512x32x32, .i32⟩ : BufTy).Contents (Elt F)),
   StableHlo.binary main_while0b_call4_call0_v12 main_while0b_call4_call0_v16 main_while0b_call4_call0_v17 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v15 main_while0b_call4_call0_v17 main_while0b_call4_call0_v18 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v13 main_while0b_call4_call0_v18 main_while0b_call4_call0_v19 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v13 main_while0b_call4_call0_v19 main_while0b_call4_call0_v20 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_4 ((constantI S_ 32 26#32) : (⟨S_, .i32⟩ : BufTy).Contents (Elt F)),
   StableHlo.unary main_while0b_call4_call0_c_4 main_while0b_call4_call0_v21 ((broadcastInDim S512x32x32 ![] bcast_S_S512x32x32) : (⟨S_, .i32⟩ : BufTy).Contents (Elt F) → (⟨S512x32x32, .i32⟩ : BufTy).Contents (Elt F)),
   StableHlo.binary main_while0b_call4_call0_v19 main_while0b_call4_call0_v21 main_while0b_call4_call0_v22 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_5 ((constantI S_ 32 6#32) : (⟨S_, .i32⟩ : BufTy).Contents (Elt F)),
   StableHlo.unary main_while0b_call4_call0_c_5 main_while0b_call4_call0_v23 ((broadcastInDim S512x32x32 ![] bcast_S_S512x32x32) : (⟨S_, .i32⟩ : BufTy).Contents (Elt F) → (⟨S512x32x32, .i32⟩ : BufTy).Contents (Elt F)),
   StableHlo.binary main_while0b_call4_call0_v19 main_while0b_call4_call0_v23 main_while0b_call4_call0_v24 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v22 main_while0b_call4_call0_v24 main_while0b_call4_call0_v25 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v20 main_while0b_call4_call0_v25 main_while0b_call4_call0_v26 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v20 main_while0b_call4_call0_v26 main_while0b_call4_call0_v27 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_6 ((constantI S_ 32 6#32) : (⟨S_, .i32⟩ : BufTy).Contents (Elt F)),
   StableHlo.unary main_while0b_call4_call0_c_6 main_while0b_call4_call0_v28 ((broadcastInDim S512x32x32 ![] bcast_S_S512x32x32) : (⟨S_, .i32⟩ : BufTy).Contents (Elt F) → (⟨S512x32x32, .i32⟩ : BufTy).Contents (Elt F)),
   StableHlo.binary main_while0b_call4_call0_v26 main_while0b_call4_call0_v28 main_while0b_call4_call0_v29 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_7 ((constantI S_ 32 26#32) : (⟨S_, .i32⟩ : BufTy).Contents (Elt F)),
   StableHlo.unary main_while0b_call4_call0_c_7 main_while0b_call4_call0_v30 ((broadcastInDim S512x32x32 ![] bcast_S_S512x32x32) : (⟨S_, .i32⟩ : BufTy).Contents (Elt F) → (⟨S512x32x32, .i32⟩ : BufTy).Contents (Elt F)),
   StableHlo.binary main_while0b_call4_call0_v26 main_while0b_call4_call0_v30 main_while0b_call4_call0_v31 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v29 main_while0b_call4_call0_v31 main_while0b_call4_call0_v32 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v27 main_while0b_call4_call0_v32 main_while0b_call4_call0_v33 (xori : (⟨S512x32x32, .i32⟩ : BufTy).Contents (Elt F) → (⟨S512x32x32, .i32⟩ : BufTy).Contents (Elt F) → (⟨S512x32x32, .i32⟩ : BufTy).Contents (Elt F)),
   StableHlo.unary main_while0b_call4_v7 main_while0b_call4_call0_v34 ((broadcastInDim S512x32x32 ![] bcast_S_S512x32x32) : (⟨S_, .i32⟩ : BufTy).Contents (Elt F) → (⟨S512x32x32, .i32⟩ : BufTy).Contents (Elt F)),
   StableHlo.binary main_while0b_call4_call0_v27 main_while0b_call4_call0_v34 main_while0b_call4_call0_v35 (addi : (⟨S512x32x32, .i32⟩ : BufTy).Contents (Elt F) → (⟨S512x32x32, .i32⟩ : BufTy).Contents (Elt F) → (⟨S512x32x32, .i32⟩ : BufTy).Contents (Elt F)),
   StableHlo.unary main_while0b_call4_call0_v1 main_while0b_call4_call0_v36 ((broadcastInDim S512x32x32 ![] bcast_S_S512x32x32) : (⟨S_, .i32⟩ : BufTy).Contents (Elt F) → (⟨S512x32x32, .i32⟩ : BufTy).Contents (Elt F)),
   StableHlo.binary main_while0b_call4_call0_v33 main_while0b_call4_call0_v36 main_while0b_call4_call0_v37 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_8 ((constantI S_ 32 1#32) : (⟨S_, .i32⟩ : BufTy).Contents (Elt F)),
   StableHlo.unary main_while0b_call4_call0_c_8 main_while0b_call4_call0_v38 ((broadcastInDim S512x32x32 ![] bcast_S_S512x32x32) : (⟨S_, .i32⟩ : BufTy).Contents (Elt F) → (⟨S512x32x32, .i32⟩ : BufTy).Contents (Elt F)),
   StableHlo.binary main_while0b_call4_call0_v37 main_while0b_call4_call0_v38 main_while0b_call4_call0_v39 (addi : (⟨S512x32x32, .i32⟩ : BufTy).Contents (Elt F) → (⟨S512x32x32, .i32⟩ : BufTy).Contents (Elt F) → (⟨S512x32x32, .i32⟩ : BufTy).Contents (Elt F))]

/-- Four rounds and an injection, number 1 of the five that make the random bits. -/
abbrev uni1Ops : List (HloOp τ sig (Elt F)) :=
  [StableHlo.binary main_while0b_call4_call0_v35 main_while0b_call4_call0_v39 main_while0b_call4_call0_v40 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_9 ((constantI S_ 32 17#32) : (⟨S_, .i32⟩ : BufTy).Contents (Elt F)),
   StableHlo.unary main_while0b_call4_call0_c_9 main_while0b_call4_call0_v41 ((broadcastInDim S512x32x32 ![] bcast_S_S512x32x32) : (⟨S_, .i32⟩ : BufTy).Contents (Elt F) → (⟨S512x32x32, .i32⟩ : BufTy).Contents (Elt F)),
   StableHlo.binary main_while0b_call4_call0_v39 main_while0b_call4_call0_v41 main_while0b_call4_call0_v42 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_10 ((constantI S_ 32 15#32) : (⟨S_, .i32⟩ : BufTy).Contents (Elt F)),
   StableHlo.unary main_while0b_call4_call0_c_10 main_while0b_call4_call0_v43 ((broadcastInDim S512x32x32 ![] bcast_S_S512x32x32) : (⟨S_, .i32⟩ : BufTy).Contents (Elt F) → (⟨S512x32x32, .i32⟩ : BufTy).Contents (Elt F)),
   StableHlo.binary main_while0b_call4_call0_v39 main_while0b_call4_call0_v43 main_while0b_call4_call0_v44 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v42 main_while0b_call4_call0_v44 main_while0b_call4_call0_v45 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v40 main_while0b_call4_call0_v45 main_while0b_call4_call0_v46 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v40 main_while0b_call4_call0_v46 main_while0b_call4_call0_v47 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_11 ((constantI S_ 32 29#32) : (⟨S_, .i32⟩ : BufTy).Contents (Elt F)),
   StableHlo.unary main_while0b_call4_call0_c_11 main_while0b_call4_call0_v48 ((broadcastInDim S512x32x32 ![] bcast_S_S512x32x32) : (⟨S_, .i32⟩ : BufTy).Contents (Elt F) → (⟨S512x32x32, .i32⟩ : BufTy).Contents (Elt F)),
   StableHlo.binary main_while0b_call4_call0_v46 main_while0b_call4_call0_v48 main_while0b_call4_call0_v49 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_12 ((constantI S_ 32 3#32) : (⟨S_, .i32⟩ : BufTy).Contents (Elt F)),
   StableHlo.unary main_while0b_call4_call0_c_12 main_while0b_call4_call0_v50 ((broadcastInDim S512x32x32 ![] bcast_S_S512x32x32) : (⟨S_, .i32⟩ : BufTy).Contents (Elt F) → (⟨S512x32x32, .i32⟩ : BufTy).Contents (Elt F)),
   StableHlo.binary main_while0b_call4_call0_v46 main_while0b_call4_call0_v50 main_while0b_call4_call0_v51 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v49 main_while0b_call4_call0_v51 main_while0b_call4_call0_v52 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v47 main_while0b_call4_call0_v52 main_while0b_call4_call0_v53 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v47 main_while0b_call4_call0_v53 main_while0b_call4_call0_v54 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_13 ((constantI S_ 32 16#32) : (⟨S_, .i32⟩ : BufTy).Contents (Elt F)),
   StableHlo.unary main_while0b_call4_call0_c_13 main_while0b_call4_call0_v55 ((broadcastInDim S512x32x32 ![] bcast_S_S512x32x32) : (⟨S_, .i32⟩ : BufTy).Contents (Elt F) → (⟨S512x32x32, .i32⟩ : BufTy).Contents (Elt F)),
   StableHlo.binary main_while0b_call4_call0_v53 main_while0b_call4_call0_v55 main_while0b_call4_call0_v56 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_14 ((constantI S_ 32 16#32) : (⟨S_, .i32⟩ : BufTy).Contents (Elt F)),
   StableHlo.unary main_while0b_call4_call0_c_14 main_while0b_call4_call0_v57 ((broadcastInDim S512x32x32 ![] bcast_S_S512x32x32) : (⟨S_, .i32⟩ : BufTy).Contents (Elt F) → (⟨S512x32x32, .i32⟩ : BufTy).Contents (Elt F)),
   StableHlo.binary main_while0b_call4_call0_v53 main_while0b_call4_call0_v57 main_while0b_call4_call0_v58 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v56 main_while0b_call4_call0_v58 main_while0b_call4_call0_v59 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v54 main_while0b_call4_call0_v59 main_while0b_call4_call0_v60 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v54 main_while0b_call4_call0_v60 main_while0b_call4_call0_v61 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_15 ((constantI S_ 32 24#32) : (⟨S_, .i32⟩ : BufTy).Contents (Elt F)),
   StableHlo.unary main_while0b_call4_call0_c_15 main_while0b_call4_call0_v62 ((broadcastInDim S512x32x32 ![] bcast_S_S512x32x32) : (⟨S_, .i32⟩ : BufTy).Contents (Elt F) → (⟨S512x32x32, .i32⟩ : BufTy).Contents (Elt F)),
   StableHlo.binary main_while0b_call4_call0_v60 main_while0b_call4_call0_v62 main_while0b_call4_call0_v63 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_16 ((constantI S_ 32 8#32) : (⟨S_, .i32⟩ : BufTy).Contents (Elt F)),
   StableHlo.unary main_while0b_call4_call0_c_16 main_while0b_call4_call0_v64 ((broadcastInDim S512x32x32 ![] bcast_S_S512x32x32) : (⟨S_, .i32⟩ : BufTy).Contents (Elt F) → (⟨S512x32x32, .i32⟩ : BufTy).Contents (Elt F)),
   StableHlo.binary main_while0b_call4_call0_v60 main_while0b_call4_call0_v64 main_while0b_call4_call0_v65 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v63 main_while0b_call4_call0_v65 main_while0b_call4_call0_v66 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v61 main_while0b_call4_call0_v66 main_while0b_call4_call0_v67 (xori : (⟨S512x32x32, .i32⟩ : BufTy).Contents (Elt F) → (⟨S512x32x32, .i32⟩ : BufTy).Contents (Elt F) → (⟨S512x32x32, .i32⟩ : BufTy).Contents (Elt F)),
   StableHlo.unary main_while0b_call4_call0_v1 main_while0b_call4_call0_v68 ((broadcastInDim S512x32x32 ![] bcast_S_S512x32x32) : (⟨S_, .i32⟩ : BufTy).Contents (Elt F) → (⟨S512x32x32, .i32⟩ : BufTy).Contents (Elt F)),
   StableHlo.binary main_while0b_call4_call0_v61 main_while0b_call4_call0_v68 main_while0b_call4_call0_v69 (addi : (⟨S512x32x32, .i32⟩ : BufTy).Contents (Elt F) → (⟨S512x32x32, .i32⟩ : BufTy).Contents (Elt F) → (⟨S512x32x32, .i32⟩ : BufTy).Contents (Elt F)),
   StableHlo.unary main_while0b_call4_v5 main_while0b_call4_call0_v70 ((broadcastInDim S512x32x32 ![] bcast_S_S512x32x32) : (⟨S_, .i32⟩ : BufTy).Contents (Elt F) → (⟨S512x32x32, .i32⟩ : BufTy).Contents (Elt F)),
   StableHlo.binary main_while0b_call4_call0_v67 main_while0b_call4_call0_v70 main_while0b_call4_call0_v71 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_17 ((constantI S_ 32 2#32) : (⟨S_, .i32⟩ : BufTy).Contents (Elt F)),
   StableHlo.unary main_while0b_call4_call0_c_17 main_while0b_call4_call0_v72 ((broadcastInDim S512x32x32 ![] bcast_S_S512x32x32) : (⟨S_, .i32⟩ : BufTy).Contents (Elt F) → (⟨S512x32x32, .i32⟩ : BufTy).Contents (Elt F)),
   StableHlo.binary main_while0b_call4_call0_v71 main_while0b_call4_call0_v72 main_while0b_call4_call0_v73 (addi : (⟨S512x32x32, .i32⟩ : BufTy).Contents (Elt F) → (⟨S512x32x32, .i32⟩ : BufTy).Contents (Elt F) → (⟨S512x32x32, .i32⟩ : BufTy).Contents (Elt F))]

/-- Four rounds and an injection, number 2 of the five that make the random bits. -/
abbrev uni2Ops : List (HloOp τ sig (Elt F)) :=
  [StableHlo.binary main_while0b_call4_call0_v69 main_while0b_call4_call0_v73 main_while0b_call4_call0_v74 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_18 ((constantI S_ 32 13#32) : (⟨S_, .i32⟩ : BufTy).Contents (Elt F)),
   StableHlo.unary main_while0b_call4_call0_c_18 main_while0b_call4_call0_v75 ((broadcastInDim S512x32x32 ![] bcast_S_S512x32x32) : (⟨S_, .i32⟩ : BufTy).Contents (Elt F) → (⟨S512x32x32, .i32⟩ : BufTy).Contents (Elt F)),
   StableHlo.binary main_while0b_call4_call0_v73 main_while0b_call4_call0_v75 main_while0b_call4_call0_v76 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_19 ((constantI S_ 32 19#32) : (⟨S_, .i32⟩ : BufTy).Contents (Elt F)),
   StableHlo.unary main_while0b_call4_call0_c_19 main_while0b_call4_call0_v77 ((broadcastInDim S512x32x32 ![] bcast_S_S512x32x32) : (⟨S_, .i32⟩ : BufTy).Contents (Elt F) → (⟨S512x32x32, .i32⟩ : BufTy).Contents (Elt F)),
   StableHlo.binary main_while0b_call4_call0_v73 main_while0b_call4_call0_v77 main_while0b_call4_call0_v78 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v76 main_while0b_call4_call0_v78 main_while0b_call4_call0_v79 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v74 main_while0b_call4_call0_v79 main_while0b_call4_call0_v80 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v74 main_while0b_call4_call0_v80 main_while0b_call4_call0_v81 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_20 ((constantI S_ 32 15#32) : (⟨S_, .i32⟩ : BufTy).Contents (Elt F)),
   StableHlo.unary main_while0b_call4_call0_c_20 main_while0b_call4_call0_v82 ((broadcastInDim S512x32x32 ![] bcast_S_S512x32x32) : (⟨S_, .i32⟩ : BufTy).Contents (Elt F) → (⟨S512x32x32, .i32⟩ : BufTy).Contents (Elt F)),
   StableHlo.binary main_while0b_call4_call0_v80 main_while0b_call4_call0_v82 main_while0b_call4_call0_v83 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_21 ((constantI S_ 32 17#32) : (⟨S_, .i32⟩ : BufTy).Contents (Elt F)),
   StableHlo.unary main_while0b_call4_call0_c_21 main_while0b_call4_call0_v84 ((broadcastInDim S512x32x32 ![] bcast_S_S512x32x32) : (⟨S_, .i32⟩ : BufTy).Contents (Elt F) → (⟨S512x32x32, .i32⟩ : BufTy).Contents (Elt F)),
   StableHlo.binary main_while0b_call4_call0_v80 main_while0b_call4_call0_v84 main_while0b_call4_call0_v85 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v83 main_while0b_call4_call0_v85 main_while0b_call4_call0_v86 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v81 main_while0b_call4_call0_v86 main_while0b_call4_call0_v87 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v81 main_while0b_call4_call0_v87 main_while0b_call4_call0_v88 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_22 ((constantI S_ 32 26#32) : (⟨S_, .i32⟩ : BufTy).Contents (Elt F)),
   StableHlo.unary main_while0b_call4_call0_c_22 main_while0b_call4_call0_v89 ((broadcastInDim S512x32x32 ![] bcast_S_S512x32x32) : (⟨S_, .i32⟩ : BufTy).Contents (Elt F) → (⟨S512x32x32, .i32⟩ : BufTy).Contents (Elt F)),
   StableHlo.binary main_while0b_call4_call0_v87 main_while0b_call4_call0_v89 main_while0b_call4_call0_v90 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_23 ((constantI S_ 32 6#32) : (⟨S_, .i32⟩ : BufTy).Contents (Elt F)),
   StableHlo.unary main_while0b_call4_call0_c_23 main_while0b_call4_call0_v91 ((broadcastInDim S512x32x32 ![] bcast_S_S512x32x32) : (⟨S_, .i32⟩ : BufTy).Contents (Elt F) → (⟨S512x32x32, .i32⟩ : BufTy).Contents (Elt F)),
   StableHlo.binary main_while0b_call4_call0_v87 main_while0b_call4_call0_v91 main_while0b_call4_call0_v92 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v90 main_while0b_call4_call0_v92 main_while0b_call4_call0_v93 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v88 main_while0b_call4_call0_v93 main_while0b_call4_call0_v94 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v88 main_while0b_call4_call0_v94 main_while0b_call4_call0_v95 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_24 ((constantI S_ 32 6#32) : (⟨S_, .i32⟩ : BufTy).Contents (Elt F)),
   StableHlo.unary main_while0b_call4_call0_c_24 main_while0b_call4_call0_v96 ((broadcastInDim S512x32x32 ![] bcast_S_S512x32x32) : (⟨S_, .i32⟩ : BufTy).Contents (Elt F) → (⟨S512x32x32, .i32⟩ : BufTy).Contents (Elt F)),
   StableHlo.binary main_while0b_call4_call0_v94 main_while0b_call4_call0_v96 main_while0b_call4_call0_v97 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_25 ((constantI S_ 32 26#32) : (⟨S_, .i32⟩ : BufTy).Contents (Elt F)),
   StableHlo.unary main_while0b_call4_call0_c_25 main_while0b_call4_call0_v98 ((broadcastInDim S512x32x32 ![] bcast_S_S512x32x32) : (⟨S_, .i32⟩ : BufTy).Contents (Elt F) → (⟨S512x32x32, .i32⟩ : BufTy).Contents (Elt F)),
   StableHlo.binary main_while0b_call4_call0_v94 main_while0b_call4_call0_v98 main_while0b_call4_call0_v99 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v97 main_while0b_call4_call0_v99 main_while0b_call4_call0_v100 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v95 main_while0b_call4_call0_v100 main_while0b_call4_call0_v101 (xori : (⟨S512x32x32, .i32⟩ : BufTy).Contents (Elt F) → (⟨S512x32x32, .i32⟩ : BufTy).Contents (Elt F) → (⟨S512x32x32, .i32⟩ : BufTy).Contents (Elt F)),
   StableHlo.unary main_while0b_call4_v5 main_while0b_call4_call0_v102 ((broadcastInDim S512x32x32 ![] bcast_S_S512x32x32) : (⟨S_, .i32⟩ : BufTy).Contents (Elt F) → (⟨S512x32x32, .i32⟩ : BufTy).Contents (Elt F)),
   StableHlo.binary main_while0b_call4_call0_v95 main_while0b_call4_call0_v102 main_while0b_call4_call0_v103 (addi : (⟨S512x32x32, .i32⟩ : BufTy).Contents (Elt F) → (⟨S512x32x32, .i32⟩ : BufTy).Contents (Elt F) → (⟨S512x32x32, .i32⟩ : BufTy).Contents (Elt F)),
   StableHlo.unary main_while0b_call4_v7 main_while0b_call4_call0_v104 ((broadcastInDim S512x32x32 ![] bcast_S_S512x32x32) : (⟨S_, .i32⟩ : BufTy).Contents (Elt F) → (⟨S512x32x32, .i32⟩ : BufTy).Contents (Elt F)),
   StableHlo.binary main_while0b_call4_call0_v101 main_while0b_call4_call0_v104 main_while0b_call4_call0_v105 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_26 ((constantI S_ 32 3#32) : (⟨S_, .i32⟩ : BufTy).Contents (Elt F)),
   StableHlo.unary main_while0b_call4_call0_c_26 main_while0b_call4_call0_v106 ((broadcastInDim S512x32x32 ![] bcast_S_S512x32x32) : (⟨S_, .i32⟩ : BufTy).Contents (Elt F) → (⟨S512x32x32, .i32⟩ : BufTy).Contents (Elt F)),
   StableHlo.binary main_while0b_call4_call0_v105 main_while0b_call4_call0_v106 main_while0b_call4_call0_v107 (addi : (⟨S512x32x32, .i32⟩ : BufTy).Contents (Elt F) → (⟨S512x32x32, .i32⟩ : BufTy).Contents (Elt F) → (⟨S512x32x32, .i32⟩ : BufTy).Contents (Elt F))]

/-- Four rounds and an injection, number 3 of the five that make the random bits. -/
abbrev uni3Ops : List (HloOp τ sig (Elt F)) :=
  [StableHlo.binary main_while0b_call4_call0_v103 main_while0b_call4_call0_v107 main_while0b_call4_call0_v108 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_27 ((constantI S_ 32 17#32) : (⟨S_, .i32⟩ : BufTy).Contents (Elt F)),
   StableHlo.unary main_while0b_call4_call0_c_27 main_while0b_call4_call0_v109 ((broadcastInDim S512x32x32 ![] bcast_S_S512x32x32) : (⟨S_, .i32⟩ : BufTy).Contents (Elt F) → (⟨S512x32x32, .i32⟩ : BufTy).Contents (Elt F)),
   StableHlo.binary main_while0b_call4_call0_v107 main_while0b_call4_call0_v109 main_while0b_call4_call0_v110 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_28 ((constantI S_ 32 15#32) : (⟨S_, .i32⟩ : BufTy).Contents (Elt F)),
   StableHlo.unary main_while0b_call4_call0_c_28 main_while0b_call4_call0_v111 ((broadcastInDim S512x32x32 ![] bcast_S_S512x32x32) : (⟨S_, .i32⟩ : BufTy).Contents (Elt F) → (⟨S512x32x32, .i32⟩ : BufTy).Contents (Elt F)),
   StableHlo.binary main_while0b_call4_call0_v107 main_while0b_call4_call0_v111 main_while0b_call4_call0_v112 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v110 main_while0b_call4_call0_v112 main_while0b_call4_call0_v113 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v108 main_while0b_call4_call0_v113 main_while0b_call4_call0_v114 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v108 main_while0b_call4_call0_v114 main_while0b_call4_call0_v115 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_29 ((constantI S_ 32 29#32) : (⟨S_, .i32⟩ : BufTy).Contents (Elt F)),
   StableHlo.unary main_while0b_call4_call0_c_29 main_while0b_call4_call0_v116 ((broadcastInDim S512x32x32 ![] bcast_S_S512x32x32) : (⟨S_, .i32⟩ : BufTy).Contents (Elt F) → (⟨S512x32x32, .i32⟩ : BufTy).Contents (Elt F)),
   StableHlo.binary main_while0b_call4_call0_v114 main_while0b_call4_call0_v116 main_while0b_call4_call0_v117 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_30 ((constantI S_ 32 3#32) : (⟨S_, .i32⟩ : BufTy).Contents (Elt F)),
   StableHlo.unary main_while0b_call4_call0_c_30 main_while0b_call4_call0_v118 ((broadcastInDim S512x32x32 ![] bcast_S_S512x32x32) : (⟨S_, .i32⟩ : BufTy).Contents (Elt F) → (⟨S512x32x32, .i32⟩ : BufTy).Contents (Elt F)),
   StableHlo.binary main_while0b_call4_call0_v114 main_while0b_call4_call0_v118 main_while0b_call4_call0_v119 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v117 main_while0b_call4_call0_v119 main_while0b_call4_call0_v120 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v115 main_while0b_call4_call0_v120 main_while0b_call4_call0_v121 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v115 main_while0b_call4_call0_v121 main_while0b_call4_call0_v122 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_31 ((constantI S_ 32 16#32) : (⟨S_, .i32⟩ : BufTy).Contents (Elt F)),
   StableHlo.unary main_while0b_call4_call0_c_31 main_while0b_call4_call0_v123 ((broadcastInDim S512x32x32 ![] bcast_S_S512x32x32) : (⟨S_, .i32⟩ : BufTy).Contents (Elt F) → (⟨S512x32x32, .i32⟩ : BufTy).Contents (Elt F)),
   StableHlo.binary main_while0b_call4_call0_v121 main_while0b_call4_call0_v123 main_while0b_call4_call0_v124 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_32 ((constantI S_ 32 16#32) : (⟨S_, .i32⟩ : BufTy).Contents (Elt F)),
   StableHlo.unary main_while0b_call4_call0_c_32 main_while0b_call4_call0_v125 ((broadcastInDim S512x32x32 ![] bcast_S_S512x32x32) : (⟨S_, .i32⟩ : BufTy).Contents (Elt F) → (⟨S512x32x32, .i32⟩ : BufTy).Contents (Elt F)),
   StableHlo.binary main_while0b_call4_call0_v121 main_while0b_call4_call0_v125 main_while0b_call4_call0_v126 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v124 main_while0b_call4_call0_v126 main_while0b_call4_call0_v127 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v122 main_while0b_call4_call0_v127 main_while0b_call4_call0_v128 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v122 main_while0b_call4_call0_v128 main_while0b_call4_call0_v129 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_33 ((constantI S_ 32 24#32) : (⟨S_, .i32⟩ : BufTy).Contents (Elt F)),
   StableHlo.unary main_while0b_call4_call0_c_33 main_while0b_call4_call0_v130 ((broadcastInDim S512x32x32 ![] bcast_S_S512x32x32) : (⟨S_, .i32⟩ : BufTy).Contents (Elt F) → (⟨S512x32x32, .i32⟩ : BufTy).Contents (Elt F)),
   StableHlo.binary main_while0b_call4_call0_v128 main_while0b_call4_call0_v130 main_while0b_call4_call0_v131 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_34 ((constantI S_ 32 8#32) : (⟨S_, .i32⟩ : BufTy).Contents (Elt F)),
   StableHlo.unary main_while0b_call4_call0_c_34 main_while0b_call4_call0_v132 ((broadcastInDim S512x32x32 ![] bcast_S_S512x32x32) : (⟨S_, .i32⟩ : BufTy).Contents (Elt F) → (⟨S512x32x32, .i32⟩ : BufTy).Contents (Elt F)),
   StableHlo.binary main_while0b_call4_call0_v128 main_while0b_call4_call0_v132 main_while0b_call4_call0_v133 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v131 main_while0b_call4_call0_v133 main_while0b_call4_call0_v134 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v129 main_while0b_call4_call0_v134 main_while0b_call4_call0_v135 (xori : (⟨S512x32x32, .i32⟩ : BufTy).Contents (Elt F) → (⟨S512x32x32, .i32⟩ : BufTy).Contents (Elt F) → (⟨S512x32x32, .i32⟩ : BufTy).Contents (Elt F)),
   StableHlo.unary main_while0b_call4_v7 main_while0b_call4_call0_v136 ((broadcastInDim S512x32x32 ![] bcast_S_S512x32x32) : (⟨S_, .i32⟩ : BufTy).Contents (Elt F) → (⟨S512x32x32, .i32⟩ : BufTy).Contents (Elt F)),
   StableHlo.binary main_while0b_call4_call0_v129 main_while0b_call4_call0_v136 main_while0b_call4_call0_v137 (addi : (⟨S512x32x32, .i32⟩ : BufTy).Contents (Elt F) → (⟨S512x32x32, .i32⟩ : BufTy).Contents (Elt F) → (⟨S512x32x32, .i32⟩ : BufTy).Contents (Elt F)),
   StableHlo.unary main_while0b_call4_call0_v1 main_while0b_call4_call0_v138 ((broadcastInDim S512x32x32 ![] bcast_S_S512x32x32) : (⟨S_, .i32⟩ : BufTy).Contents (Elt F) → (⟨S512x32x32, .i32⟩ : BufTy).Contents (Elt F)),
   StableHlo.binary main_while0b_call4_call0_v135 main_while0b_call4_call0_v138 main_while0b_call4_call0_v139 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_35 ((constantI S_ 32 4#32) : (⟨S_, .i32⟩ : BufTy).Contents (Elt F)),
   StableHlo.unary main_while0b_call4_call0_c_35 main_while0b_call4_call0_v140 ((broadcastInDim S512x32x32 ![] bcast_S_S512x32x32) : (⟨S_, .i32⟩ : BufTy).Contents (Elt F) → (⟨S512x32x32, .i32⟩ : BufTy).Contents (Elt F)),
   StableHlo.binary main_while0b_call4_call0_v139 main_while0b_call4_call0_v140 main_while0b_call4_call0_v141 (addi : (⟨S512x32x32, .i32⟩ : BufTy).Contents (Elt F) → (⟨S512x32x32, .i32⟩ : BufTy).Contents (Elt F) → (⟨S512x32x32, .i32⟩ : BufTy).Contents (Elt F))]

/-- Four rounds and an injection, number 4 of the five that make the random bits. -/
abbrev uni4Ops : List (HloOp τ sig (Elt F)) :=
  [StableHlo.binary main_while0b_call4_call0_v137 main_while0b_call4_call0_v141 main_while0b_call4_call0_v142 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_36 ((constantI S_ 32 13#32) : (⟨S_, .i32⟩ : BufTy).Contents (Elt F)),
   StableHlo.unary main_while0b_call4_call0_c_36 main_while0b_call4_call0_v143 ((broadcastInDim S512x32x32 ![] bcast_S_S512x32x32) : (⟨S_, .i32⟩ : BufTy).Contents (Elt F) → (⟨S512x32x32, .i32⟩ : BufTy).Contents (Elt F)),
   StableHlo.binary main_while0b_call4_call0_v141 main_while0b_call4_call0_v143 main_while0b_call4_call0_v144 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_37 ((constantI S_ 32 19#32) : (⟨S_, .i32⟩ : BufTy).Contents (Elt F)),
   StableHlo.unary main_while0b_call4_call0_c_37 main_while0b_call4_call0_v145 ((broadcastInDim S512x32x32 ![] bcast_S_S512x32x32) : (⟨S_, .i32⟩ : BufTy).Contents (Elt F) → (⟨S512x32x32, .i32⟩ : BufTy).Contents (Elt F)),
   StableHlo.binary main_while0b_call4_call0_v141 main_while0b_call4_call0_v145 main_while0b_call4_call0_v146 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v144 main_while0b_call4_call0_v146 main_while0b_call4_call0_v147 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v142 main_while0b_call4_call0_v147 main_while0b_call4_call0_v148 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v142 main_while0b_call4_call0_v148 main_while0b_call4_call0_v149 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_38 ((constantI S_ 32 15#32) : (⟨S_, .i32⟩ : BufTy).Contents (Elt F)),
   StableHlo.unary main_while0b_call4_call0_c_38 main_while0b_call4_call0_v150 ((broadcastInDim S512x32x32 ![] bcast_S_S512x32x32) : (⟨S_, .i32⟩ : BufTy).Contents (Elt F) → (⟨S512x32x32, .i32⟩ : BufTy).Contents (Elt F)),
   StableHlo.binary main_while0b_call4_call0_v148 main_while0b_call4_call0_v150 main_while0b_call4_call0_v151 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_39 ((constantI S_ 32 17#32) : (⟨S_, .i32⟩ : BufTy).Contents (Elt F)),
   StableHlo.unary main_while0b_call4_call0_c_39 main_while0b_call4_call0_v152 ((broadcastInDim S512x32x32 ![] bcast_S_S512x32x32) : (⟨S_, .i32⟩ : BufTy).Contents (Elt F) → (⟨S512x32x32, .i32⟩ : BufTy).Contents (Elt F)),
   StableHlo.binary main_while0b_call4_call0_v148 main_while0b_call4_call0_v152 main_while0b_call4_call0_v153 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v151 main_while0b_call4_call0_v153 main_while0b_call4_call0_v154 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v149 main_while0b_call4_call0_v154 main_while0b_call4_call0_v155 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v149 main_while0b_call4_call0_v155 main_while0b_call4_call0_v156 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_40 ((constantI S_ 32 26#32) : (⟨S_, .i32⟩ : BufTy).Contents (Elt F)),
   StableHlo.unary main_while0b_call4_call0_c_40 main_while0b_call4_call0_v157 ((broadcastInDim S512x32x32 ![] bcast_S_S512x32x32) : (⟨S_, .i32⟩ : BufTy).Contents (Elt F) → (⟨S512x32x32, .i32⟩ : BufTy).Contents (Elt F)),
   StableHlo.binary main_while0b_call4_call0_v155 main_while0b_call4_call0_v157 main_while0b_call4_call0_v158 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_41 ((constantI S_ 32 6#32) : (⟨S_, .i32⟩ : BufTy).Contents (Elt F)),
   StableHlo.unary main_while0b_call4_call0_c_41 main_while0b_call4_call0_v159 ((broadcastInDim S512x32x32 ![] bcast_S_S512x32x32) : (⟨S_, .i32⟩ : BufTy).Contents (Elt F) → (⟨S512x32x32, .i32⟩ : BufTy).Contents (Elt F)),
   StableHlo.binary main_while0b_call4_call0_v155 main_while0b_call4_call0_v159 main_while0b_call4_call0_v160 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v158 main_while0b_call4_call0_v160 main_while0b_call4_call0_v161 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v156 main_while0b_call4_call0_v161 main_while0b_call4_call0_v162 (xori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v156 main_while0b_call4_call0_v162 main_while0b_call4_call0_v163 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_42 ((constantI S_ 32 6#32) : (⟨S_, .i32⟩ : BufTy).Contents (Elt F)),
   StableHlo.unary main_while0b_call4_call0_c_42 main_while0b_call4_call0_v164 ((broadcastInDim S512x32x32 ![] bcast_S_S512x32x32) : (⟨S_, .i32⟩ : BufTy).Contents (Elt F) → (⟨S512x32x32, .i32⟩ : BufTy).Contents (Elt F)),
   StableHlo.binary main_while0b_call4_call0_v162 main_while0b_call4_call0_v164 main_while0b_call4_call0_v165 (Host.shli : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_43 ((constantI S_ 32 26#32) : (⟨S_, .i32⟩ : BufTy).Contents (Elt F)),
   StableHlo.unary main_while0b_call4_call0_c_43 main_while0b_call4_call0_v166 ((broadcastInDim S512x32x32 ![] bcast_S_S512x32x32) : (⟨S_, .i32⟩ : BufTy).Contents (Elt F) → (⟨S512x32x32, .i32⟩ : BufTy).Contents (Elt F)),
   StableHlo.binary main_while0b_call4_call0_v162 main_while0b_call4_call0_v166 main_while0b_call4_call0_v167 (Host.shrui : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v165 main_while0b_call4_call0_v167 main_while0b_call4_call0_v168 (ori : (⟨S512x32x32, .i32⟩ : BufTy).Contents (Elt F) → (⟨S512x32x32, .i32⟩ : BufTy).Contents (Elt F) → (⟨S512x32x32, .i32⟩ : BufTy).Contents (Elt F)),
   StableHlo.binary main_while0b_call4_call0_v163 main_while0b_call4_call0_v168 main_while0b_call4_call0_v169 (xori : (⟨S512x32x32, .i32⟩ : BufTy).Contents (Elt F) → (⟨S512x32x32, .i32⟩ : BufTy).Contents (Elt F) → (⟨S512x32x32, .i32⟩ : BufTy).Contents (Elt F)),
   StableHlo.unary main_while0b_call4_call0_v1 main_while0b_call4_call0_v170 ((broadcastInDim S512x32x32 ![] bcast_S_S512x32x32) : (⟨S_, .i32⟩ : BufTy).Contents (Elt F) → (⟨S512x32x32, .i32⟩ : BufTy).Contents (Elt F)),
   StableHlo.binary main_while0b_call4_call0_v163 main_while0b_call4_call0_v170 main_while0b_call4_v23_0 (addi : (⟨S512x32x32, .i32⟩ : BufTy).Contents (Elt F) → (⟨S512x32x32, .i32⟩ : BufTy).Contents (Elt F) → (⟨S512x32x32, .i32⟩ : BufTy).Contents (Elt F)),
   StableHlo.unary main_while0b_call4_v5 main_while0b_call4_call0_v172 ((broadcastInDim S512x32x32 ![] bcast_S_S512x32x32) : (⟨S_, .i32⟩ : BufTy).Contents (Elt F) → (⟨S512x32x32, .i32⟩ : BufTy).Contents (Elt F)),
   StableHlo.binary main_while0b_call4_call0_v169 main_while0b_call4_call0_v172 main_while0b_call4_call0_v173 (addi : (⟨S512x32x32, .i32⟩ : BufTy).Contents (Elt F) → (⟨S512x32x32, .i32⟩ : BufTy).Contents (Elt F) → (⟨S512x32x32, .i32⟩ : BufTy).Contents (Elt F)),
   StableHlo.nullary main_while0b_call4_call0_c_44 ((constantI S_ 32 5#32) : (⟨S_, .i32⟩ : BufTy).Contents (Elt F)),
   StableHlo.unary main_while0b_call4_call0_c_44 main_while0b_call4_call0_v174 ((broadcastInDim S512x32x32 ![] bcast_S_S512x32x32) : (⟨S_, .i32⟩ : BufTy).Contents (Elt F) → (⟨S512x32x32, .i32⟩ : BufTy).Contents (Elt F)),
   StableHlo.binary main_while0b_call4_call0_v173 main_while0b_call4_call0_v174 main_while0b_call4_v23_1 (addi : (⟨S512x32x32, .i32⟩ : BufTy).Contents (Elt F) → (⟨S512x32x32, .i32⟩ : BufTy).Contents (Elt F) → (⟨S512x32x32, .i32⟩ : BufTy).Contents (Elt F))]

/-- Uniform numbers from the random bits, and the noise from the uniform numbers. -/
abbrev noiseOps : List (HloOp τ sig (Elt F)) :=
  [StableHlo.binary main_while0b_call4_v23_0 main_while0b_call4_v23_1 main_while0b_call4_v24 (xori : (⟨S512x32x32, .i32⟩ : BufTy).Contents (Elt F) → (⟨S512x32x32, .i32⟩ : BufTy).Contents (Elt F) → (⟨S512x32x32, .i32⟩ : BufTy).Contents (Elt F)),
   StableHlo.nullary main_while0b_call4_c_3 ((constantI S_ 32 9#32) : (⟨S_, .i32⟩ : BufTy).Contents (Elt F)),
   StableHlo.unary main_while0b_call4_c_3 main_while0b_call4_v25 ((broadcastInDim S512x32x32 ![] bcast_S_S512x32x32) : (⟨S_, .i32⟩ : BufTy).Contents (Elt F) → (⟨S512x32x32, .i32⟩ : BufTy).Contents (Elt F)),
   StableHlo.binary main_while0b_call4_v24 main_while0b_call4_v25 main_while0b_call4_v26 (Host.shrui : (⟨S512x32x32, .i32⟩ : BufTy).Contents (Elt F) → (⟨S512x32x32, .i32⟩ : BufTy).Contents (Elt F) → (⟨S512x32x32, .i32⟩ : BufTy).Contents (Elt F)),
   StableHlo.nullary main_while0b_call4_c_4 ((constantI S_ 32 1065353216#32) : (⟨S_, .i32⟩ : BufTy).Contents (Elt F)),
   StableHlo.unary main_while0b_call4_c_4 main_while0b_call4_v27 ((broadcastInDim S512x32x32 ![] bcast_S_S512x32x32) : (⟨S_, .i32⟩ : BufTy).Contents (Elt F) → (⟨S512x32x32, .i32⟩ : BufTy).Contents (Elt F)),
   StableHlo.binary main_while0b_call4_v26 main_while0b_call4_v27 main_while0b_call4_v28 (ori : (⟨S512x32x32, .i32⟩ : BufTy).Contents (Elt F) → (⟨S512x32x32, .i32⟩ : BufTy).Contents (Elt F) → (⟨S512x32x32, .i32⟩ : BufTy).Contents (Elt F)),
   StableHlo.unary main_while0b_call4_v28 main_while0b_call4_v29 ((bitcastToFloat .f32) : (⟨S512x32x32, .i32⟩ : BufTy).Contents (Elt F) → (⟨S512x32x32, .f32⟩ : BufTy).Contents (Elt F)),
   StableHlo.nullary main_while0b_call4_cst ((constant S_ .f32 0x3F800000#32) : (⟨S_, .f32⟩ : BufTy).Contents (Elt F)),
   StableHlo.unary main_while0b_call4_cst main_while0b_call4_v30 ((broadcastInDim S512x32x32 ![] bcast_S_S512x32x32) : (⟨S_, .f32⟩ : BufTy).Contents (Elt F) → (⟨S512x32x32, .f32⟩ : BufTy).Contents (Elt F)),
   StableHlo.binary main_while0b_call4_v29 main_while0b_call4_v30 main_while0b_call4_v31 (subf : (⟨S512x32x32, .f32⟩ : BufTy).Contents (Elt F) → (⟨S512x32x32, .f32⟩ : BufTy).Contents (Elt F) → (⟨S512x32x32, .f32⟩ : BufTy).Contents (Elt F)),
   StableHlo.binary main_while0b_call4_v3 main_while0b_call4_v2 main_while0b_call4_v32 (subf : (⟨S1x1x1, .f32⟩ : BufTy).Contents (Elt F) → (⟨S1x1x1, .f32⟩ : BufTy).Contents (Elt F) → (⟨S1x1x1, .f32⟩ : BufTy).Contents (Elt F)),
   StableHlo.unary main_while0b_call4_v32 main_while0b_call4_v33 ((broadcastInDim S512x32x32 ![0, 1, 2] bcast_S1x1x1_S512x32x32_0_1_2) : (⟨S1x1x1, .f32⟩ : BufTy).Contents (Elt F) → (⟨S512x32x32, .f32⟩ : BufTy).Contents (Elt F)),
   StableHlo.binary main_while0b_call4_v31 main_while0b_call4_v33 main_while0b_call4_v34 (mulf : (⟨S512x32x32, .f32⟩ : BufTy).Contents (Elt F) → (⟨S512x32x32, .f32⟩ : BufTy).Contents (Elt F) → (⟨S512x32x32, .f32⟩ : BufTy).Contents (Elt F)),
   StableHlo.unary main_while0b_call4_v2 main_while0b_call4_v35 ((broadcastInDim S512x32x32 ![0, 1, 2] bcast_S1x1x1_S512x32x32_0_1_2) : (⟨S1x1x1, .f32⟩ : BufTy).Contents (Elt F) → (⟨S512x32x32, .f32⟩ : BufTy).Contents (Elt F)),
   StableHlo.binary main_while0b_call4_v34 main_while0b_call4_v35 main_while0b_call4_v36 (addf : (⟨S512x32x32, .f32⟩ : BufTy).Contents (Elt F) → (⟨S512x32x32, .f32⟩ : BufTy).Contents (Elt F) → (⟨S512x32x32, .f32⟩ : BufTy).Contents (Elt F)),
   StableHlo.unary main_while0b_call4_v2 main_while0b_call4_v37 ((broadcastInDim S512x32x32 ![0, 1, 2] bcast_S1x1x1_S512x32x32_0_1_2) : (⟨S1x1x1, .f32⟩ : BufTy).Contents (Elt F) → (⟨S512x32x32, .f32⟩ : BufTy).Contents (Elt F)),
   StableHlo.binary main_while0b_call4_v37 main_while0b_call4_v36 main_while0b_v30 (maximumf : (⟨S512x32x32, .f32⟩ : BufTy).Contents (Elt F) → (⟨S512x32x32, .f32⟩ : BufTy).Contents (Elt F) → (⟨S512x32x32, .f32⟩ : BufTy).Contents (Elt F)),
   StableHlo.nullary main_while0b_cst_12 (constant S_ .f32 0x3F800000#32),
   StableHlo.unary main_while0b_cst_12 main_while0b_v31 (broadcastInDim S512x32x32 ![] bcast_S_S512x32x32 : (⟨S_, .f32⟩ : BufTy).Contents (Elt F) → (⟨S512x32x32, .f32⟩ : BufTy).Contents (Elt F)),
   StableHlo.binary main_while0b_v30 main_while0b_v31 main_while0b_v32 (mulf : (⟨S512x32x32, .f32⟩ : BufTy).Contents (Elt F) → (⟨S512x32x32, .f32⟩ : BufTy).Contents (Elt F) → (⟨S512x32x32, .f32⟩ : BufTy).Contents (Elt F)),
   StableHlo.nullary main_while0b_cst_13 (constant S_ .f32 0x00800000#32),
   StableHlo.unary main_while0b_cst_13 main_while0b_v33 (broadcastInDim S512x32x32 ![] bcast_S_S512x32x32 : (⟨S_, .f32⟩ : BufTy).Contents (Elt F) → (⟨S512x32x32, .f32⟩ : BufTy).Contents (Elt F)),
   StableHlo.binary main_while0b_v32 main_while0b_v33 main_while0b_v34 (addf : (⟨S512x32x32, .f32⟩ : BufTy).Contents (Elt F) → (⟨S512x32x32, .f32⟩ : BufTy).Contents (Elt F) → (⟨S512x32x32, .f32⟩ : BufTy).Contents (Elt F)),
   StableHlo.nullary main_while0b_cst_14 (constant S_ .f32 0x00800000#32),
   StableHlo.unary main_while0b_cst_14 main_while0b_v35 (broadcastInDim S512x32x32 ![] bcast_S_S512x32x32 : (⟨S_, .f32⟩ : BufTy).Contents (Elt F) → (⟨S512x32x32, .f32⟩ : BufTy).Contents (Elt F)),
   StableHlo.binary main_while0b_v35 main_while0b_v34 main_while0b_v36 (maximumf : (⟨S512x32x32, .f32⟩ : BufTy).Contents (Elt F) → (⟨S512x32x32, .f32⟩ : BufTy).Contents (Elt F) → (⟨S512x32x32, .f32⟩ : BufTy).Contents (Elt F)),
   StableHlo.unary main_while0b_v36 main_while0b_v37 (Host.log : (⟨S512x32x32, .f32⟩ : BufTy).Contents (Elt F) → (⟨S512x32x32, .f32⟩ : BufTy).Contents (Elt F)),
   StableHlo.unary main_while0b_v37 main_while0b_v38 (Host.negf : (⟨S512x32x32, .f32⟩ : BufTy).Contents (Elt F) → (⟨S512x32x32, .f32⟩ : BufTy).Contents (Elt F)),
   StableHlo.unary main_while0b_v38 main_while0b_v39 (Host.log : (⟨S512x32x32, .f32⟩ : BufTy).Contents (Elt F) → (⟨S512x32x32, .f32⟩ : BufTy).Contents (Elt F)),
   StableHlo.unary main_while0b_v39 main_while0b_v40 (Host.negf : (⟨S512x32x32, .f32⟩ : BufTy).Contents (Elt F) → (⟨S512x32x32, .f32⟩ : BufTy).Contents (Elt F))]

/-- The noisy logits and their softmax along the places. -/
abbrev softOps : List (HloOp τ sig (Elt F)) :=
  [StableHlo.binary main_while0b_v27 main_while0b_v40 main_while0b_v41 (addf : (⟨S512x32x32, .f32⟩ : BufTy).Contents (Elt F) → (⟨S512x32x32, .f32⟩ : BufTy).Contents (Elt F) → (⟨S512x32x32, .f32⟩ : BufTy).Contents (Elt F)),
   StableHlo.nullary main_while0b_cst_15 (constant S_ .f32 0x3F800000#32),
   StableHlo.unary main_while0b_cst_15 main_while0b_v42 (broadcastInDim S512x32x32 ![] bcast_S_S512x32x32 : (⟨S_, .f32⟩ : BufTy).Contents (Elt F) → (⟨S512x32x32, .f32⟩ : BufTy).Contents (Elt F)),
   StableHlo.binary main_while0b_v41 main_while0b_v42 main_while0b_v43 (Host.divf : (⟨S512x32x32, .f32⟩ : BufTy).Contents (Elt F) → (⟨S512x32x32, .f32⟩ : BufTy).Contents (Elt F) → (⟨S512x32x32, .f32⟩ : BufTy).Contents (Elt F)),
   StableHlo.nullary main_while0b_cst_16 (constant S_ .f32 0xFF800000#32),
   StableHlo.binary main_while0b_v43 main_while0b_cst_16 main_while0b_v44 ((fun x v => Host.reduce FloatOps.maximumf x v reducesTo_S512x32x32_S512x32_d2 h_S_) : (⟨S512x32x32, .f32⟩ : BufTy).Contents (Elt F) → (⟨S_, .f32⟩ : BufTy).Contents (Elt F) → (⟨S512x32, .f32⟩ : BufTy).Contents (Elt F)),
   StableHlo.nullary main_while0b_cst_17 (constant S_ .f32 0xFF800000#32),
   StableHlo.unary main_while0b_cst_17 main_while0b_v45 (broadcastInDim S512x32 ![] bcast_S_S512x32 : (⟨S_, .f32⟩ : BufTy).Contents (Elt F) → (⟨S512x32, .f32⟩ : BufTy).Contents (Elt F)),
   StableHlo.binary main_while0b_v45 main_while0b_v44 main_while0b_v46 (maximumf : (⟨S512x32, .f32⟩ : BufTy).Contents (Elt F) → (⟨S512x32, .f32⟩ : BufTy).Contents (Elt F) → (⟨S512x32, .f32⟩ : BufTy).Contents (Elt F)),
   StableHlo.unary main_while0b_v46 main_while0b_v47 (broadcastInDim S512x32x1 ![0, 1] bcast_S512x32_S512x32x1_0_1 : (⟨S512x32, .f32⟩ : BufTy).Contents (Elt F) → (⟨S512x32x1, .f32⟩ : BufTy).Contents (Elt F)),
   StableHlo.unary main_while0b_v47 main_while0b_v48 (broadcastInDim S512x32x32 ![0, 1, 2] bcast_S512x32x1_S512x32x32_0_1_2 : (⟨S512x32x1, .f32⟩ : BufTy).Contents (Elt F) → (⟨S512x32x32, .f32⟩ : BufTy).Contents (Elt F)),
   StableHlo.binary main_while0b_v43 main_while0b_v48 main_while0b_v49 (subf : (⟨S512x32x32, .f32⟩ : BufTy).Contents (Elt F) → (⟨S512x32x32, .f32⟩ : BufTy).Contents (Elt F) → (⟨S512x32x32, .f32⟩ : BufTy).Contents (Elt F)),
   StableHlo.unary main_while0b_v49 main_while0b_v50 (Host.exp : (⟨S512x32x32, .f32⟩ : BufTy).Contents (Elt F) → (⟨S512x32x32, .f32⟩ : BufTy).Contents (Elt F)),
   StableHlo.nullary main_while0b_cst_18 (constant S_ .f32 0x00000000#32),
   StableHlo.binary main_while0b_v50 main_while0b_cst_18 main_while0b_v51 ((fun x v => Host.reduceAdd x v reducesTo_S512x32x32_S512x32_d2 h_S_) : (⟨S512x32x32, .f32⟩ : BufTy).Contents (Elt F) → (⟨S_, .f32⟩ : BufTy).Contents (Elt F) → (⟨S512x32, .f32⟩ : BufTy).Contents (Elt F)),
   StableHlo.unary main_while0b_v51 main_while0b_v52 (broadcastInDim S512x32x1 ![0, 1] bcast_S512x32_S512x32x1_0_1 : (⟨S512x32, .f32⟩ : BufTy).Contents (Elt F) → (⟨S512x32x1, .f32⟩ : BufTy).Contents (Elt F)),
   StableHlo.unary main_while0b_v52 main_while0b_v53 (broadcastInDim S512x32x32 ![0, 1, 2] bcast_S512x32x1_S512x32x32_0_1_2 : (⟨S512x32x1, .f32⟩ : BufTy).Contents (Elt F) → (⟨S512x32x32, .f32⟩ : BufTy).Contents (Elt F)),
   StableHlo.binary main_while0b_v50 main_while0b_v53 main_while0b_v54 (Host.divf : (⟨S512x32x32, .f32⟩ : BufTy).Contents (Elt F) → (⟨S512x32x32, .f32⟩ : BufTy).Contents (Elt F) → (⟨S512x32x32, .f32⟩ : BufTy).Contents (Elt F))]

/-- The first place of the largest probability, as a row of zeros and a one, passed straight through the softmax. -/
abbrev pickOps : List (HloOp τ sig (Elt F)) :=
  [StableHlo.nullary main_while0b_call5_v0 ((iotaInDim S512x32x32 32 2) : (⟨S512x32x32, .i32⟩ : BufTy).Contents (Elt F)),
   StableHlo.nullary main_while0b_call5_cst ((constant S_ .f32 0xFF800000#32) : (⟨S_, .f32⟩ : BufTy).Contents (Elt F)),
   StableHlo.nullary main_while0b_call5_c ((constantI S_ 32 0#32) : (⟨S_, .i32⟩ : BufTy).Contents (Elt F)),
   StableHlo.quaternary main_while0b_v54 main_while0b_call5_v0 main_while0b_call5_cst main_while0b_call5_c main_while0b_call5_v1_0 ((fun x y u v j => (Host.argReduce reducer_argmax_f32_i32 x y u v reducesTo_S512x32x32_S512x32_d2 h_S_ j).1) : (⟨S512x32x32, .f32⟩ : BufTy).Contents (Elt F) → (⟨S512x32x32, .i32⟩ : BufTy).Contents (Elt F) → (⟨S_, .f32⟩ : BufTy).Contents (Elt F) → (⟨S_, .i32⟩ : BufTy).Contents (Elt F) → (⟨S512x32, .f32⟩ : BufTy).Contents (Elt F)),
   StableHlo.quaternary main_while0b_v54 main_while0b_call5_v0 main_while0b_call5_cst main_while0b_call5_c main_while0b_v55 ((fun x y u v j => (Host.argReduce reducer_argmax_f32_i32 x y u v reducesTo_S512x32x32_S512x32_d2 h_S_ j).2) : (⟨S512x32x32, .f32⟩ : BufTy).Contents (Elt F) → (⟨S512x32x32, .i32⟩ : BufTy).Contents (Elt F) → (⟨S_, .f32⟩ : BufTy).Contents (Elt F) → (⟨S_, .i32⟩ : BufTy).Contents (Elt F) → (⟨S512x32, .i32⟩ : BufTy).Contents (Elt F)),
   StableHlo.unary main_while0b_v55 main_while0b_call6_v0 ((broadcastInDim S512x32x1 ![0, 1] bcast_S512x32_S512x32x1_0_1) : (⟨S512x32, .i32⟩ : BufTy).Contents (Elt F) → (⟨S512x32x1, .i32⟩ : BufTy).Contents (Elt F)),
   StableHlo.nullary main_while0b_call6_v1 ((iotaInDim S1x1x32 32 2) : (⟨S1x1x32, .i32⟩ : BufTy).Contents (Elt F)),
   StableHlo.unary main_while0b_call6_v0 main_while0b_call6_v2 ((broadcastInDim S512x32x32 ![0, 1, 2] bcast_S512x32x1_S512x32x32_0_1_2) : (⟨S512x32x1, .i32⟩ : BufTy).Contents (Elt F) → (⟨S512x32x32, .i32⟩ : BufTy).Contents (Elt F)),
   StableHlo.unary main_while0b_call6_v1 main_while0b_call6_v3 ((broadcastInDim S512x32x32 ![0, 1, 2] bcast_S1x1x32_S512x32x32_0_1_2) : (⟨S1x1x32, .i32⟩ : BufTy).Contents (Elt F) → (⟨S512x32x32, .i32⟩ : BufTy).Contents (Elt F)),
   StableHlo.binary main_while0b_call6_v2 main_while0b_call6_v3 main_while0b_call6_v4 ((cmpi .eq) : (⟨S512x32x32, .i32⟩ : BufTy).Contents (Elt F) → (⟨S512x32x32, .i32⟩ : BufTy).Contents (Elt F) → (⟨S512x32x32, .i1⟩ : BufTy).Contents (Elt F)),
   StableHlo.unary main_while0b_call6_v4 main_while0b_v56 ((uitofp .f32) : (⟨S512x32x32, .i1⟩ : BufTy).Contents (Elt F) → (⟨S512x32x32, .f32⟩ : BufTy).Contents (Elt F)),
   StableHlo.binary main_while0b_v56 main_while0b_v54 main_while0b_v57 (subf : (⟨S512x32x32, .f32⟩ : BufTy).Contents (Elt F) → (⟨S512x32x32, .f32⟩ : BufTy).Contents (Elt F) → (⟨S512x32x32, .f32⟩ : BufTy).Contents (Elt F)),
   StableHlo.binary main_while0b_v57 main_while0b_v54 main_while0b_v58 (addf : (⟨S512x32x32, .f32⟩ : BufTy).Contents (Elt F) → (⟨S512x32x32, .f32⟩ : BufTy).Contents (Elt F) → (⟨S512x32x32, .f32⟩ : BufTy).Contents (Elt F))]

/-- The mask with the choice added, the choice stored as this trip's slab, and the trip's counter raised. -/
abbrev finishOps : List (HloOp τ sig (Elt F)) :=
  [StableHlo.binary main_v19_4 main_while0b_v58 main_while0b_v59 (addf : (⟨S512x32x32, .f32⟩ : BufTy).Contents (Elt F) → (⟨S512x32x32, .f32⟩ : BufTy).Contents (Elt F) → (⟨S512x32x32, .f32⟩ : BufTy).Contents (Elt F)),
   StableHlo.unary main_while0b_v58 main_while0b_call7_v0 ((broadcastInDim S1x512x32x32 ![1, 2, 3] bcast_S512x32x32_S1x512x32x32_1_2_3) : (⟨S512x32x32, .f32⟩ : BufTy).Contents (Elt F) → (⟨S1x512x32x32, .f32⟩ : BufTy).Contents (Elt F)),
   StableHlo.nullary main_while0b_call7_c ((constantI S_ 32 0#32) : (⟨S_, .i32⟩ : BufTy).Contents (Elt F)),
   StableHlo.nullary main_while0b_call7_c_0 ((constantI S_ 32 0#32) : (⟨S_, .i32⟩ : BufTy).Contents (Elt F)),
   StableHlo.nullary main_while0b_call7_c_1 ((constantI S_ 32 0#32) : (⟨S_, .i32⟩ : BufTy).Contents (Elt F)),
   StableHlo.TRef.binaryIndexed (.of main_v19_5 : StableHlo.TRef sig ⟨S32x512x32x32, .f32⟩) (.of main_while0b_call7_v0 : StableHlo.TRef sig ⟨S1x512x32x32, .f32⟩) ![(.of main_v19_3 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v60 : StableHlo.TRef sig ⟨S32x512x32x32, .f32⟩) (fun x u i => Host.dynamicUpdateSlice x u (fun k => (i k (Shape.Idx.first h_S_)).toInt) updateFits_S32x512x32x32_S1x512x32x32),
   StableHlo.nullary main_while0b_c_19 (constantI S_ 32 1#32),
   StableHlo.binary main_v19_3 main_while0b_c_19 main_while0b_v61 (addi : (⟨S_, .i32⟩ : BufTy).Contents (Elt F) → (⟨S_, .i32⟩ : BufTy).Contents (Elt F) → (⟨S_, .i32⟩ : BufTy).Contents (Elt F)),
   StableHlo.unary main_while0b_v61 main_v19_3 id,
   StableHlo.unary main_while0b_v59 main_v19_4 id,
   StableHlo.unary main_while0b_v60 main_v19_5 id]

/-- The two layers: the logits of every opponent, cell and place. -/
abbrev logitOps : List (HloOp τ sig (Elt F)) :=
  [StableHlo.binary main_arg1 main_arg2 main_v0 ((fun l r => Host.dotGeneral dot_S512x32x32x128_S128x256_S512x32x32x256_3_0_012_1_n_n none l r) : (⟨S512x32x32x128, .f32⟩ : BufTy).Contents (Elt F) → (⟨S128x256, .f32⟩ : BufTy).Contents (Elt F) → (⟨S512x32x32x256, .f32⟩ : BufTy).Contents (Elt F)),
   StableHlo.unary main_arg3 main_v1 (broadcastInDim S1x1x1x256 ![3] bcast_S256_S1x1x1x256_3 : (⟨S256, .f32⟩ : BufTy).Contents (Elt F) → (⟨S1x1x1x256, .f32⟩ : BufTy).Contents (Elt F)),
   StableHlo.unary main_v1 main_v2 (broadcastInDim S512x32x32x256 ![0, 1, 2, 3] bcast_S1x1x1x256_S512x32x32x256_0_1_2_3 : (⟨S1x1x1x256, .f32⟩ : BufTy).Contents (Elt F) → (⟨S512x32x32x256, .f32⟩ : BufTy).Contents (Elt F)),
   StableHlo.binary main_v0 main_v2 main_v3 (addf : (⟨S512x32x32x256, .f32⟩ : BufTy).Contents (Elt F) → (⟨S512x32x32x256, .f32⟩ : BufTy).Contents (Elt F) → (⟨S512x32x32x256, .f32⟩ : BufTy).Contents (Elt F)),
   StableHlo.nullary main_call0_cst ((constant S_ .f32 0x00000000#32) : (⟨S_, .f32⟩ : BufTy).Contents (Elt F)),
   StableHlo.unary main_call0_cst main_call0_v0 ((broadcastInDim S512x32x32x256 ![] bcast_S_S512x32x32x256) : (⟨S_, .f32⟩ : BufTy).Contents (Elt F) → (⟨S512x32x32x256, .f32⟩ : BufTy).Contents (Elt F)),
   StableHlo.binary main_v3 main_call0_v0 main_v4 (maximumf : (⟨S512x32x32x256, .f32⟩ : BufTy).Contents (Elt F) → (⟨S512x32x32x256, .f32⟩ : BufTy).Contents (Elt F) → (⟨S512x32x32x256, .f32⟩ : BufTy).Contents (Elt F)),
   StableHlo.binary main_v4 main_arg4 main_v5 ((fun l r => Host.dotGeneral dot_S512x32x32x256_S256x32_S512x32x32x32_3_0_012_1_n_n none l r) : (⟨S512x32x32x256, .f32⟩ : BufTy).Contents (Elt F) → (⟨S256x32, .f32⟩ : BufTy).Contents (Elt F) → (⟨S512x32x32x32, .f32⟩ : BufTy).Contents (Elt F)),
   StableHlo.unary main_arg5 main_v6 (broadcastInDim S1x1x1x32 ![3] bcast_S32_S1x1x1x32_3 : (⟨S32, .f32⟩ : BufTy).Contents (Elt F) → (⟨S1x1x1x32, .f32⟩ : BufTy).Contents (Elt F)),
   StableHlo.unary main_v6 main_v7 (broadcastInDim S512x32x32x32 ![0, 1, 2, 3] bcast_S1x1x1x32_S512x32x32x32_0_1_2_3 : (⟨S1x1x1x32, .f32⟩ : BufTy).Contents (Elt F) → (⟨S512x32x32x32, .f32⟩ : BufTy).Contents (Elt F)),
   StableHlo.binary main_v5 main_v7 main_v8 (addf : (⟨S512x32x32x32, .f32⟩ : BufTy).Contents (Elt F) → (⟨S512x32x32x32, .f32⟩ : BufTy).Contents (Elt F) → (⟨S512x32x32x32, .f32⟩ : BufTy).Contents (Elt F))]

/-- The key, the empty mask, the counter and the empty choices, copied into the loop's own arrays. -/
abbrev setupOps : List (HloOp τ sig (Elt F)) :=
  [StableHlo.nullary main_c (constantI S_ 32 42#32),
   StableHlo.nullary main_c_0 (constantI S_ 32 32#32),
   StableHlo.binary main_c main_c_0 main_v9 (Host.shrui : (⟨S_, .i32⟩ : BufTy).Contents (Elt F) → (⟨S_, .i32⟩ : BufTy).Contents (Elt F) → (⟨S_, .i32⟩ : BufTy).Contents (Elt F)),
   StableHlo.unary main_v9 main_v10 (id : (⟨S_, .i32⟩ : BufTy).Contents (Elt F) → (⟨S_, .i32⟩ : BufTy).Contents (Elt F)),
   StableHlo.unary main_v10 main_v11 (broadcastInDim S1 ![] bcast_S_S1 : (⟨S_, .i32⟩ : BufTy).Contents (Elt F) → (⟨S1, .i32⟩ : BufTy).Contents (Elt F)),
   StableHlo.nullary main_c_1 (constantI S_ 32 4294967295#32),
   StableHlo.binary main_c main_c_1 main_v12 (andi : (⟨S_, .i32⟩ : BufTy).Contents (Elt F) → (⟨S_, .i32⟩ : BufTy).Contents (Elt F) → (⟨S_, .i32⟩ : BufTy).Contents (Elt F)),
   StableHlo.unary main_v12 main_v13 (id : (⟨S_, .i32⟩ : BufTy).Contents (Elt F) → (⟨S_, .i32⟩ : BufTy).Contents (Elt F)),
   StableHlo.unary main_v13 main_v14 (broadcastInDim S1 ![] bcast_S_S1 : (⟨S_, .i32⟩ : BufTy).Contents (Elt F) → (⟨S1, .i32⟩ : BufTy).Contents (Elt F)),
   StableHlo.binary main_v11 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_cst (constant S_ .f32 0x00000000#32),
   StableHlo.unary main_cst main_v16 (broadcastInDim S512x32x32 ![] bcast_S_S512x32x32 : (⟨S_, .f32⟩ : BufTy).Contents (Elt F) → (⟨S512x32x32, .f32⟩ : BufTy).Contents (Elt F)),
   StableHlo.nullary main_v17 (iotaInDim S32 32 0),
   StableHlo.nullary main_cst_2 (constant S_ .f32 0x00000000#32),
   StableHlo.unary main_cst_2 main_v18 (broadcastInDim S32x512x32x32 ![] bcast_S_S32x512x32x32 : (⟨S_, .f32⟩ : BufTy).Contents (Elt F) → (⟨S32x512x32x32, .f32⟩ : BufTy).Contents (Elt F)),
   StableHlo.nullary main_c_3 (constantI S_ 32 0#32),
   StableHlo.unary main_v17 main_v19_0 id,
   StableHlo.unary main_v8 main_v19_1 id,
   StableHlo.unary main_v15 main_v19_2 id,
   StableHlo.unary main_c_3 main_v19_3 id,
   StableHlo.unary main_v16 main_v19_4 id,
   StableHlo.unary main_v18 main_v19_5 id]

/-- The choices turned to cell, place, opponent; the second result is each cell's matrix transposed. -/
abbrev resultOps : List (HloOp τ sig (Elt F)) :=
  [StableHlo.unary main_v19_5 main_v20 ((transpose S512x32x32x32 [1, 2, 0, 3] · transposes_S32x512x32x32_S512x32x32x32_1_2_0_3) : (⟨S32x512x32x32, .f32⟩ : BufTy).Contents (Elt F) → (⟨S512x32x32x32, .f32⟩ : BufTy).Contents (Elt F)),
   StableHlo.reshape main_v20 main_v21 (rfl : (.f32 : EltTy) = .f32) shapeCasts_S512x32x32x32_S16384x32x32,
   StableHlo.unary main_v21 main_v22 ((transpose S16384x32x32 [0, 2, 1] · transposes_S16384x32x32_S16384x32x32_0_2_1) : (⟨S16384x32x32, .f32⟩ : BufTy).Contents (Elt F) → (⟨S16384x32x32, .f32⟩ : BufTy).Contents (Elt F))]

/-- The body of the loop, stage by stage. -/
abbrev bodyStages : List (List (HloOp τ sig (Elt F))) :=
  [indexOps, foldKeyOps, fold0Ops, fold1Ops, fold2Ops, fold3Ops, fold4Ops, foldEndOps, uniKeyOps, uni0Ops, uni1Ops, uni2Ops, uni3Ops, uni4Ops, noiseOps, softOps, pickOps, finishOps]

/-- What the program does before the loop. -/
abbrev firstStages : List (List (HloOp τ sig (Elt F))) := [logitOps, setupOps]

/-- What the program does after the loop. -/
abbrev lastStages : List (List (HloOp τ sig (Elt F))) := [resultOps]

end Cert.ReferenceIdeal.Stages
-- ==== Proof.Ref.Program.lean ====
/- The reference's printed program is its stages, one after another, with the loop between the first and the last. -/
module

public import proofs.«01_k».proof.Proof.Ref.Ops

@[expose] public section

set_option maxRecDepth 200000

noncomputable section

namespace Cert.ReferenceIdeal.Stages

open Idealize.ShloMosaic Idealize.SL.Sem
open Facts₀ Facts

variable {F : FTy → Type} [FloatOps F]

/-- The printed program is the first stages, the loop, the last stages. -/
theorem main_eq (c : Dev nD) : main (F := F) c =
    Pipeline.chain (firstStages.map StableHlo.seq ++ HostLoop.enter 0 :: lastStages.map StableHlo.seq) := by
  chain_rfl

/-- The printed body of the loop is the chain of the stages. -/
theorem body_eq : main_while0_body (F := F) = Pipeline.chain (bodyStages.map StableHlo.seq) := by
  chain_rfl

end Cert.ReferenceIdeal.Stages
-- ==== Proof.Ref.Writes.lean ====
/- Which arrays each stage of the reference writes: a stage leaves every other array as it was. -/
module

public import proofs.«01_k».proof.Proof.Ref.Ops
public import Idealize.ShloMosaic.Lib.StableHlo.RunRead

@[expose] public section

set_option maxRecDepth 16384

noncomputable section

namespace Cert.ReferenceIdeal.Stages

open Idealize.ShloMosaic Idealize.SL.Sem
open Idealize.ShloMosaic.StableHlo
open Facts₀ Facts

variable {F : FTy → Type} [FloatOps F]

/-- The arrays that `indexOps` writes, -/
abbrev indexWrites : List (Ref sig .tc) :=
  [main_while0b_call1_v0, main_while0b_v23, main_while0b_call2_c, main_while0b_call2_v0, main_while0b_call2_c_0, main_while0b_call2_v1,
   main_while0b_call2_v2, main_while0b_call2_c_1, main_while0b_call2_c_2, main_while0b_call2_c_3, main_while0b_call2_v3, main_while0b_v24,
   main_while0b_cst_9, main_while0b_v25, main_while0b_v26, main_while0b_v27, main_while0b_v28]
/-- and it leaves every other as it was. -/
theorem index_keeps (V : Valuation τ sig (Elt F)) {r : Ref sig .tc} (h : r ∉ indexWrites) :
    after indexOps V (Proc.devRef .tc r) = V (Proc.devRef .tc r) :=
  after_unwritten indexWrites rfl h V
/-- It touches arrays of the program only. -/
theorem index_sub : (indexOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `foldKeyOps` writes, -/
abbrev foldKeyWrites : List (Ref sig .tc) :=
  [main_while0b_call3_c, main_while0b_call3_v0, main_while0b_call3_v1, main_while0b_call3_c_0, main_while0b_call3_v2, main_while0b_call3_v3,
   main_while0b_call3_v4, main_while0b_call3_v5, main_while0b_call3_v6, main_while0b_call3_v7, main_while0b_call3_v8, main_while0b_call3_v9,
   main_while0b_call3_v10]
/-- and it leaves every other as it was. -/
theorem foldKey_keeps (V : Valuation τ sig (Elt F)) {r : Ref sig .tc} (h : r ∉ foldKeyWrites) :
    after foldKeyOps V (Proc.devRef .tc r) = V (Proc.devRef .tc r) :=
  after_unwritten foldKeyWrites rfl h V
/-- It touches arrays of the program only. -/
theorem foldKey_sub : (foldKeyOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `fold0Ops` writes, -/
abbrev fold0Writes : List (Ref sig .tc) :=
  [main_while0b_call3_call0_v0, main_while0b_call3_call0_c, main_while0b_call3_call0_v1, main_while0b_call3_call0_v2, main_while0b_call3_call0_v3, main_while0b_call3_call0_v4,
   main_while0b_call3_call0_v5, main_while0b_call3_call0_v6, main_while0b_call3_call0_c_0, main_while0b_call3_call0_v7, main_while0b_call3_call0_v8, main_while0b_call3_call0_c_1,
   main_while0b_call3_call0_v9, main_while0b_call3_call0_v10, main_while0b_call3_call0_v11, main_while0b_call3_call0_v12, main_while0b_call3_call0_v13, main_while0b_call3_call0_c_2,
   main_while0b_call3_call0_v14, main_while0b_call3_call0_v15, main_while0b_call3_call0_c_3, main_while0b_call3_call0_v16, main_while0b_call3_call0_v17, main_while0b_call3_call0_v18,
   main_while0b_call3_call0_v19, main_while0b_call3_call0_v20, main_while0b_call3_call0_c_4, main_while0b_call3_call0_v21, main_while0b_call3_call0_v22, main_while0b_call3_call0_c_5,
   main_while0b_call3_call0_v23, main_while0b_call3_call0_v24, main_while0b_call3_call0_v25, main_while0b_call3_call0_v26, main_while0b_call3_call0_v27, main_while0b_call3_call0_c_6,
   main_while0b_call3_call0_v28, main_while0b_call3_call0_v29, main_while0b_call3_call0_c_7, main_while0b_call3_call0_v30, main_while0b_call3_call0_v31, main_while0b_call3_call0_v32,
   main_while0b_call3_call0_v33, main_while0b_call3_call0_v34, main_while0b_call3_call0_v35, main_while0b_call3_call0_v36, main_while0b_call3_call0_v37, main_while0b_call3_call0_c_8,
   main_while0b_call3_call0_v38, main_while0b_call3_call0_v39]
/-- and it leaves every other as it was. -/
theorem fold0_keeps (V : Valuation τ sig (Elt F)) {r : Ref sig .tc} (h : r ∉ fold0Writes) :
    after fold0Ops V (Proc.devRef .tc r) = V (Proc.devRef .tc r) :=
  after_unwritten fold0Writes rfl h V
/-- It touches arrays of the program only. -/
theorem fold0_sub : (fold0Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `fold1Ops` writes, -/
abbrev fold1Writes : List (Ref sig .tc) :=
  [main_while0b_call3_call0_v40, main_while0b_call3_call0_c_9, main_while0b_call3_call0_v41, main_while0b_call3_call0_v42, main_while0b_call3_call0_c_10, main_while0b_call3_call0_v43,
   main_while0b_call3_call0_v44, main_while0b_call3_call0_v45, main_while0b_call3_call0_v46, main_while0b_call3_call0_v47, main_while0b_call3_call0_c_11, main_while0b_call3_call0_v48,
   main_while0b_call3_call0_v49, main_while0b_call3_call0_c_12, main_while0b_call3_call0_v50, main_while0b_call3_call0_v51, main_while0b_call3_call0_v52, main_while0b_call3_call0_v53,
   main_while0b_call3_call0_v54, main_while0b_call3_call0_c_13, main_while0b_call3_call0_v55, main_while0b_call3_call0_v56, main_while0b_call3_call0_c_14, main_while0b_call3_call0_v57,
   main_while0b_call3_call0_v58, main_while0b_call3_call0_v59, main_while0b_call3_call0_v60, main_while0b_call3_call0_v61, main_while0b_call3_call0_c_15, main_while0b_call3_call0_v62,
   main_while0b_call3_call0_v63, main_while0b_call3_call0_c_16, main_while0b_call3_call0_v64, main_while0b_call3_call0_v65, main_while0b_call3_call0_v66, main_while0b_call3_call0_v67,
   main_while0b_call3_call0_v68, main_while0b_call3_call0_v69, main_while0b_call3_call0_v70, main_while0b_call3_call0_v71, main_while0b_call3_call0_c_17, main_while0b_call3_call0_v72,
   main_while0b_call3_call0_v73]
/-- and it leaves every other as it was. -/
theorem fold1_keeps (V : Valuation τ sig (Elt F)) {r : Ref sig .tc} (h : r ∉ fold1Writes) :
    after fold1Ops V (Proc.devRef .tc r) = V (Proc.devRef .tc r) :=
  after_unwritten fold1Writes rfl h V
/-- It touches arrays of the program only. -/
theorem fold1_sub : (fold1Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `fold2Ops` writes, -/
abbrev fold2Writes : List (Ref sig .tc) :=
  [main_while0b_call3_call0_v74, main_while0b_call3_call0_c_18, main_while0b_call3_call0_v75, main_while0b_call3_call0_v76, main_while0b_call3_call0_c_19, main_while0b_call3_call0_v77,
   main_while0b_call3_call0_v78, main_while0b_call3_call0_v79, main_while0b_call3_call0_v80, main_while0b_call3_call0_v81, main_while0b_call3_call0_c_20, main_while0b_call3_call0_v82,
   main_while0b_call3_call0_v83, main_while0b_call3_call0_c_21, main_while0b_call3_call0_v84, main_while0b_call3_call0_v85, main_while0b_call3_call0_v86, main_while0b_call3_call0_v87,
   main_while0b_call3_call0_v88, main_while0b_call3_call0_c_22, main_while0b_call3_call0_v89, main_while0b_call3_call0_v90, main_while0b_call3_call0_c_23, main_while0b_call3_call0_v91,
   main_while0b_call3_call0_v92, main_while0b_call3_call0_v93, main_while0b_call3_call0_v94, main_while0b_call3_call0_v95, main_while0b_call3_call0_c_24, main_while0b_call3_call0_v96,
   main_while0b_call3_call0_v97, main_while0b_call3_call0_c_25, main_while0b_call3_call0_v98, main_while0b_call3_call0_v99, main_while0b_call3_call0_v100, main_while0b_call3_call0_v101,
   main_while0b_call3_call0_v102, main_while0b_call3_call0_v103, main_while0b_call3_call0_v104, main_while0b_call3_call0_v105, main_while0b_call3_call0_c_26, main_while0b_call3_call0_v106,
   main_while0b_call3_call0_v107]
/-- and it leaves every other as it was. -/
theorem fold2_keeps (V : Valuation τ sig (Elt F)) {r : Ref sig .tc} (h : r ∉ fold2Writes) :
    after fold2Ops V (Proc.devRef .tc r) = V (Proc.devRef .tc r) :=
  after_unwritten fold2Writes rfl h V
/-- It touches arrays of the program only. -/
theorem fold2_sub : (fold2Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `fold3Ops` writes, -/
abbrev fold3Writes : List (Ref sig .tc) :=
  [main_while0b_call3_call0_v108, main_while0b_call3_call0_c_27, main_while0b_call3_call0_v109, main_while0b_call3_call0_v110, main_while0b_call3_call0_c_28, main_while0b_call3_call0_v111,
   main_while0b_call3_call0_v112, main_while0b_call3_call0_v113, main_while0b_call3_call0_v114, main_while0b_call3_call0_v115, main_while0b_call3_call0_c_29, main_while0b_call3_call0_v116,
   main_while0b_call3_call0_v117, main_while0b_call3_call0_c_30, main_while0b_call3_call0_v118, main_while0b_call3_call0_v119, main_while0b_call3_call0_v120, main_while0b_call3_call0_v121,
   main_while0b_call3_call0_v122, main_while0b_call3_call0_c_31, main_while0b_call3_call0_v123, main_while0b_call3_call0_v124, main_while0b_call3_call0_c_32, main_while0b_call3_call0_v125,
   main_while0b_call3_call0_v126, main_while0b_call3_call0_v127, main_while0b_call3_call0_v128, main_while0b_call3_call0_v129, main_while0b_call3_call0_c_33, main_while0b_call3_call0_v130,
   main_while0b_call3_call0_v131, main_while0b_call3_call0_c_34, main_while0b_call3_call0_v132, main_while0b_call3_call0_v133, main_while0b_call3_call0_v134, main_while0b_call3_call0_v135,
   main_while0b_call3_call0_v136, main_while0b_call3_call0_v137, main_while0b_call3_call0_v138, main_while0b_call3_call0_v139, main_while0b_call3_call0_c_35, main_while0b_call3_call0_v140,
   main_while0b_call3_call0_v141]
/-- and it leaves every other as it was. -/
theorem fold3_keeps (V : Valuation τ sig (Elt F)) {r : Ref sig .tc} (h : r ∉ fold3Writes) :
    after fold3Ops V (Proc.devRef .tc r) = V (Proc.devRef .tc r) :=
  after_unwritten fold3Writes rfl h V
/-- It touches arrays of the program only. -/
theorem fold3_sub : (fold3Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `fold4Ops` writes, -/
abbrev fold4Writes : List (Ref sig .tc) :=
  [main_while0b_call3_call0_v142, main_while0b_call3_call0_c_36, main_while0b_call3_call0_v143, main_while0b_call3_call0_v144, main_while0b_call3_call0_c_37, main_while0b_call3_call0_v145,
   main_while0b_call3_call0_v146, main_while0b_call3_call0_v147, main_while0b_call3_call0_v148, main_while0b_call3_call0_v149, main_while0b_call3_call0_c_38, main_while0b_call3_call0_v150,
   main_while0b_call3_call0_v151, main_while0b_call3_call0_c_39, main_while0b_call3_call0_v152, main_while0b_call3_call0_v153, main_while0b_call3_call0_v154, main_while0b_call3_call0_v155,
   main_while0b_call3_call0_v156, main_while0b_call3_call0_c_40, main_while0b_call3_call0_v157, main_while0b_call3_call0_v158, main_while0b_call3_call0_c_41, main_while0b_call3_call0_v159,
   main_while0b_call3_call0_v160, main_while0b_call3_call0_v161, main_while0b_call3_call0_v162, main_while0b_call3_call0_v163, main_while0b_call3_call0_c_42, main_while0b_call3_call0_v164,
   main_while0b_call3_call0_v165, main_while0b_call3_call0_c_43, main_while0b_call3_call0_v166, main_while0b_call3_call0_v167, main_while0b_call3_call0_v168, main_while0b_call3_call0_v169,
   main_while0b_call3_call0_v170, main_while0b_call3_v11_0, main_while0b_call3_call0_v172, main_while0b_call3_call0_v173, main_while0b_call3_call0_c_44, main_while0b_call3_call0_v174,
   main_while0b_call3_v11_1]
/-- and it leaves every other as it was. -/
theorem fold4_keeps (V : Valuation τ sig (Elt F)) {r : Ref sig .tc} (h : r ∉ fold4Writes) :
    after fold4Ops V (Proc.devRef .tc r) = V (Proc.devRef .tc r) :=
  after_unwritten fold4Writes rfl h V
/-- It touches arrays of the program only. -/
theorem fold4_sub : (fold4Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `foldEndOps` writes, -/
abbrev foldEndWrites : List (Ref sig .tc) :=
  [main_while0b_v29, main_while0b_cst_10, main_while0b_cst_11]
/-- and it leaves every other as it was. -/
theorem foldEnd_keeps (V : Valuation τ sig (Elt F)) {r : Ref sig .tc} (h : r ∉ foldEndWrites) :
    after foldEndOps V (Proc.devRef .tc r) = V (Proc.devRef .tc r) :=
  after_unwritten foldEndWrites rfl h V
/-- It touches arrays of the program only. -/
theorem foldEnd_sub : (foldEndOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `uniKeyOps` writes, -/
abbrev uniKeyWrites : List (Ref sig .tc) :=
  [main_while0b_call4_v0, main_while0b_call4_v1, main_while0b_call4_v2, main_while0b_call4_v3, main_while0b_call4_v4, main_while0b_call4_v5,
   main_while0b_call4_v6, main_while0b_call4_v7, main_while0b_call4_v8, main_while0b_call4_v9, main_while0b_call4_v10, main_while0b_call4_c,
   main_while0b_call4_v11, main_while0b_call4_v12, main_while0b_call4_c_0, main_while0b_call4_v13, main_while0b_call4_v14, main_while0b_call4_c_1,
   main_while0b_call4_v15, main_while0b_call4_v16, main_while0b_call4_v17, main_while0b_call4_v18, main_while0b_call4_c_2, main_while0b_call4_v19,
   main_while0b_call4_v20, main_while0b_call4_v21, main_while0b_call4_v22]
/-- and it leaves every other as it was. -/
theorem uniKey_keeps (V : Valuation τ sig (Elt F)) {r : Ref sig .tc} (h : r ∉ uniKeyWrites) :
    after uniKeyOps V (Proc.devRef .tc r) = V (Proc.devRef .tc r) :=
  after_unwritten uniKeyWrites rfl h V
/-- It touches arrays of the program only. -/
theorem uniKey_sub : (uniKeyOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `uni0Ops` writes, -/
abbrev uni0Writes : List (Ref sig .tc) :=
  [main_while0b_call4_call0_v0, main_while0b_call4_call0_c, main_while0b_call4_call0_v1, main_while0b_call4_call0_v2, main_while0b_call4_call0_v3, main_while0b_call4_call0_v4,
   main_while0b_call4_call0_v5, main_while0b_call4_call0_v6, main_while0b_call4_call0_c_0, main_while0b_call4_call0_v7, main_while0b_call4_call0_v8, main_while0b_call4_call0_c_1,
   main_while0b_call4_call0_v9, main_while0b_call4_call0_v10, main_while0b_call4_call0_v11, main_while0b_call4_call0_v12, main_while0b_call4_call0_v13, main_while0b_call4_call0_c_2,
   main_while0b_call4_call0_v14, main_while0b_call4_call0_v15, main_while0b_call4_call0_c_3, main_while0b_call4_call0_v16, main_while0b_call4_call0_v17, main_while0b_call4_call0_v18,
   main_while0b_call4_call0_v19, main_while0b_call4_call0_v20, main_while0b_call4_call0_c_4, main_while0b_call4_call0_v21, main_while0b_call4_call0_v22, main_while0b_call4_call0_c_5,
   main_while0b_call4_call0_v23, main_while0b_call4_call0_v24, main_while0b_call4_call0_v25, main_while0b_call4_call0_v26, main_while0b_call4_call0_v27, main_while0b_call4_call0_c_6,
   main_while0b_call4_call0_v28, main_while0b_call4_call0_v29, main_while0b_call4_call0_c_7, main_while0b_call4_call0_v30, main_while0b_call4_call0_v31, main_while0b_call4_call0_v32,
   main_while0b_call4_call0_v33, main_while0b_call4_call0_v34, main_while0b_call4_call0_v35, main_while0b_call4_call0_v36, main_while0b_call4_call0_v37, main_while0b_call4_call0_c_8,
   main_while0b_call4_call0_v38, main_while0b_call4_call0_v39]
/-- and it leaves every other as it was. -/
theorem uni0_keeps (V : Valuation τ sig (Elt F)) {r : Ref sig .tc} (h : r ∉ uni0Writes) :
    after uni0Ops V (Proc.devRef .tc r) = V (Proc.devRef .tc r) :=
  after_unwritten uni0Writes rfl h V
/-- It touches arrays of the program only. -/
theorem uni0_sub : (uni0Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `uni1Ops` writes, -/
abbrev uni1Writes : List (Ref sig .tc) :=
  [main_while0b_call4_call0_v40, main_while0b_call4_call0_c_9, main_while0b_call4_call0_v41, main_while0b_call4_call0_v42, main_while0b_call4_call0_c_10, main_while0b_call4_call0_v43,
   main_while0b_call4_call0_v44, main_while0b_call4_call0_v45, main_while0b_call4_call0_v46, main_while0b_call4_call0_v47, main_while0b_call4_call0_c_11, main_while0b_call4_call0_v48,
   main_while0b_call4_call0_v49, main_while0b_call4_call0_c_12, main_while0b_call4_call0_v50, main_while0b_call4_call0_v51, main_while0b_call4_call0_v52, main_while0b_call4_call0_v53,
   main_while0b_call4_call0_v54, main_while0b_call4_call0_c_13, main_while0b_call4_call0_v55, main_while0b_call4_call0_v56, main_while0b_call4_call0_c_14, main_while0b_call4_call0_v57,
   main_while0b_call4_call0_v58, main_while0b_call4_call0_v59, main_while0b_call4_call0_v60, main_while0b_call4_call0_v61, main_while0b_call4_call0_c_15, main_while0b_call4_call0_v62,
   main_while0b_call4_call0_v63, main_while0b_call4_call0_c_16, main_while0b_call4_call0_v64, main_while0b_call4_call0_v65, main_while0b_call4_call0_v66, main_while0b_call4_call0_v67,
   main_while0b_call4_call0_v68, main_while0b_call4_call0_v69, main_while0b_call4_call0_v70, main_while0b_call4_call0_v71, main_while0b_call4_call0_c_17, main_while0b_call4_call0_v72,
   main_while0b_call4_call0_v73]
/-- and it leaves every other as it was. -/
theorem uni1_keeps (V : Valuation τ sig (Elt F)) {r : Ref sig .tc} (h : r ∉ uni1Writes) :
    after uni1Ops V (Proc.devRef .tc r) = V (Proc.devRef .tc r) :=
  after_unwritten uni1Writes rfl h V
/-- It touches arrays of the program only. -/
theorem uni1_sub : (uni1Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `uni2Ops` writes, -/
abbrev uni2Writes : List (Ref sig .tc) :=
  [main_while0b_call4_call0_v74, main_while0b_call4_call0_c_18, main_while0b_call4_call0_v75, main_while0b_call4_call0_v76, main_while0b_call4_call0_c_19, main_while0b_call4_call0_v77,
   main_while0b_call4_call0_v78, main_while0b_call4_call0_v79, main_while0b_call4_call0_v80, main_while0b_call4_call0_v81, main_while0b_call4_call0_c_20, main_while0b_call4_call0_v82,
   main_while0b_call4_call0_v83, main_while0b_call4_call0_c_21, main_while0b_call4_call0_v84, main_while0b_call4_call0_v85, main_while0b_call4_call0_v86, main_while0b_call4_call0_v87,
   main_while0b_call4_call0_v88, main_while0b_call4_call0_c_22, main_while0b_call4_call0_v89, main_while0b_call4_call0_v90, main_while0b_call4_call0_c_23, main_while0b_call4_call0_v91,
   main_while0b_call4_call0_v92, main_while0b_call4_call0_v93, main_while0b_call4_call0_v94, main_while0b_call4_call0_v95, main_while0b_call4_call0_c_24, main_while0b_call4_call0_v96,
   main_while0b_call4_call0_v97, main_while0b_call4_call0_c_25, main_while0b_call4_call0_v98, main_while0b_call4_call0_v99, main_while0b_call4_call0_v100, main_while0b_call4_call0_v101,
   main_while0b_call4_call0_v102, main_while0b_call4_call0_v103, main_while0b_call4_call0_v104, main_while0b_call4_call0_v105, main_while0b_call4_call0_c_26, main_while0b_call4_call0_v106,
   main_while0b_call4_call0_v107]
/-- and it leaves every other as it was. -/
theorem uni2_keeps (V : Valuation τ sig (Elt F)) {r : Ref sig .tc} (h : r ∉ uni2Writes) :
    after uni2Ops V (Proc.devRef .tc r) = V (Proc.devRef .tc r) :=
  after_unwritten uni2Writes rfl h V
/-- It touches arrays of the program only. -/
theorem uni2_sub : (uni2Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `uni3Ops` writes, -/
abbrev uni3Writes : List (Ref sig .tc) :=
  [main_while0b_call4_call0_v108, main_while0b_call4_call0_c_27, main_while0b_call4_call0_v109, main_while0b_call4_call0_v110, main_while0b_call4_call0_c_28, main_while0b_call4_call0_v111,
   main_while0b_call4_call0_v112, main_while0b_call4_call0_v113, main_while0b_call4_call0_v114, main_while0b_call4_call0_v115, main_while0b_call4_call0_c_29, main_while0b_call4_call0_v116,
   main_while0b_call4_call0_v117, main_while0b_call4_call0_c_30, main_while0b_call4_call0_v118, main_while0b_call4_call0_v119, main_while0b_call4_call0_v120, main_while0b_call4_call0_v121,
   main_while0b_call4_call0_v122, main_while0b_call4_call0_c_31, main_while0b_call4_call0_v123, main_while0b_call4_call0_v124, main_while0b_call4_call0_c_32, main_while0b_call4_call0_v125,
   main_while0b_call4_call0_v126, main_while0b_call4_call0_v127, main_while0b_call4_call0_v128, main_while0b_call4_call0_v129, main_while0b_call4_call0_c_33, main_while0b_call4_call0_v130,
   main_while0b_call4_call0_v131, main_while0b_call4_call0_c_34, main_while0b_call4_call0_v132, main_while0b_call4_call0_v133, main_while0b_call4_call0_v134, main_while0b_call4_call0_v135,
   main_while0b_call4_call0_v136, main_while0b_call4_call0_v137, main_while0b_call4_call0_v138, main_while0b_call4_call0_v139, main_while0b_call4_call0_c_35, main_while0b_call4_call0_v140,
   main_while0b_call4_call0_v141]
/-- and it leaves every other as it was. -/
theorem uni3_keeps (V : Valuation τ sig (Elt F)) {r : Ref sig .tc} (h : r ∉ uni3Writes) :
    after uni3Ops V (Proc.devRef .tc r) = V (Proc.devRef .tc r) :=
  after_unwritten uni3Writes rfl h V
/-- It touches arrays of the program only. -/
theorem uni3_sub : (uni3Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `uni4Ops` writes, -/
abbrev uni4Writes : List (Ref sig .tc) :=
  [main_while0b_call4_call0_v142, main_while0b_call4_call0_c_36, main_while0b_call4_call0_v143, main_while0b_call4_call0_v144, main_while0b_call4_call0_c_37, main_while0b_call4_call0_v145,
   main_while0b_call4_call0_v146, main_while0b_call4_call0_v147, main_while0b_call4_call0_v148, main_while0b_call4_call0_v149, main_while0b_call4_call0_c_38, main_while0b_call4_call0_v150,
   main_while0b_call4_call0_v151, main_while0b_call4_call0_c_39, main_while0b_call4_call0_v152, main_while0b_call4_call0_v153, main_while0b_call4_call0_v154, main_while0b_call4_call0_v155,
   main_while0b_call4_call0_v156, main_while0b_call4_call0_c_40, main_while0b_call4_call0_v157, main_while0b_call4_call0_v158, main_while0b_call4_call0_c_41, main_while0b_call4_call0_v159,
   main_while0b_call4_call0_v160, main_while0b_call4_call0_v161, main_while0b_call4_call0_v162, main_while0b_call4_call0_v163, main_while0b_call4_call0_c_42, main_while0b_call4_call0_v164,
   main_while0b_call4_call0_v165, main_while0b_call4_call0_c_43, main_while0b_call4_call0_v166, main_while0b_call4_call0_v167, main_while0b_call4_call0_v168, main_while0b_call4_call0_v169,
   main_while0b_call4_call0_v170, main_while0b_call4_v23_0, main_while0b_call4_call0_v172, main_while0b_call4_call0_v173, main_while0b_call4_call0_c_44, main_while0b_call4_call0_v174,
   main_while0b_call4_v23_1]
/-- and it leaves every other as it was. -/
theorem uni4_keeps (V : Valuation τ sig (Elt F)) {r : Ref sig .tc} (h : r ∉ uni4Writes) :
    after uni4Ops V (Proc.devRef .tc r) = V (Proc.devRef .tc r) :=
  after_unwritten uni4Writes rfl h V
/-- It touches arrays of the program only. -/
theorem uni4_sub : (uni4Ops (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `noiseOps` writes, -/
abbrev noiseWrites : List (Ref sig .tc) :=
  [main_while0b_call4_v24, main_while0b_call4_c_3, main_while0b_call4_v25, main_while0b_call4_v26, main_while0b_call4_c_4, main_while0b_call4_v27,
   main_while0b_call4_v28, main_while0b_call4_v29, main_while0b_call4_cst, main_while0b_call4_v30, main_while0b_call4_v31, main_while0b_call4_v32,
   main_while0b_call4_v33, main_while0b_call4_v34, main_while0b_call4_v35, main_while0b_call4_v36, main_while0b_call4_v37, main_while0b_v30,
   main_while0b_cst_12, main_while0b_v31, main_while0b_v32, main_while0b_cst_13, main_while0b_v33, main_while0b_v34,
   main_while0b_cst_14, main_while0b_v35, main_while0b_v36, main_while0b_v37, main_while0b_v38, main_while0b_v39,
   main_while0b_v40]
/-- and it leaves every other as it was. -/
theorem noise_keeps (V : Valuation τ sig (Elt F)) {r : Ref sig .tc} (h : r ∉ noiseWrites) :
    after noiseOps V (Proc.devRef .tc r) = V (Proc.devRef .tc r) :=
  after_unwritten noiseWrites rfl h V
/-- It touches arrays of the program only. -/
theorem noise_sub : (noiseOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `softOps` writes, -/
abbrev softWrites : List (Ref sig .tc) :=
  [main_while0b_v41, main_while0b_cst_15, main_while0b_v42, main_while0b_v43, main_while0b_cst_16, main_while0b_v44,
   main_while0b_cst_17, main_while0b_v45, main_while0b_v46, main_while0b_v47, main_while0b_v48, main_while0b_v49,
   main_while0b_v50, main_while0b_cst_18, main_while0b_v51, main_while0b_v52, main_while0b_v53, main_while0b_v54]
/-- and it leaves every other as it was. -/
theorem soft_keeps (V : Valuation τ sig (Elt F)) {r : Ref sig .tc} (h : r ∉ softWrites) :
    after softOps V (Proc.devRef .tc r) = V (Proc.devRef .tc r) :=
  after_unwritten softWrites rfl h V
/-- It touches arrays of the program only. -/
theorem soft_sub : (softOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `pickOps` writes, -/
abbrev pickWrites : List (Ref sig .tc) :=
  [main_while0b_call5_v0, main_while0b_call5_cst, main_while0b_call5_c, main_while0b_call5_v1_0, main_while0b_v55, main_while0b_call6_v0,
   main_while0b_call6_v1, main_while0b_call6_v2, main_while0b_call6_v3, main_while0b_call6_v4, main_while0b_v56, main_while0b_v57,
   main_while0b_v58]
/-- and it leaves every other as it was. -/
theorem pick_keeps (V : Valuation τ sig (Elt F)) {r : Ref sig .tc} (h : r ∉ pickWrites) :
    after pickOps V (Proc.devRef .tc r) = V (Proc.devRef .tc r) :=
  after_unwritten pickWrites rfl h V
/-- It touches arrays of the program only. -/
theorem pick_sub : (pickOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `finishOps` writes, -/
abbrev finishWrites : List (Ref sig .tc) :=
  [main_while0b_v59, main_while0b_call7_v0, main_while0b_call7_c, main_while0b_call7_c_0, main_while0b_call7_c_1, main_while0b_v60,
   main_while0b_c_19, main_while0b_v61, main_v19_3, main_v19_4, main_v19_5]
/-- and it leaves every other as it was. -/
theorem finish_keeps (V : Valuation τ sig (Elt F)) {r : Ref sig .tc} (h : r ∉ finishWrites) :
    after finishOps V (Proc.devRef .tc r) = V (Proc.devRef .tc r) :=
  after_unwritten finishWrites rfl h V
/-- It touches arrays of the program only. -/
theorem finish_sub : (finishOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `logitOps` writes, -/
abbrev logitWrites : List (Ref sig .tc) :=
  [main_v0, main_v1, main_v2, main_v3, main_call0_cst, main_call0_v0,
   main_v4, main_v5, main_v6, main_v7, main_v8]
/-- and it leaves every other as it was. -/
theorem logit_keeps (V : Valuation τ sig (Elt F)) {r : Ref sig .tc} (h : r ∉ logitWrites) :
    after logitOps V (Proc.devRef .tc r) = V (Proc.devRef .tc r) :=
  after_unwritten logitWrites rfl h V
/-- It touches arrays of the program only. -/
theorem logit_sub : (logitOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `setupOps` writes, -/
abbrev setupWrites : List (Ref sig .tc) :=
  [main_c, main_c_0, main_v9, main_v10, main_v11, main_c_1,
   main_v12, main_v13, main_v14, main_v15, main_cst, main_v16,
   main_v17, main_cst_2, main_v18, main_c_3, main_v19_0, main_v19_1,
   main_v19_2, main_v19_3, main_v19_4, main_v19_5]
/-- and it leaves every other as it was. -/
theorem setup_keeps (V : Valuation τ sig (Elt F)) {r : Ref sig .tc} (h : r ∉ setupWrites) :
    after setupOps V (Proc.devRef .tc r) = V (Proc.devRef .tc r) :=
  after_unwritten setupWrites rfl h V
/-- It touches arrays of the program only. -/
theorem setup_sub : (setupOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

/-- The arrays that `resultOps` writes, -/
abbrev resultWrites : List (Ref sig .tc) :=
  [main_v20, main_v21, main_v22]
/-- and it leaves every other as it was. -/
theorem result_keeps (V : Valuation τ sig (Elt F)) {r : Ref sig .tc} (h : r ∉ resultWrites) :
    after resultOps V (Proc.devRef .tc r) = V (Proc.devRef .tc r) :=
  after_unwritten resultWrites rfl h V
/-- It touches arrays of the program only. -/
theorem result_sub : (resultOps (F := F)).Forall fun op => op.bufs ⊆ tcRefs τ sig := by
  simp only [List.Forall, nullary_bufs_sub, unary_bufs_sub, binary_bufs_sub, ternary_bufs_sub, quaternary_bufs_sub, reshape_bufs_sub,
    unaryIndexed_bufs_sub, binaryIndexed_bufs_sub, and_self]

end Cert.ReferenceIdeal.Stages
-- ==== Proof.Ref.Run.lean ====
/- The run of the reference: its loop makes thirty-two trips, and at the end every array of the program holds what
   the stages, applied one after another, make of the arguments. -/
module

public import proofs.«01_k».proof.Proof.Ref.Program
public import proofs.«01_k».proof.Proof.Ref.Writes
public import Idealize.ShloMosaic.Lib.StableHlo.RunRead
public import Idealize.ShloMosaic.Lib.Scf.ExitTest
public import Idealize.ShloMosaic.Lib.Claim

@[expose] public section

set_option maxRecDepth 16384

noncomputable section

namespace Cert.ReferenceIdeal.Stages

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Facts₀ Facts

variable {F : FTy → Type} [FloatOps F]

/-- The two operations of the loop's test. -/
abbrev testOps : List (HloOp τ sig (Elt F)) :=
  [StableHlo.nullary main_while0c_c_9 (constantI S_ 32 32#32),
   StableHlo.binary main_v19_3 main_while0c_c_9 main_while0c_v23 (cmpi .slt : (⟨S_, .i32⟩ : BufTy).Contents (Elt F) → (⟨S_, .i32⟩ : BufTy).Contents (Elt F) → (⟨S_, .i1⟩ : BufTy).Contents (Elt F))]

/-- The arrays the test writes, -/
abbrev testWrites : List (Ref sig .tc) := [main_while0c_c_9, main_while0c_v23]
/-- and it leaves every other as it was. -/
theorem test_keeps (V : Valuation τ sig (Elt F)) {r : Ref sig .tc} (h : r ∉ testWrites) :
    after testOps V (Proc.devRef .tc r) = V (Proc.devRef .tc r) :=
  after_unwritten testWrites rfl h V

/-- The stages touch arrays of the program only, and allocate none. -/
theorem plain_first : Plain (firstStages (F := F)) :=
  .cons logit_sub (.cons setup_sub (.nil))

/-- The stages touch arrays of the program only, and allocate none. -/
theorem plain_body : Plain (bodyStages (F := F)) :=
  .cons index_sub (.cons foldKey_sub (.cons fold0_sub (.cons fold1_sub (.cons fold2_sub (.cons fold3_sub (.cons fold4_sub (.cons foldEnd_sub (.cons uniKey_sub (.cons uni0_sub (.cons uni1_sub (.cons uni2_sub (.cons uni3_sub (.cons uni4_sub (.cons noise_sub (.cons soft_sub (.cons pick_sub (.cons finish_sub (.nil))))))))))))))))))

/-- The stages touch arrays of the program only, and allocate none. -/
theorem plain_last : Plain (lastStages (F := F)) :=
  .cons result_sub (.nil)

/-- All that a trip's body writes. -/
abbrev bodyWrites : List (Ref sig .tc) :=
  indexWrites ++ foldKeyWrites ++ fold0Writes ++ fold1Writes ++ fold2Writes ++ fold3Writes ++ fold4Writes ++ foldEndWrites ++ uniKeyWrites ++ uni0Writes ++ uni1Writes ++ uni2Writes ++ uni3Writes ++ uni4Writes ++ noiseWrites ++ softWrites ++ pickWrites ++ finishWrites

/-- A trip's body leaves an array that none of its stages writes as it was. -/
theorem body_keeps (V : Valuation τ sig (Elt F)) {r : Ref sig .tc} (h : r ∉ bodyWrites) :
    afterL bodyStages V (Proc.devRef .tc r) = V (Proc.devRef .tc r) := by
  simp only [bodyWrites, List.mem_append, not_or] at h
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h
  simp only [afterL_cons, afterL_nil]
  rw [finish_keeps _ h17, pick_keeps _ h16, soft_keeps _ h15, noise_keeps _ h14, uni4_keeps _ h13, uni3_keeps _ h12, uni2_keeps _ h11, uni1_keeps _ h10, uni0_keeps _ h9, uniKey_keeps _ h8, foldEnd_keeps _ h7, fold4_keeps _ h6, fold3_keeps _ h5, fold2_keeps _ h4, fold1_keeps _ h3, fold0_keeps _ h2, foldKey_keeps _ h1, index_keeps _ h0]

/-- The trip's counter after a trip's body: one more. -/
theorem body_counter (V : Valuation τ sig (Elt F)) :
    afterL bodyStages V (Proc.devRef .tc main_v19_3) = addi (V (Proc.devRef .tc main_v19_3)) (constantI S_ 32 1#32) := by
  have h : ∀ W : Valuation τ sig (Elt F), after finishOps W (Proc.devRef .tc main_v19_3) = addi (W (Proc.devRef .tc main_v19_3)) (constantI S_ 32 1#32) := by
    intro W
    after_reads_simp
    rfl
  simp only [afterL_cons, afterL_nil]
  rw [h, pick_keeps _ (by decide), soft_keeps _ (by decide), noise_keeps _ (by decide), uni4_keeps _ (by decide), uni3_keeps _ (by decide), uni2_keeps _ (by decide), uni1_keeps _ (by decide), uni0_keeps _ (by decide), uniKey_keeps _ (by decide), foldEnd_keeps _ (by decide), fold4_keeps _ (by decide), fold3_keeps _ (by decide), fold2_keeps _ (by decide), fold1_keeps _ (by decide), fold0_keeps _ (by decide), foldKey_keeps _ (by decide), index_keeps _ (by decide)]

section
variable (m : (ℓ : Loc nD τ sig) → Buf (Elt F) ℓ)

/-- The arrays when the loop is entered. -/
abbrev entry : Dev nD → Valuation τ sig (Elt F) := entryContents firstStages m
/-- The arrays before the test of trip `k`. -/
abbrev trip (k : ℕ) (c : Dev nD) : Valuation τ sig (Elt F) := atTrip testOps bodyStages (entry m) k c

/-- An array that neither the test nor the body writes is through every trip what it was at the entry. -/
theorem trip_keeps (c : Dev nD) {r : Ref sig .tc} (h : r ∉ bodyWrites) (h' : r ∉ testWrites) :
    ∀ k, trip m k c (Proc.devRef .tc r) = entry m c (Proc.devRef .tc r)
  | 0 => rfl
  | k + 1 => by
    rw [show trip m (k + 1) c = afterL bodyStages (after testOps (trip m k c)) from rfl, body_keeps _ h, test_keeps _ h']
    exact trip_keeps c h h' k

/-- The counter starts at nothing, -/
theorem entry_counter (c : Dev nD) : entry m c (Proc.devRef .tc main_v19_3) = fun _ => (0#32 : BitVec 32) := by
  show after (setupOps (F := F)) (after logitOps (launchContents m c)) (Proc.devRef .tc main_v19_3) = _
  after_reads_simp
  rfl
/-- and before trip `k` it is `k`. -/
theorem trip_counter (c : Dev nD) : ∀ k, trip m k c (Proc.devRef .tc main_v19_3) = fun _ => Scf.iv 0#32 1#32 k
  | 0 => by rw [show trip m 0 c = entry m c from rfl, entry_counter, Scf.iv_zero]
  | k + 1 => by
    rw [show trip m (k + 1) c = afterL bodyStages (after testOps (trip m k c)) from rfl, body_counter,
      test_keeps _ (by decide), trip_counter c k, Scf.iv_succ]
    rfl

set_option backward.isDefEq.respectTransparency.types false in
/-- The loop's test before trip `k` says to go on exactly while `k` is under thirty-two. -/
theorem test_spec : CondSpec (pcfgs (F := F)) defs₀ loops (main_while0_cond (F := F)) testOps bodyStages (entry m) 32 := by
  intro k hk c bd
  have hctr := trip_counter m c k
  unfold main_while0_cond
  simp only [bind_pure]
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip m k c) main_v19_3 HostLoop.idx0)
        (HloOp.result _ (trip m k c) main_while0c_c_9 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

/-- Every array at the end of the program. -/
abbrev final : Dev nD → Valuation τ sig (Elt F) := finalContents testOps firstStages bodyStages lastStages 32 m

/-- Every execution of the reference ends with the arrays the stages make of the arguments. -/
theorem run (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  run_loop (pcfgs (F := F)) defs₀ loops (main (F := F)) 0 (main_while0_cond (F := F)) (main_while0_body (F := F)) rfl
    firstStages bodyStages lastStages testOps plain_first plain_body plain_last main_eq body_eq 32 m ρ (test_spec m)

/-- An array that nothing writes is at the end what it was at the start. -/
theorem final_keeps (c : Dev nD) {r : Ref sig .tc} (h₁ : r ∉ logitWrites) (h₂ : r ∉ setupWrites) (h₃ : r ∉ bodyWrites)
    (h₄ : r ∉ testWrites) (h₅ : r ∉ resultWrites) : final m c (Proc.devRef .tc r) = m ((c.tc : Thread nD τ).loc r) := by
  show after resultOps (after testOps (trip m 32 c)) (Proc.devRef .tc r) = _
  rw [result_keeps _ h₅, test_keeps _ h₄, trip_keeps m c h₃ h₄]
  show after setupOps (after logitOps _) (Proc.devRef .tc r) = _
  rw [setup_keeps _ h₂, logit_keeps _ h₁]

/-- The program has no semaphore, so any two states of its semaphores are one. -/
theorem no_semaphore {α : Type} (f g : GSem nD τ sig → α) : f = g := by
  funext ⟨t, s⟩
  cases s with
  | reg s => exact Fin.elim0 s
  | dma s => exact Fin.elim0 s

/-- The arguments at the end are the arguments. -/
theorem run_args (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => ⟨(h c main_arg0 rfl).trans (final_keeps m c (by decide) (by decide) (by decide) (by decide) (by decide)),
    (h c main_arg1 rfl).trans (final_keeps m c (by decide) (by decide) (by decide) (by decide) (by decide)),
    (h c main_arg2 rfl).trans (final_keeps m c (by decide) (by decide) (by decide) (by decide) (by decide)),
    (h c main_arg3 rfl).trans (final_keeps m c (by decide) (by decide) (by decide) (by decide) (by decide)),
    (h c main_arg4 rfl).trans (final_keeps m c (by decide) (by decide) (by decide) (by decide) (by decide)),
    (h c main_arg5 rfl).trans (final_keeps m c (by decide) (by decide) (by decide) (by decide) (by decide)),
    (h c main_arg6 rfl).trans (final_keeps m c (by decide) (by decide) (by decide) (by decide) (by decide)),
    (h c main_arg7 rfl).trans (final_keeps m c (by decide) (by decide) (by decide) (by decide) (by decide)),
    (h c main_arg8 rfl).trans (final_keeps m c (by decide) (by decide) (by decide) (by decide) (by decide))⟩, no_semaphore _ _⟩) (run m ρ)

end

end Cert.ReferenceIdeal.Stages
-- ==== Proof.Ref.Rounds.lean ====
/-
  The reference's two random mixers, read group by group: each group of four rounds and the key injection after it does to the
  two word vectors what the common description of the mixer says, so the five groups together are that mixer.
-/
module

public import proofs.«01_k».proof.Proof.Ref.Writes
public import proofs.«01_k».proof.Proof.Threefry

@[expose] public section

set_option maxRecDepth 16384

noncomputable section

namespace Cert.ReferenceIdeal.Stages

open Idealize.ShloMosaic Idealize.SL.Sem
open Idealize.ShloMosaic.StableHlo
open Facts₀ Facts
open Cert.Noise

variable {F : FTy → Type} [FloatOps F]

/-- The word of a scalar. -/
abbrev word (x : IVec S_ 32) : BitVec 32 := x (Shape.Idx.first (by decide))

/-- A scalar copied to a vector is its word copied. -/
theorem spread_word {s : Shape} (h : S_.BroadcastsInDim s ![]) (x : IVec S_ 32) : broadcastInDim s ![] h x = broadcast s (word x) := by
  funext j
  exact congrArg x (funext fun a => a.elim0)

/-- A key injection as the reference spells it: two scalars and a counter's word, added one after another. -/
def injectR {s : Shape} (h : S_.BroadcastsInDim s ![]) (a b : IVec S_ 32) (c : BitVec 32) (x : IVec s 32 × IVec s 32) : IVec s 32 × IVec s 32 :=
  (addi x.1 (broadcastInDim s ![] h a), addi (addi x.2 (broadcastInDim s ![] h b)) (broadcastInDim s ![] h (constantI S_ 32 c)))

/-- It is the injection of the sum. -/
theorem injectR_eq {s : Shape} (h : S_.BroadcastsInDim s ![]) (a b : IVec S_ 32) (c : BitVec 32) (x : IVec s 32 × IVec s 32) :
    injectR h a b c x = inject (word a) (word b + c) x := by
  unfold injectR inject
  simp only [spread_word]
  refine Prod.ext rfl ?_
  funext i
  exact BitVec.add_assoc ..

/-- The key schedule's third word as the reference spells it. -/
def thirdR (a b : IVec S_ 32) : IVec S_ 32 := xori (xori a b) (constantI S_ 32 466688986#32)

/-- It is the third word of the two. -/
theorem word_third (a b : IVec S_ 32) : thirdR a b (Shape.Idx.first (by decide)) = third (word a) (word b) := rfl

/-- Five groups in the reference's spelling are the mixer. -/
theorem mix_groups {s : Shape} (h : S_.BroadcastsInDim s ![]) (a b : IVec S_ 32) (x y : IVec s 32) :
    injectR h (thirdR a b) a 5#32 (roundsA (injectR h b (thirdR a b) 4#32 (roundsB (injectR h a b 3#32 (roundsA
      (injectR h (thirdR a b) a 2#32 (roundsB (injectR h b (thirdR a b) 1#32 (roundsA
        (addi x (broadcastInDim s ![] h a), addi y (broadcastInDim s ![] h b)))))))))))
    = mix (word a) (word b) (addi x (broadcast s (word a)), addi y (broadcast s (word b))) := by
  simp only [injectR_eq, spread_word, word_third, mix]

/-- The first group of rounds, after the first injection, with the injection behind it. -/
theorem fold0_words (V : Valuation τ sig (Elt F)) :
    ((after fold0Ops V (Proc.devRef .tc main_while0b_call3_call0_v35), after fold0Ops V (Proc.devRef .tc main_while0b_call3_call0_v39)) :
      IVec S1 32 × IVec S1 32)
    = injectR bcast_S_S1 (V (Proc.devRef .tc main_while0b_call3_v8)) (thirdR (V (Proc.devRef .tc main_while0b_call3_v6)) (V (Proc.devRef .tc main_while0b_call3_v8))) 1#32
      (roundsA (addi (s := S1) (V (Proc.devRef .tc main_while0b_call3_v9)) (broadcastInDim S1 ![] bcast_S_S1 (V (Proc.devRef .tc main_while0b_call3_v6))),
        addi (s := S1) (V (Proc.devRef .tc main_while0b_call3_v10)) (broadcastInDim S1 ![] bcast_S_S1 (V (Proc.devRef .tc main_while0b_call3_v8))))) :=
  Prod.ext (by chain_rfl) (by chain_rfl)

/-- The first group leaves the key's third word. -/
theorem fold0_third (V : Valuation τ sig (Elt F)) :
    after fold0Ops V (Proc.devRef .tc main_while0b_call3_call0_v1) = thirdR (V (Proc.devRef .tc main_while0b_call3_v6)) (V (Proc.devRef .tc main_while0b_call3_v8)) := by
  chain_rfl

/-- The next group. -/
theorem fold1_words (V : Valuation τ sig (Elt F)) :
    ((after fold1Ops V (Proc.devRef .tc main_while0b_call3_call0_v69), after fold1Ops V (Proc.devRef .tc main_while0b_call3_call0_v73)) :
      IVec S1 32 × IVec S1 32)
    = injectR bcast_S_S1 (V (Proc.devRef .tc main_while0b_call3_call0_v1)) (V (Proc.devRef .tc main_while0b_call3_v6)) 2#32
      (roundsB ((V (Proc.devRef .tc main_while0b_call3_call0_v35)), (V (Proc.devRef .tc main_while0b_call3_call0_v39)))) :=
  Prod.ext (by chain_rfl) (by chain_rfl)

/-- The next group. -/
theorem fold2_words (V : Valuation τ sig (Elt F)) :
    ((after fold2Ops V (Proc.devRef .tc main_while0b_call3_call0_v103), after fold2Ops V (Proc.devRef .tc main_while0b_call3_call0_v107)) :
      IVec S1 32 × IVec S1 32)
    = injectR bcast_S_S1 (V (Proc.devRef .tc main_while0b_call3_v6)) (V (Proc.devRef .tc main_while0b_call3_v8)) 3#32
      (roundsA ((V (Proc.devRef .tc main_while0b_call3_call0_v69)), (V (Proc.devRef .tc main_while0b_call3_call0_v73)))) :=
  Prod.ext (by chain_rfl) (by chain_rfl)

/-- The next group. -/
theorem fold3_words (V : Valuation τ sig (Elt F)) :
    ((after fold3Ops V (Proc.devRef .tc main_while0b_call3_call0_v137), after fold3Ops V (Proc.devRef .tc main_while0b_call3_call0_v141)) :
      IVec S1 32 × IVec S1 32)
    = injectR bcast_S_S1 (V (Proc.devRef .tc main_while0b_call3_v8)) (V (Proc.devRef .tc main_while0b_call3_call0_v1)) 4#32
      (roundsB ((V (Proc.devRef .tc main_while0b_call3_call0_v103)), (V (Proc.devRef .tc main_while0b_call3_call0_v107)))) :=
  Prod.ext (by chain_rfl) (by chain_rfl)

/-- The next group. -/
theorem fold4_words (V : Valuation τ sig (Elt F)) :
    ((after fold4Ops V (Proc.devRef .tc main_while0b_call3_v11_0), after fold4Ops V (Proc.devRef .tc main_while0b_call3_v11_1)) :
      IVec S1 32 × IVec S1 32)
    = injectR bcast_S_S1 (V (Proc.devRef .tc main_while0b_call3_call0_v1)) (V (Proc.devRef .tc main_while0b_call3_v6)) 5#32
      (roundsA ((V (Proc.devRef .tc main_while0b_call3_call0_v137)), (V (Proc.devRef .tc main_while0b_call3_call0_v141)))) :=
  Prod.ext (by chain_rfl) (by chain_rfl)

/-- The five groups are the mixer. -/
theorem fold_words (V : Valuation τ sig (Elt F)) :
    ((after fold4Ops (after fold3Ops (after fold2Ops (after fold1Ops (after fold0Ops V)))) (Proc.devRef .tc main_while0b_call3_v11_0),
      after fold4Ops (after fold3Ops (after fold2Ops (after fold1Ops (after fold0Ops V)))) (Proc.devRef .tc main_while0b_call3_v11_1)) :
      IVec S1 32 × IVec S1 32)
    = mix (word (V (Proc.devRef .tc main_while0b_call3_v6))) (word (V (Proc.devRef .tc main_while0b_call3_v8)))
      (addi (s := S1) (V (Proc.devRef .tc main_while0b_call3_v9)) (broadcast S1 (word (V (Proc.devRef .tc main_while0b_call3_v6)))), addi (s := S1) (V (Proc.devRef .tc main_while0b_call3_v10)) (broadcast S1 (word (V (Proc.devRef .tc main_while0b_call3_v8))))) := by
  have k (r) (h0 : r ∉ fold0Writes) (h1 : r ∉ fold1Writes) (h2 : r ∉ fold2Writes) (h3 : r ∉ fold3Writes) :
      after fold0Ops V (Proc.devRef .tc r) = V (Proc.devRef .tc r)
      ∧ after fold1Ops (after fold0Ops V) (Proc.devRef .tc r) = V (Proc.devRef .tc r)
      ∧ after fold2Ops (after fold1Ops (after fold0Ops V)) (Proc.devRef .tc r) = V (Proc.devRef .tc r)
      ∧ after fold3Ops (after fold2Ops (after fold1Ops (after fold0Ops V))) (Proc.devRef .tc r) = V (Proc.devRef .tc r) :=
    ⟨fold0_keeps _ h0, by rw [fold1_keeps _ h1, fold0_keeps _ h0], by rw [fold2_keeps _ h2, fold1_keeps _ h1, fold0_keeps _ h0],
      by rw [fold3_keeps _ h3, fold2_keeps _ h2, fold1_keeps _ h1, fold0_keeps _ h0]⟩
  obtain ⟨a0, a1, a2, a3⟩ := k main_while0b_call3_v6 (by decide) (by decide) (by decide) (by decide)
  obtain ⟨b0, b1, b2, b3⟩ := k main_while0b_call3_v8 (by decide) (by decide) (by decide) (by decide)
  rw [fold4_words, fold3_words, fold2_words, fold1_words, fold0_words, fold3_keeps _ (r := main_while0b_call3_call0_v1) (by decide),
    fold2_keeps _ (r := main_while0b_call3_call0_v1) (by decide), fold1_keeps _ (r := main_while0b_call3_call0_v1) (by decide), fold0_third, a0, a1, a3, b1, b2]
  exact mix_groups bcast_S_S1 _ _ _ _

/-- The first group of rounds, after the first injection, with the injection behind it. -/
theorem uni0_words (V : Valuation τ sig (Elt F)) :
    ((after uni0Ops V (Proc.devRef .tc main_while0b_call4_call0_v35), after uni0Ops V (Proc.devRef .tc main_while0b_call4_call0_v39)) :
      IVec S512x32x32 32 × IVec S512x32x32 32)
    = injectR bcast_S_S512x32x32 (V (Proc.devRef .tc main_while0b_call4_v7)) (thirdR (V (Proc.devRef .tc main_while0b_call4_v5)) (V (Proc.devRef .tc main_while0b_call4_v7))) 1#32
      (roundsA (addi (s := S512x32x32) (V (Proc.devRef .tc main_while0b_call4_v22)) (broadcastInDim S512x32x32 ![] bcast_S_S512x32x32 (V (Proc.devRef .tc main_while0b_call4_v5))),
        addi (s := S512x32x32) (V (Proc.devRef .tc main_while0b_call4_v21)) (broadcastInDim S512x32x32 ![] bcast_S_S512x32x32 (V (Proc.devRef .tc main_while0b_call4_v7))))) :=
  Prod.ext (by chain_rfl) (by chain_rfl)

/-- The first group leaves the key's third word. -/
theorem uni0_third (V : Valuation τ sig (Elt F)) :
    after uni0Ops V (Proc.devRef .tc main_while0b_call4_call0_v1) = thirdR (V (Proc.devRef .tc main_while0b_call4_v5)) (V (Proc.devRef .tc main_while0b_call4_v7)) := by
  chain_rfl

/-- The next group. -/
theorem uni1_words (V : Valuation τ sig (Elt F)) :
    ((after uni1Ops V (Proc.devRef .tc main_while0b_call4_call0_v69), after uni1Ops V (Proc.devRef .tc main_while0b_call4_call0_v73)) :
      IVec S512x32x32 32 × IVec S512x32x32 32)
    = injectR bcast_S_S512x32x32 (V (Proc.devRef .tc main_while0b_call4_call0_v1)) (V (Proc.devRef .tc main_while0b_call4_v5)) 2#32
      (roundsB ((V (Proc.devRef .tc main_while0b_call4_call0_v35)), (V (Proc.devRef .tc main_while0b_call4_call0_v39)))) :=
  Prod.ext (by chain_rfl) (by chain_rfl)

/-- The next group. -/
theorem uni2_words (V : Valuation τ sig (Elt F)) :
    ((after uni2Ops V (Proc.devRef .tc main_while0b_call4_call0_v103), after uni2Ops V (Proc.devRef .tc main_while0b_call4_call0_v107)) :
      IVec S512x32x32 32 × IVec S512x32x32 32)
    = injectR bcast_S_S512x32x32 (V (Proc.devRef .tc main_while0b_call4_v5)) (V (Proc.devRef .tc main_while0b_call4_v7)) 3#32
      (roundsA ((V (Proc.devRef .tc main_while0b_call4_call0_v69)), (V (Proc.devRef .tc main_while0b_call4_call0_v73)))) :=
  Prod.ext (by chain_rfl) (by chain_rfl)

/-- The next group. -/
theorem uni3_words (V : Valuation τ sig (Elt F)) :
    ((after uni3Ops V (Proc.devRef .tc main_while0b_call4_call0_v137), after uni3Ops V (Proc.devRef .tc main_while0b_call4_call0_v141)) :
      IVec S512x32x32 32 × IVec S512x32x32 32)
    = injectR bcast_S_S512x32x32 (V (Proc.devRef .tc main_while0b_call4_v7)) (V (Proc.devRef .tc main_while0b_call4_call0_v1)) 4#32
      (roundsB ((V (Proc.devRef .tc main_while0b_call4_call0_v103)), (V (Proc.devRef .tc main_while0b_call4_call0_v107)))) :=
  Prod.ext (by chain_rfl) (by chain_rfl)

/-- The next group. -/
theorem uni4_words (V : Valuation τ sig (Elt F)) :
    ((after uni4Ops V (Proc.devRef .tc main_while0b_call4_v23_0), after uni4Ops V (Proc.devRef .tc main_while0b_call4_v23_1)) :
      IVec S512x32x32 32 × IVec S512x32x32 32)
    = injectR bcast_S_S512x32x32 (V (Proc.devRef .tc main_while0b_call4_call0_v1)) (V (Proc.devRef .tc main_while0b_call4_v5)) 5#32
      (roundsA ((V (Proc.devRef .tc main_while0b_call4_call0_v137)), (V (Proc.devRef .tc main_while0b_call4_call0_v141)))) :=
  Prod.ext (by chain_rfl) (by chain_rfl)

/-- The five groups are the mixer. -/
theorem uni_words (V : Valuation τ sig (Elt F)) :
    ((after uni4Ops (after uni3Ops (after uni2Ops (after uni1Ops (after uni0Ops V)))) (Proc.devRef .tc main_while0b_call4_v23_0),
      after uni4Ops (after uni3Ops (after uni2Ops (after uni1Ops (after uni0Ops V)))) (Proc.devRef .tc main_while0b_call4_v23_1)) :
      IVec S512x32x32 32 × IVec S512x32x32 32)
    = mix (word (V (Proc.devRef .tc main_while0b_call4_v5))) (word (V (Proc.devRef .tc main_while0b_call4_v7)))
      (addi (s := S512x32x32) (V (Proc.devRef .tc main_while0b_call4_v22)) (broadcast S512x32x32 (word (V (Proc.devRef .tc main_while0b_call4_v5)))), addi (s := S512x32x32) (V (Proc.devRef .tc main_while0b_call4_v21)) (broadcast S512x32x32 (word (V (Proc.devRef .tc main_while0b_call4_v7))))) := by
  have k (r) (h0 : r ∉ uni0Writes) (h1 : r ∉ uni1Writes) (h2 : r ∉ uni2Writes) (h3 : r ∉ uni3Writes) :
      after uni0Ops V (Proc.devRef .tc r) = V (Proc.devRef .tc r)
      ∧ after uni1Ops (after uni0Ops V) (Proc.devRef .tc r) = V (Proc.devRef .tc r)
      ∧ after uni2Ops (after uni1Ops (after uni0Ops V)) (Proc.devRef .tc r) = V (Proc.devRef .tc r)
      ∧ after uni3Ops (after uni2Ops (after uni1Ops (after uni0Ops V))) (Proc.devRef .tc r) = V (Proc.devRef .tc r) :=
    ⟨uni0_keeps _ h0, by rw [uni1_keeps _ h1, uni0_keeps _ h0], by rw [uni2_keeps _ h2, uni1_keeps _ h1, uni0_keeps _ h0],
      by rw [uni3_keeps _ h3, uni2_keeps _ h2, uni1_keeps _ h1, uni0_keeps _ h0]⟩
  obtain ⟨a0, a1, a2, a3⟩ := k main_while0b_call4_v5 (by decide) (by decide) (by decide) (by decide)
  obtain ⟨b0, b1, b2, b3⟩ := k main_while0b_call4_v7 (by decide) (by decide) (by decide) (by decide)
  rw [uni4_words, uni3_words, uni2_words, uni1_words, uni0_words, uni3_keeps _ (r := main_while0b_call4_call0_v1) (by decide),
    uni2_keeps _ (r := main_while0b_call4_call0_v1) (by decide), uni1_keeps _ (r := main_while0b_call4_call0_v1) (by decide), uni0_third, a0, a1, a3, b1, b2]
  exact mix_groups bcast_S_S512x32x32 _ _ _ _

end Cert.ReferenceIdeal.Stages

end
-- ==== Proof.Ref.Key.lean ====
/- The stages that derive a trip's key and the random words' operands, read entry by entry. -/
module

public import proofs.«01_k».proof.Proof.Ref.Rounds
public import proofs.«01_k».proof.Proof.Value.Draw
public import Idealize.ShloMosaic.PureOps.Ideal.Laws
public import Idealize.ShloMosaic.Lib.IdealHost
public import Idealize.ShloMosaic.Lib.DynamicIndex
public import Idealize.ShloMosaic.Lib.Pointwise

@[expose] public section

set_option maxRecDepth 16384

noncomputable section

namespace Cert.ReferenceIdeal.Stages

open Idealize.ShloMosaic Idealize.SL.Sem
open Idealize.ShloMosaic.StableHlo
open Facts₀ Facts
open Cert.Noise

variable (V : Valuation τ sig (Elt Ideal))

/-- The first word of the seed, -/
theorem foldKey_fst : word (after foldKeyOps V (Proc.devRef .tc main_while0b_call3_v6)) = (V (Proc.devRef .tc main_v19_2) : IVec S2 32) (ix1 0) := by
  show (after foldKeyOps V (Proc.devRef .tc main_while0b_call3_v6) : IVec S_ 32) (Shape.Idx.first _) = _
  after_reads_simp
  pointwise
/-- and the second. -/
theorem foldKey_snd : word (after foldKeyOps V (Proc.devRef .tc main_while0b_call3_v8)) = (V (Proc.devRef .tc main_v19_2) : IVec S2 32) (ix1 1) := by
  show (after foldKeyOps V (Proc.devRef .tc main_while0b_call3_v8) : IVec S_ 32) (Shape.Idx.first _) = _
  after_reads_simp
  pointwise
/-- The counter's two words, stacked. -/
abbrev counterWords : IVec S2 32 :=
  concatenate S2 0 [⟨S1, broadcastInDim S1 ![] bcast_S_S1 (Host.shrui (V (Proc.devRef .tc main_while0b_v28) : IVec S_ 32) (constantI S_ 32 32#32))⟩,
    ⟨S1, broadcastInDim S1 ![] bcast_S_S1 (andi (V (Proc.devRef .tc main_while0b_v28) : IVec S_ 32) (constantI S_ 32 4294967295#32))⟩] concatenates_S1_S1_S2_d0
/-- The counter's high word, -/
theorem foldKey_hi (n : BitVec 32) (h : V (Proc.devRef .tc main_while0b_v28) = (fun _ => n : IVec S_ 32)) (i : Fin 1) :
    (after foldKeyOps V (Proc.devRef .tc main_while0b_call3_v9) : IVec S1 32) (ix1 i) = IntOp.shrui .host n 32#32 := by
  have e : after foldKeyOps V (Proc.devRef .tc main_while0b_call3_v9) = extractStridedSlice S1 ![0] (counterWords V) slices_S2_S1_0 := by chain_rfl
  rw [e]
  unfold counterWords
  rw [h]
  pointwise
/-- and the low one. -/
theorem foldKey_lo (n : BitVec 32) (h : V (Proc.devRef .tc main_while0b_v28) = (fun _ => n : IVec S_ 32)) (i : Fin 1) :
    (after foldKeyOps V (Proc.devRef .tc main_while0b_call3_v10) : IVec S1 32) (ix1 i) = IntOp.andi n 4294967295#32 := by
  have e : after foldKeyOps V (Proc.devRef .tc main_while0b_call3_v10) = extractStridedSlice S1 ![1] (counterWords V) slices_S2_S1_1 := by chain_rfl
  rw [e]
  unfold counterWords
  rw [h]
  pointwise
/-- The key's two words, stacked. -/
theorem foldEnd_fst : (after foldEndOps V (Proc.devRef .tc main_while0b_v29) : IVec S2 32) (ix1 0)
    = (V (Proc.devRef .tc main_while0b_call3_v11_0) : IVec S1 32) (ix1 0) := by
  after_reads_simp
  pointwise
/-- And the second. -/
theorem foldEnd_snd : (after foldEndOps V (Proc.devRef .tc main_while0b_v29) : IVec S2 32) (ix1 1)
    = (V (Proc.devRef .tc main_while0b_call3_v11_1) : IVec S1 32) (ix1 0) := by
  after_reads_simp
  pointwise
/-- The key's words taken apart again. -/
theorem uniKey_fst : word (after uniKeyOps V (Proc.devRef .tc main_while0b_call4_v5)) = (V (Proc.devRef .tc main_while0b_v29) : IVec S2 32) (ix1 0) := by
  show (after uniKeyOps V (Proc.devRef .tc main_while0b_call4_v5) : IVec S_ 32) (Shape.Idx.first _) = _
  after_reads_simp
  pointwise
/-- And the second. -/
theorem uniKey_snd : word (after uniKeyOps V (Proc.devRef .tc main_while0b_call4_v7)) = (V (Proc.devRef .tc main_while0b_v29) : IVec S2 32) (ix1 1) := by
  show (after uniKeyOps V (Proc.devRef .tc main_while0b_call4_v7) : IVec S_ 32) (Shape.Idx.first _) = _
  after_reads_simp
  pointwise
/-- The flat number of an element, counted in long words. -/
theorem uniKey_number (b : Fin 512) (a e : Fin 32) :
    IntOp.addi (IntOp.addi (IntOp.muli 1024#64 (BitVec.ofNat 64 b.val)) (IntOp.muli 32#64 (BitVec.ofNat 64 a.val))) (IntOp.muli 1#64 (BitVec.ofNat 64 e.val))
      = BitVec.ofNat 64 ((b.val * 32 + a.val) * 32 + e.val) := by
  have hb := b.isLt; have ha := a.isLt; have he := e.isLt
  show 1024#64 * BitVec.ofNat 64 b.val + 32#64 * BitVec.ofNat 64 a.val + 1#64 * BitVec.ofNat 64 e.val = _
  apply BitVec.eq_of_toNat_eq
  simp only [BitVec.toNat_add, BitVec.toNat_mul, BitVec.toNat_ofNat]
  omega
/-- Its high word is nothing, -/
theorem uniKey_hi (b : Fin 512) (a e : Fin 32) : (after uniKeyOps V (Proc.devRef .tc main_while0b_call4_v22) : IVec S512x32x32 32) (ix3 b a e) = (0#32 : BitVec 32) := by
  after_reads_simp
  pointwise
  rw [uniKey_number]
  have hb := b.isLt; have ha := a.isLt; have he := e.isLt
  have hs : IntOp.shrui .host (BitVec.ofNat 64 ((b.val * 32 + a.val) * 32 + e.val)) 32#64 = 0#64 := by
    refine (if_pos (by decide)).trans ?_
    apply BitVec.eq_of_toNat_eq
    rw [BitVec.ushiftRight_eq', BitVec.toNat_ushiftRight, Nat.shiftRight_eq_div_pow, BitVec.toNat_ofNat]
    show _ / 2 ^ 32 = 0
    omega
  rw [hs]
  rfl
/-- and its low word the number. -/
theorem uniKey_lo (b : Fin 512) (a e : Fin 32) : (after uniKeyOps V (Proc.devRef .tc main_while0b_call4_v21) : IVec S512x32x32 32) (ix3 b a e) = BitVec.ofNat 32 ((b.val * 32 + a.val) * 32 + e.val) := by
  after_reads_simp
  pointwise
  rw [uniKey_number]
  apply BitVec.eq_of_toNat_eq
  rw [BitVec.toNat_setWidth, BitVec.toNat_ofNat, BitVec.toNat_ofNat]
  omega
/-- The range the noise is stretched to, below -/
theorem uniKey_low (h : V (Proc.devRef .tc main_while0b_cst_10) = constant (F := Ideal) S_ .f32 0x00000000#32) :
    (after uniKeyOps V (Proc.devRef .tc main_while0b_call4_v2) : FVec Ideal S1x1x1 .f32) (ix3 0 0 0) = (0 : EReal) := by
  after_reads_simp
  rw [h]
  pointwise
  exact Ideal.ofBits_zero_f32
/-- and above. -/
theorem uniKey_high (h : V (Proc.devRef .tc main_while0b_cst_11) = constant (F := Ideal) S_ .f32 0x3F800000#32) :
    (after uniKeyOps V (Proc.devRef .tc main_while0b_call4_v3) : FVec Ideal S1x1x1 .f32) (ix3 0 0 0) = (1 : EReal) := by
  after_reads_simp
  rw [h]
  pointwise
  exact Ideal.ofBits_one_f32

/-- The keys of the thirty-two trips: the mixer under the seed `(0, 42)` at the trip's number. -/
theorem keys_at : ∀ p : Fin 32,
    (mix 0#32 42#32 ((fun _ : Point.Idx => IntOp.addi (IntOp.shrui .host (BitVec.ofNat 32 p.val) 32#32) 0#32),
      (fun _ : Point.Idx => IntOp.addi (IntOp.andi (BitVec.ofNat 32 p.val) 4294967295#32) 42#32))).1 point = key1 p.val
    ∧ (mix 0#32 42#32 ((fun _ : Point.Idx => IntOp.addi (IntOp.shrui .host (BitVec.ofNat 32 p.val) 32#32) 0#32),
      (fun _ : Point.Idx => IntOp.addi (IntOp.andi (BitVec.ofNat 32 p.val) 4294967295#32) 42#32))).2 point = key2 p.val := by
  decide +kernel

/-- The mixer's words at an index are those of the counters there. -/
theorem mix_at {s : Shape} (a b : BitVec 32) (x : IVec s 32 × IVec s 32) (i : s.Idx) :
    (mix a b x).1 i = (mix a b (pull (fun _ : Point.Idx => i) x)).1 point ∧ (mix a b x).2 i = (mix a b (pull (fun _ : Point.Idx => i) x)).2 point :=
  ⟨congrFun (congrArg Prod.fst (pull_mix (fun _ : Point.Idx => i) a b x)) point, congrFun (congrArg Prod.snd (pull_mix (fun _ : Point.Idx => i) a b x)) point⟩

end Cert.ReferenceIdeal.Stages

end
-- ==== Proof.Ref.Noise.lean ====
/- The noise of a trip: its key from the trip's number, then every element's random word under the key, stretched and
   doubly logarithmed. -/
module

public import proofs.«01_k».proof.Proof.Ref.Key
public import proofs.«01_k».proof.Proof.Ref.Writes
public import proofs.«01_k».proof.Proof.Value.Outcome
public import proofs.«01_k».proof.Proof.Value.Finite

@[expose] public section

set_option maxRecDepth 16384

noncomputable section

namespace Cert.ReferenceIdeal.Stages

open Idealize.ShloMosaic Idealize.SL.Sem
open Idealize.ShloMosaic.StableHlo
open Facts₀ Facts
open Cert.Noise

variable (V : Valuation τ sig (Elt Ideal))

/-- The five groups that derive the key, -/
abbrev foldAll : Valuation τ sig (Elt Ideal) := after fold4Ops (after fold3Ops (after fold2Ops (after fold1Ops (after fold0Ops V))))
/-- and the five that make the words. -/
abbrev uniAll : Valuation τ sig (Elt Ideal) := after uni4Ops (after uni3Ops (after uni2Ops (after uni1Ops (after uni0Ops V))))

/-- The trip's key. -/
theorem trip_key (p : Fin 32) (h : V (Proc.devRef .tc main_while0b_v28) = (fun _ => BitVec.ofNat 32 p.val : IVec S_ 32))
    (h0 : (V (Proc.devRef .tc main_v19_2) : IVec S2 32) (ix1 0) = (0#32 : BitVec 32)) (h1 : (V (Proc.devRef .tc main_v19_2) : IVec S2 32) (ix1 1) = (42#32 : BitVec 32)) :
    (after foldEndOps (foldAll (after foldKeyOps V)) (Proc.devRef .tc main_while0b_v29) : IVec S2 32) (ix1 0) = key1 p.val
      ∧ (after foldEndOps (foldAll (after foldKeyOps V)) (Proc.devRef .tc main_while0b_v29) : IVec S2 32) (ix1 1) = key2 p.val := by
  have hw := fold_words (after foldKeyOps V)
  rw [foldKey_fst, foldKey_snd, h0, h1] at hw
  have hx : pull (fun _ : Point.Idx => (ix1 0 : S1.Idx))
      (addi (s := S1) (after foldKeyOps V (Proc.devRef .tc main_while0b_call3_v9)) (broadcast S1 0#32),
        addi (s := S1) (after foldKeyOps V (Proc.devRef .tc main_while0b_call3_v10)) (broadcast S1 42#32))
      = ((fun _ : Point.Idx => IntOp.addi (IntOp.shrui .host (BitVec.ofNat 32 p.val) 32#32) 0#32),
        (fun _ : Point.Idx => IntOp.addi (IntOp.andi (BitVec.ofNat 32 p.val) 4294967295#32) 42#32)) := by
    refine Prod.ext (funext fun _ => ?_) (funext fun _ => ?_)
    · exact congrArg (IntOp.addi · 0#32) (foldKey_hi V _ h 0)
    · exact congrArg (IntOp.addi · 42#32) (foldKey_lo V _ h 0)
  have hk := keys_at p
  rw [← hx, ← (mix_at _ _ _ _).1, ← (mix_at _ _ _ _).2, ← hw] at hk
  exact ⟨(foldEnd_fst _).trans hk.1, (foldEnd_snd _).trans hk.2⟩

/-- An element's two words, xored: the draw under the key at the element's flat number. -/
theorem words_at (b : Fin 512) (a e : Fin 32) (k1 k2 : BitVec 32)
    (h1 : (V (Proc.devRef .tc main_while0b_v29) : IVec S2 32) (ix1 0) = k1) (h2 : (V (Proc.devRef .tc main_while0b_v29) : IVec S2 32) (ix1 1) = k2) :
    IntOp.xori ((uniAll (after uniKeyOps V) (Proc.devRef .tc main_while0b_call4_v23_0) : IVec S512x32x32 32) (ix3 b a e))
      ((uniAll (after uniKeyOps V) (Proc.devRef .tc main_while0b_call4_v23_1) : IVec S512x32x32 32) (ix3 b a e))
      = draw k1 k2 (BitVec.ofNat 32 ((b.val * 32 + a.val) * 32 + e.val)) := by
  have hw := uni_words (after uniKeyOps V)
  rw [uniKey_fst, uniKey_snd, h1, h2] at hw
  have hx : pull (fun _ : Point.Idx => (ix3 b a e : S512x32x32.Idx))
      (addi (s := S512x32x32) (after uniKeyOps V (Proc.devRef .tc main_while0b_call4_v22)) (broadcast S512x32x32 k1),
        addi (s := S512x32x32) (after uniKeyOps V (Proc.devRef .tc main_while0b_call4_v21)) (broadcast S512x32x32 k2))
      = (broadcast Point k1, addi (fun _ : Point.Idx => BitVec.ofNat 32 ((b.val * 32 + a.val) * 32 + e.val)) (broadcast Point k2)) := by
    refine Prod.ext (funext fun _ => ?_) (funext fun _ => ?_)
    · refine (congrArg (IntOp.addi · k1) (uniKey_hi V b a e)).trans ?_
      exact BitVec.zero_add k1
    · exact congrArg (IntOp.addi · k2) (uniKey_lo V b a e)
  have e1 := (congrFun (congrArg Prod.fst hw) (ix3 b a e)).trans (mix_at _ _ _ _).1
  have e2 := (congrFun (congrArg Prod.snd hw) (ix3 b a e)).trans (mix_at _ _ _ _).2
  rw [hx] at e1 e2
  exact congrArg₂ IntOp.xori e1 e2

/-- The noise of a word, stretched to the range from nothing to one. -/
theorem noise_read (b : Fin 512) (a e : Fin 32)
    (h0 : (V (Proc.devRef .tc main_while0b_call4_v2) : FVec Ideal S1x1x1 .f32) (ix3 0 0 0) = (0 : EReal))
    (h1 : (V (Proc.devRef .tc main_while0b_call4_v3) : FVec Ideal S1x1x1 .f32) (ix3 0 0 0) = (1 : EReal)) :
    (after noiseOps V (Proc.devRef .tc main_while0b_v40) : FVec Ideal S512x32x32 .f32) (ix3 b a e)
      = Model.noise (IntOp.xori ((V (Proc.devRef .tc main_while0b_call4_v23_0) : IVec S512x32x32 32) (ix3 b a e))
          ((V (Proc.devRef .tc main_while0b_call4_v23_1) : IVec S512x32x32 32) (ix3 b a e))) := by
  after_reads_simp
  pointwise
  rw [h0, h1]
  exact Model.noise_stretched _

/-- The arrays at the end of the noise's stages, from those before the key is derived. -/
abbrev noiseAll : Valuation τ sig (Elt Ideal) :=
  after noiseOps (uniAll (after uniKeyOps (after foldEndOps (foldAll (after foldKeyOps V)))))

/-- The trip's noise, element by element. -/
theorem trip_noise (p : Fin 32) (h : V (Proc.devRef .tc main_while0b_v28) = (fun _ => BitVec.ofNat 32 p.val : IVec S_ 32))
    (h0 : (V (Proc.devRef .tc main_v19_2) : IVec S2 32) (ix1 0) = (0#32 : BitVec 32)) (h1 : (V (Proc.devRef .tc main_v19_2) : IVec S2 32) (ix1 1) = (42#32 : BitVec 32))
    (b : Fin 512) (a e : Fin 32) :
    (noiseAll V (Proc.devRef .tc main_while0b_v40) : FVec Ideal S512x32x32 .f32) (ix3 b a e) = Model.cellNoise (b.val * 32 + a.val) p.val e := by
  have hk := trip_key V p h h0 h1
  have hl := uniKey_low (after foldEndOps (foldAll (after foldKeyOps V))) (by after_reads_simp)
  have hh := uniKey_high (after foldEndOps (foldAll (after foldKeyOps V))) (by after_reads_simp)
  refine (noise_read _ b a e ?_ ?_).trans ?_
  · unfold uniAll
    rw [uni4_keeps _ (by decide), uni3_keeps _ (by decide), uni2_keeps _ (by decide), uni1_keeps _ (by decide), uni0_keeps _ (by decide)]
    exact hl
  · unfold uniAll
    rw [uni4_keeps _ (by decide), uni3_keeps _ (by decide), uni2_keeps _ (by decide), uni1_keeps _ (by decide), uni0_keeps _ (by decide)]
    exact hh
  · rw [words_at _ b a e _ _ hk.1 hk.2]
    rfl

/-- The noise's stages leave an array none of them writes as it was. -/
theorem noiseAll_keeps {r : Ref sig .tc} (h : r ∉ foldKeyWrites ++ fold0Writes ++ fold1Writes ++ fold2Writes ++ fold3Writes ++ fold4Writes ++ foldEndWrites
      ++ uniKeyWrites ++ uni0Writes ++ uni1Writes ++ uni2Writes ++ uni3Writes ++ uni4Writes ++ noiseWrites) :
    noiseAll V (Proc.devRef .tc r) = V (Proc.devRef .tc r) := by
  simp only [List.mem_append, not_or] at h
  obtain ⟨⟨⟨⟨⟨⟨⟨⟨⟨⟨⟨⟨⟨h1, h2⟩, h3⟩, h4⟩, h5⟩, h6⟩, h7⟩, h8⟩, h9⟩, h10⟩, h11⟩, h12⟩, h13⟩, h14⟩ := h
  unfold noiseAll uniAll foldAll
  rw [noise_keeps _ h14, uni4_keeps _ h13, uni3_keeps _ h12, uni2_keeps _ h11, uni1_keeps _ h10, uni0_keeps _ h9, uniKey_keeps _ h8, foldEnd_keeps _ h7, fold4_keeps _ h6, fold3_keeps _ h5, fold2_keeps _ h4, fold1_keeps _ h3, fold0_keeps _ h2, foldKey_keeps _ h1]

end Cert.ReferenceIdeal.Stages

end
-- ==== Proof.Ref.Index.lean ====
/- The stages that read a trip's logits and write a trip's pick at its number, read entry by entry. -/
module

public import proofs.«01_k».proof.Proof.Ref.Ops
public import Idealize.ShloMosaic.Lib.StableHlo.RunRead
public import proofs.«01_k».proof.Proof.Value.Outcome
public import Idealize.ShloMosaic.PureOps.Ideal.Laws
public import Idealize.ShloMosaic.Lib.IdealHost
public import Idealize.ShloMosaic.Lib.DynamicIndex
public import Idealize.ShloMosaic.Lib.Pointwise
public import Idealize.ShloMosaic.Lib.Pipeline.Value

@[expose] public section

set_option maxRecDepth 16384

noncomputable section

namespace Cert.ReferenceIdeal.Stages

open Idealize.ShloMosaic Idealize.SL.Sem
open Idealize.ShloMosaic.StableHlo
open Facts₀ Facts
open Cert.Model

variable (V : Valuation τ sig (Elt Ideal))

/-- An array's number at an element. -/
def elem (x : FVec Ideal S512x32x32 .f32) (b : Fin 512) (a e : Fin 32) : EReal := x (ix3 b a e)
/-- A pile of arrays' number at an element. -/
def deep {s : Shape} (x : FVec Ideal s .f32) (i : s.Idx) : EReal := x i

/-- A trip's number, read as a signed word. -/
theorem toInt_small {p : ℕ} (hp : p < 32) : (BitVec.ofNat 32 p).toInt = (p : ℤ) := by
  have : (BitVec.ofNat 32 p).toNat = p := by rw [BitVec.toNat_ofNat]; omega
  rw [BitVec.toInt_eq_toNat_of_lt (by omega), this]

/-- A trip's number is one of the counted numbers, -/
theorem slices_number (p : ℕ) (hp : p < 32) : S32.Slices ![p] S1 :=
  ⟨rfl, fun a => by fin_cases a; show p + 1 ≤ 32; omega⟩
/-- names a slab of the logits -/
theorem slices_slab (p : ℕ) (hp : p < 32) : S512x32x32x32.Slices ![0, 0, 0, p] S512x32x32x1 :=
  ⟨rfl, fun a => by
    fin_cases a
    · show 0 + 512 ≤ 512
      omega
    · show 0 + 32 ≤ 32
      omega
    · show 0 + 32 ≤ 32
      omega
    · show p + 1 ≤ 32
      omega⟩
/-- and a slab of the picks. -/
theorem slices_pick (p : ℕ) (hp : p < 32) : S32x512x32x32.Slices ![p, 0, 0, 0] S1x512x32x32 :=
  ⟨rfl, fun a => by
    fin_cases a
    · show p + 1 ≤ 32
      omega
    · show 0 + 512 ≤ 512
      omega
    · show 0 + 32 ≤ 32
      omega
    · show 0 + 32 ≤ 32
      omega⟩

/-- The counted number at the trip's number, -/
theorem number_slice {p : ℕ} (hp : p < 32) (h0 : V (Proc.devRef .tc main_v19_0) = (iotaInDim S32 32 0 : IVec S32 32))
    (h3 : V (Proc.devRef .tc main_v19_3) = fun _ => BitVec.ofNat 32 p) :
    after indexOps V (Proc.devRef .tc main_while0b_call1_v0)
      = extractStridedSlice S1 ![p] (iotaInDim S32 32 0 : IVec S32 32) (slices_number p hp) := by
  after_reads_simp
  rw [← h0]
  refine (congrArg (fun s : Fin 1 → ℤ => Host.dynamicSlice S1 (V (Proc.devRef .tc main_v19_0)) s sliceFits_S32_S1)
    (a₂ := fun _ => ((V (Proc.devRef .tc main_v19_3) : IVec S_ 32) (Shape.Idx.first h_S_)).toInt)
    (funext fun k => by fin_cases k; rfl)).trans ?_
  refine Host.dynamicSlice_eq_extractStridedSlice (s := S32) S1 _ _ ![p] _ (slices_number p hp) fun a => ?_
  rw [h3, toInt_small hp]
  fin_cases a
  rfl
/-- as a scalar -/
theorem number_cast : after indexOps V (Proc.devRef .tc main_while0b_v23)
    = shapeCast S_ (after indexOps V (Proc.devRef .tc main_while0b_call1_v0) : IVec S1 32) shapeCasts_S1_S_ := by
  chain_rfl
/-- is the trip's number. -/
theorem number_entry (p : ℕ) (hp : p < 32) :
    shapeCast S_ (extractStridedSlice S1 ![p] (iotaInDim S32 32 0 : IVec S32 32) (slices_number p hp)) shapeCasts_S1_S_
      = (fun _ => BitVec.ofNat 32 p : IVec S_ 32) := by
  have h : ∀ i : S1.Idx, extractStridedSlice S1 ![p] (iotaInDim S32 32 0 : IVec S32 32) (slices_number p hp) i = BitVec.ofNat 32 p := by
    intro i
    have : (i 0).val = 0 := Nat.lt_one_iff.mp (i 0).isLt
    pointwise
  exact funext fun _ => h _
/-- The trip's number, as the trip reads it, -/
theorem number_read {p : ℕ} (hp : p < 32) (h0 : V (Proc.devRef .tc main_v19_0) = (iotaInDim S32 32 0 : IVec S32 32))
    (h3 : V (Proc.devRef .tc main_v19_3) = fun _ => BitVec.ofNat 32 p) :
    after indexOps V (Proc.devRef .tc main_while0b_v23) = (fun _ => BitVec.ofNat 32 p : IVec S_ 32) := by
  rw [number_cast, number_slice V hp h0 h3, number_entry p hp]
/-- and as the key is made of it. -/
theorem number_copy : after indexOps V (Proc.devRef .tc main_while0b_v28) = after indexOps V (Proc.devRef .tc main_while0b_v23) := by
  chain_rfl

/-- The number the logits are read at, -/
theorem start_choice : after indexOps V (Proc.devRef .tc main_while0b_call2_v2)
    = select (cmpi .slt (after indexOps V (Proc.devRef .tc main_while0b_v23) : IVec S_ 32) (constantI S_ 32 0#32))
        (addi (after indexOps V (Proc.devRef .tc main_while0b_v23) : IVec S_ 32) (constantI S_ 32 32#32))
        (after indexOps V (Proc.devRef .tc main_while0b_v23)) := by
  chain_rfl
/-- which is the trip's number. -/
theorem start_read {p : ℕ} (hp : p < 32) (h : after indexOps V (Proc.devRef .tc main_while0b_v23) = (fun _ => BitVec.ofNat 32 p : IVec S_ 32)) :
    after indexOps V (Proc.devRef .tc main_while0b_call2_v2) = (fun _ => BitVec.ofNat 32 p : IVec S_ 32) := by
  rw [start_choice, h]
  funext j
  refine select_slt_zero_of_nonneg (fun _ => BitVec.ofNat 32 p : IVec S_ 32) _ _ j ?_
  show 0 ≤ (BitVec.ofNat 32 p).toInt
  rw [toInt_small hp]
  omega

/-- The slab of the logits at the trip's number, -/
theorem slab_slice {p : ℕ} (hp : p < 32) (h : after indexOps V (Proc.devRef .tc main_while0b_call2_v2) = (fun _ => BitVec.ofNat 32 p : IVec S_ 32)) :
    after indexOps V (Proc.devRef .tc main_while0b_call2_v3)
      = extractStridedSlice S512x32x32x1 ![0, 0, 0, p] (V (Proc.devRef .tc main_v19_1)) (slices_slab p hp) := by
  refine Eq.trans (b := Host.dynamicSlice S512x32x32x1 (V (Proc.devRef .tc main_v19_1))
    (fun k => ((![constantI S_ 32 0#32, constantI S_ 32 0#32, constantI S_ 32 0#32,
       after indexOps V (Proc.devRef .tc main_while0b_call2_v2)] : Fin 4 → IVec S_ 32) k (Shape.Idx.first h_S_)).toInt)
    sliceFits_S512x32x32x32_S512x32x32x1) ?_ ?_
  · refine congrArg (fun s : Fin 4 → ℤ => Host.dynamicSlice S512x32x32x1 (V (Proc.devRef .tc main_v19_1)) s
      sliceFits_S512x32x32x32_S512x32x32x1) (funext fun k => ?_)
    fin_cases k <;> rfl
  · refine Host.dynamicSlice_eq_extractStridedSlice (s := S512x32x32x32) S512x32x32x1 _ _ ![0, 0, 0, p] _ (slices_slab p hp) fun a => ?_
    rw [h]
    fin_cases a
    · rfl
    · rfl
    · rfl
    · exact toInt_small hp
/-- without its last axis, -/
theorem slab_cast : after indexOps V (Proc.devRef .tc main_while0b_v24)
    = shapeCast S512x32x32 (after indexOps V (Proc.devRef .tc main_while0b_call2_v3) : FVec Ideal S512x32x32x1 .f32)
        shapeCasts_S512x32x32x1_S512x32x32 := by
  chain_rfl
/-- one of its logits, -/
theorem slab_entry (x : FVec Ideal S512x32x32x32 .f32) (b : Fin 512) (a e : Fin 32) (p : ℕ) (hp : p < 32) :
    shapeCast S512x32x32 (extractStridedSlice S512x32x32x1 ![0, 0, 0, p] x (slices_slab p hp)) shapeCasts_S512x32x32x1_S512x32x32 (ix3 b a e)
      = x (ix4 b a e ⟨p, hp⟩) := by
  pointwise
/-- The logits of the trip, lowered, -/
theorem lowered : after indexOps V (Proc.devRef .tc main_while0b_v27)
    = addf (F := Ideal) (s := S512x32x32) (φ := .f32) (after indexOps V (Proc.devRef .tc main_while0b_v24))
        (mulf (V (Proc.devRef .tc main_v19_4)) (broadcastInDim S512x32x32 ![] bcast_S_S512x32x32 (constant S_ .f32 0xFF7FC99E#32))) := by
  chain_rfl
/-- at an element, -/
theorem lower_entry (x y : FVec Ideal S512x32x32 .f32) (b : Fin 512) (a e : Fin 32) :
    addf x (mulf y (broadcastInDim S512x32x32 ![] bcast_S_S512x32x32 (constant S_ .f32 0xFF7FC99E#32))) (ix3 b a e)
      = x (ix3 b a e) + y (ix3 b a e) * fall := by
  pointwise
/-- and the trip's logit, lowered where enemies were picked before. -/
theorem lower_read {p : ℕ} (hp : p < 32) (h0 : V (Proc.devRef .tc main_v19_0) = (iotaInDim S32 32 0 : IVec S32 32))
    (h3 : V (Proc.devRef .tc main_v19_3) = fun _ => BitVec.ofNat 32 p) (b : Fin 512) (a e : Fin 32) :
    elem (after indexOps V (Proc.devRef .tc main_while0b_v27)) b a e
      = deep (s := S512x32x32x32) (V (Proc.devRef .tc main_v19_1)) (ix4 b a e ⟨p, hp⟩) + elem (V (Proc.devRef .tc main_v19_4)) b a e * fall := by
  unfold elem deep
  rw [lowered, lower_entry, slab_cast, slab_slice V hp (start_read V hp (number_read V hp h0 h3)), slab_entry]

/-- A slab of picks among the picks. -/
theorem pick_entry {p : ℕ} (hp : p < 32) (x : FVec Ideal S32x512x32x32 .f32) (y : FVec Ideal S512x32x32 .f32)
    (q a e : Fin 32) (b : Fin 512) :
    updateSlice x (broadcastInDim S1x512x32x32 ![1, 2, 3] bcast_S512x32x32_S1x512x32x32_1_2_3 y) ![p, 0, 0, 0] (slices_pick p hp) (ix4 q b a e)
      = if q.val = p then y (ix3 b a e) else x (ix4 q b a e) := by
  rw [updateSlice_apply]
  by_cases hq : q.val = p
  · rw [if_pos hq, dif_pos]
    · pointwise
    · intro k
      fin_cases k
      · show p ≤ q.val ∧ q.val < p + 1
        omega
      · show 0 ≤ b.val ∧ b.val < 0 + 512
        omega
      · show 0 ≤ a.val ∧ a.val < 0 + 32
        omega
      · show 0 ≤ e.val ∧ e.val < 0 + 32
        omega
  · rw [if_neg hq, dif_neg]
    intro h
    have h0 : p ≤ q.val ∧ q.val < p + 1 := h 0
    omega
/-- Where the trip's pick is kept. -/
theorem finish_slice {p : ℕ} (hp : p < 32) (h3 : V (Proc.devRef .tc main_v19_3) = fun _ => BitVec.ofNat 32 p) :
    after finishOps V (Proc.devRef .tc main_v19_5)
      = updateSlice (V (Proc.devRef .tc main_v19_5) : FVec Ideal S32x512x32x32 .f32)
          (broadcastInDim S1x512x32x32 ![1, 2, 3] bcast_S512x32x32_S1x512x32x32_1_2_3 (V (Proc.devRef .tc main_while0b_v58) : FVec Ideal S512x32x32 .f32))
          ![p, 0, 0, 0] (slices_pick p hp) := by
  refine Eq.trans (b := Host.dynamicUpdateSlice (V (Proc.devRef .tc main_v19_5) : FVec Ideal S32x512x32x32 .f32)
    (broadcastInDim S1x512x32x32 ![1, 2, 3] bcast_S512x32x32_S1x512x32x32_1_2_3 (V (Proc.devRef .tc main_while0b_v58) : FVec Ideal S512x32x32 .f32))
    (fun k => ((![V (Proc.devRef .tc main_v19_3), constantI S_ 32 0#32, constantI S_ 32 0#32, constantI S_ 32 0#32] : Fin 4 → IVec S_ 32) k
      (Shape.Idx.first h_S_)).toInt) updateFits_S32x512x32x32_S1x512x32x32) ?_ ?_
  · refine congrArg (fun s : Fin 4 → ℤ => Host.dynamicUpdateSlice (V (Proc.devRef .tc main_v19_5) : FVec Ideal S32x512x32x32 .f32)
      (broadcastInDim S1x512x32x32 ![1, 2, 3] bcast_S512x32x32_S1x512x32x32_1_2_3 (V (Proc.devRef .tc main_while0b_v58) : FVec Ideal S512x32x32 .f32))
      s updateFits_S32x512x32x32_S1x512x32x32) (funext fun k => ?_)
    fin_cases k <;> rfl
  · refine Host.dynamicUpdateSlice_eq_updateSlice (s := S32x512x32x32) (u := S1x512x32x32) _ _ _ _ ![p, 0, 0, 0] (fun a => ?_) (slices_pick p hp)
    rw [h3]
    fin_cases a
    · show (min (max (BitVec.ofNat 32 p).toInt 0) ((32 - 1 : ℕ) : ℤ)).toNat = p
      rw [toInt_small hp]
      omega
    · rfl
    · rfl
    · rfl
/-- The picks after the trip's pick is kept. -/
theorem finish_keep {p : ℕ} (hp : p < 32) (h3 : V (Proc.devRef .tc main_v19_3) = fun _ => BitVec.ofNat 32 p)
    (q a e : Fin 32) (b : Fin 512) :
    deep (s := S32x512x32x32) (after finishOps V (Proc.devRef .tc main_v19_5)) (ix4 q b a e)
      = if q.val = p then elem (V (Proc.devRef .tc main_while0b_v58)) b a e
        else deep (s := S32x512x32x32) (V (Proc.devRef .tc main_v19_5)) (ix4 q b a e) := by
  unfold elem deep
  rw [finish_slice V hp h3, pick_entry hp]

/-- The logits. -/
theorem logit_read (b : Fin 512) (a e p : Fin 32) :
    (after logitOps V (Proc.devRef .tc main_v8) : FVec Ideal S512x32x32x32 .f32) (ix4 b a e p)
      = logit (fun b a e d => (V (Proc.devRef .tc main_arg1) : FVec Ideal _ .f32) (ix4 b a e d))
          (fun d h => (V (Proc.devRef .tc main_arg2) : FVec Ideal _ .f32) (ix2 d h))
          (fun h => (V (Proc.devRef .tc main_arg3) : FVec Ideal _ .f32) (ix1 h))
          (fun h p => (V (Proc.devRef .tc main_arg4) : FVec Ideal _ .f32) (ix2 h p))
          (fun p => (V (Proc.devRef .tc main_arg5) : FVec Ideal _ .f32) (ix1 p)) b a e p := by
  after_reads_simp
  unfold logit
  pointwise

/-- The first result. -/
theorem result_first (n : Fin 16384) (p e : Fin 32) :
    (after resultOps V (Proc.devRef .tc main_v21) : FVec Ideal S16384x32x32 .f32) (ix3 n p e)
      = (V (Proc.devRef .tc main_v19_5) : FVec Ideal S32x512x32x32 .f32)
          (ix4 p ⟨n.val / 32, by omega⟩ ⟨n.val % 32, by omega⟩ e) := by
  after_reads_simp
  pointwise
/-- The second result. -/
theorem result_second (n : Fin 16384) (e p : Fin 32) :
    (after resultOps V (Proc.devRef .tc main_v22) : FVec Ideal S16384x32x32 .f32) (ix3 n e p)
      = (V (Proc.devRef .tc main_v19_5) : FVec Ideal S32x512x32x32 .f32)
          (ix4 p ⟨n.val / 32, by omega⟩ ⟨n.val % 32, by omega⟩ e) := by
  after_reads_simp
  pointwise

/-- What the trips begin with: the counted numbers, -/
theorem setup_numbers : after setupOps V (Proc.devRef .tc main_v19_0) = (iotaInDim S32 32 0 : IVec S32 32) := by chain_rfl
/-- the logits, -/
theorem setup_logits : after setupOps V (Proc.devRef .tc main_v19_1) = V (Proc.devRef .tc main_v8) := by chain_rfl
/-- the seed, -/
theorem setup_seed : after setupOps V (Proc.devRef .tc main_v19_2)
    = (concatenate S2 0 [⟨S1, broadcastInDim S1 ![] bcast_S_S1 (Host.shrui (constantI S_ 32 42#32) (constantI S_ 32 32#32))⟩,
        ⟨S1, broadcastInDim S1 ![] bcast_S_S1 (andi (constantI S_ 32 42#32) (constantI S_ 32 4294967295#32))⟩] concatenates_S1_S1_S2_d0 : IVec S2 32) := by
  chain_rfl
/-- whose first word is nothing -/
theorem setup_seed_0 : (after setupOps V (Proc.devRef .tc main_v19_2) : IVec S2 32) (ix1 0) = 0#32 := by
  rw [setup_seed]
  rfl
/-- and whose second is forty-two; -/
theorem setup_seed_1 : (after setupOps V (Proc.devRef .tc main_v19_2) : IVec S2 32) (ix1 1) = 42#32 := by
  rw [setup_seed]
  rfl
/-- no enemy picked. -/
theorem setup_count (b : Fin 512) (a e : Fin 32) : elem (after setupOps V (Proc.devRef .tc main_v19_4)) b a e = 0 := by
  have h : after setupOps V (Proc.devRef .tc main_v19_4) = (broadcastInDim S512x32x32 ![] bcast_S_S512x32x32 (constant S_ .f32 0x00000000#32) : FVec Ideal S512x32x32 .f32) := by chain_rfl
  rw [h]
  unfold elem
  pointwise

end Cert.ReferenceIdeal.Stages

end
-- ==== Proof.Ref.Pick.lean ====
/- The stages that weigh the enemies, pick one and keep the pick, read entry by entry. -/
module

public import proofs.«01_k».proof.Proof.Ref.Index
public import Idealize.ShloMosaic.Lib.StableHlo.RunRead
public import Idealize.ShloMosaic.PureOps.Ideal.Laws
public import Idealize.ShloMosaic.Lib.IdealHost
public import Idealize.ShloMosaic.Lib.DynamicIndex
public import Idealize.ShloMosaic.Lib.Pointwise
public import Idealize.ShloMosaic.Lib.Pipeline.Value

@[expose] public section

set_option maxRecDepth 16384

noncomputable section

namespace Cert.ReferenceIdeal.Stages

open Idealize.ShloMosaic Idealize.SL.Sem
open Idealize.ShloMosaic.StableHlo
open Facts₀ Facts
open Cert.Model

variable (V : Valuation τ sig (Elt Ideal))

/-- A number divided by one. -/
theorem div_unit (x : EReal) : Ideal.div x 1 = x := by
  have h : Ideal.div x ((1 : ℝ) : EReal) = x := by
    unfold Ideal.div
    simp
  exact h

/-- The greatest number, counted again with the least there is. -/
theorem floor_peak (f : Fin 32 → EReal) :
    max (Ideal.ofBits .f32 4286578688#32) (Finset.fold max (Ideal.ofBits .f32 4286578688#32) f Finset.univ) = peak f :=
  max_eq_right (by rw [low_eq]; exact bot_le)

/-- The greatest number of a row, -/
theorem row_fold {n0 n1 : ℕ} (x : FVec Ideal ⟨3, ![n0, n1, 32]⟩ .f32) (v : FVec Ideal S_ .f32)
    (h : (⟨3, ![n0, n1, 32]⟩ : Shape).ReducesTo [2] ⟨2, ![n0, n1]⟩) (hu : 0 < S_.numel) (i : Fin n0) (j : Fin n1) :
    Host.reduce FloatOps.maximumf x v h hu (ix2 i j) = Finset.fold max (v (Shape.Idx.first hu)) (fun k => x (ix3 i j k)) Finset.univ := by
  pointwise
/-- a row's sum -/
theorem row_sum {n0 n1 : ℕ} (x : FVec Ideal ⟨3, ![n0, n1, 32]⟩ .f32) (v : FVec Ideal S_ .f32)
    (h : (⟨3, ![n0, n1, 32]⟩ : Shape).ReducesTo [2] ⟨2, ![n0, n1]⟩) (hu : 0 < S_.numel) (i : Fin n0) (j : Fin n1) :
    (Host.reduceAdd x v h hu (ix2 i j) : EReal) = v (Shape.Idx.first hu) + ∑ k, (x (ix3 i j k) : EReal) := by
  pointwise
/-- and, of the pairs of number and place, the place of the first greatest. -/
theorem row_first {n0 n1 : ℕ} (x : FVec Ideal ⟨3, ![n0, n1, 32]⟩ .f32) (v : FVec Ideal S_ .f32) (hv : v = fun _ => ⊥)
    (h : (⟨3, ![n0, n1, 32]⟩ : Shape).ReducesTo [2] ⟨2, ![n0, n1]⟩) (hu : 0 < S_.numel) (f : EReal × BitVec 32 → EReal × BitVec 32 → EReal × BitVec 32)
    (hf : f = better) (b : Fin n0) (a : Fin n1) (i : Fin 32) (hi : First (fun e => x (ix3 b a e)) i) :
    (Host.reduce2 f x (iotaInDim ⟨3, ![n0, n1, 32]⟩ 32 2) v (constantI S_ 32 0#32) h hu (ix2 b a)).2 = BitVec.ofNat 32 i.val := by
  rw [Host.reduce2_eq_foldl_fiber, hf, hv]
  refine fold_pairs hi _ fun q => ?_
  unfold Host.argReduceFiber
  simp only [List.mem_map, List.mem_filter, List.mem_finRange, true_and, decide_eq_true_eq]
  constructor
  · rintro ⟨n, hn, rfl⟩
    obtain ⟨k, hk⟩ := (Shape.ReducesTo.fiber_r3_a2 h (ix2 b a) _).mp hn
    refine ⟨k, ?_⟩
    rw [← hk]
    rfl
  · rintro ⟨k, rfl⟩
    refine ⟨(⟨3, ![n0, n1, 32]⟩ : Shape).rowMajor (ix3 b a k), ?_, ?_⟩
    · rw [Equiv.symm_apply_apply]
      exact (Shape.ReducesTo.fiber_r3_a2 h (ix2 b a) _).mpr ⟨k, rfl⟩
    · rw [Equiv.symm_apply_apply]
      rfl

/-- A row's number at each of its elements, -/
def wide {α : Type} (r : S512x32.Idx → α) : S512x32x32.Idx → α :=
  broadcastInDim S512x32x32 ![0, 1, 2] bcast_S512x32x1_S512x32x32_0_1_2 (broadcastInDim S512x32x1 ![0, 1] bcast_S512x32_S512x32x1_0_1 r)
/-- the perturbed logits divided by one, -/
def scaled (x y : FVec Ideal S512x32x32 .f32) : FVec Ideal S512x32x32 .f32 :=
  Host.divf (addf x y) (broadcastInDim S512x32x32 ![] bcast_S_S512x32x32 (constant S_ .f32 0x3F800000#32))
/-- the exponentials of what rows lack to their greatest number, -/
def weights (x : FVec Ideal S512x32x32 .f32) : FVec Ideal S512x32x32 .f32 :=
  Host.exp (subf x (wide (maximumf (broadcastInDim S512x32 ![] bcast_S_S512x32 (constant S_ .f32 0xFF800000#32) : FVec Ideal S512x32 .f32)
    (Host.reduce FloatOps.maximumf x (constant S_ .f32 0xFF800000#32) reducesTo_S512x32x32_S512x32_d2 h_S_))))
/-- and their shares. -/
def shares (x : FVec Ideal S512x32x32 .f32) : FVec Ideal S512x32x32 .f32 :=
  Host.divf (weights x) (wide (Host.reduceAdd (weights x) (constant S_ .f32 0x00000000#32) reducesTo_S512x32x32_S512x32_d2 h_S_))

/-- A widened row at an element, -/
theorem wide_at {α : Type} (r : S512x32.Idx → α) (b : Fin 512) (a e : Fin 32) : wide r (ix3 b a e) = r (ix2 b a) := by
  unfold wide
  pointwise
/-- a perturbed logit, -/
theorem scaled_at (x y : FVec Ideal S512x32x32 .f32) (b : Fin 512) (a e : Fin 32) : scaled x y (ix3 b a e) = elem x b a e + elem y b a e := by
  unfold scaled elem
  pointwise
  exact div_unit _
/-- a weight -/
theorem weights_at (x : FVec Ideal S512x32x32 .f32) (b : Fin 512) (a e : Fin 32) : weights x (ix3 b a e) = weigh (elem x b a) e := by
  have h (r : FVec Ideal S512x32 .f32) : Host.exp (subf x (wide r)) (ix3 b a e) = Ideal.exp (x (ix3 b a e) - r (ix2 b a)) := by
    rw [← wide_at r b a e]
    rfl
  unfold weights
  rw [h]
  unfold weigh
  refine congrArg (fun r => Ideal.exp (x (ix3 b a e) - r)) ?_
  show max (Ideal.ofBits .f32 4286578688#32) (Host.reduce FloatOps.maximumf x (constant S_ .f32 0xFF800000#32) reducesTo_S512x32x32_S512x32_d2 h_S_ (ix2 b a)) = _
  rw [row_fold]
  exact floor_peak _
/-- and a share. -/
theorem shares_at (x : FVec Ideal S512x32x32 .f32) (b : Fin 512) (a e : Fin 32) : shares x (ix3 b a e) = share (elem x b a) e := by
  have h (w : FVec Ideal S512x32x32 .f32) (r : FVec Ideal S512x32 .f32) : Host.divf w (wide r) (ix3 b a e) = Ideal.div (w (ix3 b a e)) (r (ix2 b a)) := by
    rw [← wide_at r b a e]
    rfl
  unfold shares
  rw [h, weights_at]
  unfold share
  refine congrArg (Ideal.div _) ?_
  refine (row_sum (weights x) _ _ h_S_ b a).trans ?_
  refine (congrArg (· + _) Ideal.ofBits_zero_f32).trans ((zero_add _).trans ?_)
  exact Finset.sum_congr rfl fun k _ => weights_at x b a k

/-- The softmax over the enemies of the perturbed logits. -/
theorem soft_read (b : Fin 512) (a e : Fin 32) :
    elem (after softOps V (Proc.devRef .tc main_while0b_v54)) b a e
      = share (fun e => elem (V (Proc.devRef .tc main_while0b_v27)) b a e + elem (V (Proc.devRef .tc main_while0b_v40)) b a e) e := by
  have h : after softOps V (Proc.devRef .tc main_while0b_v54) = shares (scaled (V (Proc.devRef .tc main_while0b_v27)) (V (Proc.devRef .tc main_while0b_v40))) := by chain_rfl
  rw [h]
  refine (shares_at _ b a e).trans ?_
  refine congrArg (share · e) (funext fun k => ?_)
  exact scaled_at _ _ b a k

/-- The reduction's step is the choice of the better pair. -/
theorem reducer_eq (p q : EReal × BitVec 32) : reducer_argmax_f32_i32 (F := Ideal) p q = better p q := by
  unfold better
  refine Prod.ext ?_ ?_
  · show Scalar.select (IntOp.ori (Ideal.cmp .ogt p.1 q.1) (Ideal.cmp .une p.1 p.1)) p.1 q.1 = _
    by_cases h : q.1 < p.1 <;> simp [Ideal.cmp, Scalar.select, IntOp.ori, h]
  · show Scalar.select (IntOp.ori (IntOp.ori (Ideal.cmp .ogt p.1 q.1) (Ideal.cmp .une p.1 p.1)) (IntOp.andi (Ideal.cmp .oeq p.1 q.1) (IntOp.cmpi .slt p.2 q.2))) p.2 q.2 = _
    by_cases h : q.1 < p.1 <;> by_cases h' : p.1 = q.1 <;> by_cases h'' : p.2.toInt < q.2.toInt <;> simp [Ideal.cmp, Scalar.select, IntOp.ori, IntOp.andi, IntOp.cmpi, BitVec.slt, h, h', h'']

/-- The reduction's number is the first enemy of greatest weight. -/
theorem argmax_at (x : FVec Ideal S512x32x32 .f32) (b : Fin 512) (a i : Fin 32) (h : First (fun e => x (ix3 b a e)) i) :
    (Host.argReduce (reducer_argmax_f32_i32 (F := Ideal)) x (iotaInDim S512x32x32 32 2) (constant S_ .f32 0xFF800000#32) (constantI S_ 32 0#32)
      reducesTo_S512x32x32_S512x32_d2 h_S_ (ix2 b a)).2 = BitVec.ofNat 32 i.val := by
  rw [Ideal.argReduce_eq_reduce2]
  exact row_first x _ (funext fun _ => low_eq) _ h_S_ _ (funext fun p => funext fun q => reducer_eq p q) b a i h

/-- The row of the first enemy of greatest weight, carried straight through the weights. -/
def pickedRow (x : FVec Ideal S512x32x32 .f32) : FVec Ideal S512x32x32 .f32 :=
  addf (subf (uitofp .f32 (cmpi .eq (wide fun j => (Host.argReduce (reducer_argmax_f32_i32 (F := Ideal)) x (iotaInDim S512x32x32 32 2) (constant S_ .f32 0xFF800000#32) (constantI S_ 32 0#32)
      reducesTo_S512x32x32_S512x32_d2 h_S_ j).2)
    (broadcastInDim S512x32x32 ![0, 1, 2] bcast_S1x1x32_S512x32x32_0_1_2 (iotaInDim S1x1x32 32 2)))) x) x

/-- That row at an element. -/
theorem pickedRow_at (x : FVec Ideal S512x32x32 .f32) (b : Fin 512) (a e : Fin 32) :
    pickedRow x (ix3 b a e) = hot (elem x b a) e - elem x b a e + elem x b a e := by
  obtain ⟨i, hi⟩ := first_exists (elem x b a)
  have ha := argmax_at x b a i hi
  have h (w : IVec S512x32 32) : addf (subf (uitofp (F := Ideal) .f32 (cmpi .eq (wide w) (broadcastInDim S512x32x32 ![0, 1, 2] bcast_S1x1x32_S512x32x32_0_1_2 (iotaInDim S1x1x32 32 2)))) x) x (ix3 b a e)
      = FloatOps.uitofp (F := Ideal) .f32 (IntOp.cmpi .eq (w (ix2 b a)) (BitVec.ofNat 32 e.val)) - elem x b a e + elem x b a e := by
    rw [← wide_at w b a e]
    rfl
  unfold pickedRow
  rw [h, ha, hot_eq hi, ← same_unsigned]

/-- The pick: the first enemy of greatest weight, carried straight through the weights. -/
theorem pick_read (b : Fin 512) (a e : Fin 32) :
    elem (after pickOps V (Proc.devRef .tc main_while0b_v58)) b a e
      = hot (elem (V (Proc.devRef .tc main_while0b_v54)) b a) e - elem (V (Proc.devRef .tc main_while0b_v54)) b a e + elem (V (Proc.devRef .tc main_while0b_v54)) b a e := by
  have h : after pickOps V (Proc.devRef .tc main_while0b_v58) = pickedRow (V (Proc.devRef .tc main_while0b_v54)) := by chain_rfl
  rw [h]
  exact pickedRow_at _ b a e

/-- The picks before the trip and the trip's, counted. -/
theorem finish_count (b : Fin 512) (a e : Fin 32) :
    elem (after finishOps V (Proc.devRef .tc main_v19_4)) b a e
      = (elem (V (Proc.devRef .tc main_v19_4)) b a e + elem (V (Proc.devRef .tc main_while0b_v58)) b a e : EReal) := by
  have h : after finishOps V (Proc.devRef .tc main_v19_4) = addf (F := Ideal) (s := S512x32x32) (φ := .f32) (V (Proc.devRef .tc main_v19_4)) (V (Proc.devRef .tc main_while0b_v58)) := by chain_rfl
  rw [h]
  rfl

end Cert.ReferenceIdeal.Stages

end
-- ==== Proof.Value.Given.lean ====
/- What the precondition says: every feature, weight and bias is a real number; and so is every logit made of them. -/
module

public import proofs.«01_k».proof.Pre_finite
public import proofs.«01_k».proof.Proof.Value.Finite
public import proofs.«01_k».proof.Proof.Value.Outcome
public import Idealize.ShloMosaic.Lib.ReduceAll

@[expose] public section

noncomputable section

namespace Cert.Given

open Idealize.ShloMosaic
open Cert.Model Cert.Pre_finite

/-- The shape relations the precondition's operations take. -/
theorem facts : Cert.Pre_finite.Facts :=
  ⟨by decide, by decide, by decide, by decide, by decide, by decide, by decide, by decide, by decide, by decide, by decide⟩

/-- The greatest extended real. -/
theorem high_eq : Ideal.ofBits .f32 0x7F800000#32 = ⊤ := by simp [Ideal.ofBits, Ideal.ieee]

/-- An extended real whose absolute value is under the greatest is a real number. -/
theorem real_of_abs {x : EReal} (h : Ideal.cmp .olt (max x (-x)) (Ideal.ofBits .f32 0x7F800000#32) = 1#1) : Real' x := by
  rw [high_eq] at h
  have h' : max x (-x) < ⊤ := by
    by_contra hn
    simp [Ideal.cmp, hn] at h
  induction x using EReal.rec with
  | bot => simp at h'
  | coe r => exact ⟨r, rfl⟩
  | top => simp at h'

/-- A scalar has one index. -/
instance scalar_one : Subsingleton S_.Idx := ⟨fun _ _ => funext fun a => Fin.elim0 a⟩

/-- An array of which the precondition's conjunction holds has real numbers only. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32 : FVec Ideal S_ .f32)) : IVec s 1) (constantI S_ 1 1#1) h hu j = 1#1)
    (i : s.Idx) : Real' (x i) :=
  real_of_abs (Host.reduce_andi_all _ _ h hu j e i)

/-- The precondition: the features, the weights and the biases are real numbers. -/
theorem real_args (hf : Facts) (a0 : FVec Ideal S512x32x31x64 .f32) (a1 : FVec Ideal S512x32x32x128 .f32) (a2 : FVec Ideal S128x256 .f32)
    (a3 : FVec Ideal S256 .f32) (a4 : FVec Ideal S256x32 .f32) (a5 : FVec Ideal S32 .f32) (a6 a7 : IVec S_ 1) (a8 : IVec S_ 32)
    (h : fn a0 a1 a2 a3 a4 a5 a6 a7 a8 = fun _ => 1#1) :
    (∀ i, Real' (a1 i)) ∧ (∀ i, Real' (a2 i)) ∧ (∀ i, Real' (a3 i)) ∧ (∀ i, Real' (a4 i)) ∧ (∀ i, Real' (a5 i)) := by
  have h0 := congrFun h (Shape.Idx.first Facts.h_S_)
  dsimp only [fn, fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨real_of_all a1 _ _ _ _ h1, real_of_all a2 _ _ _ _ h2, real_of_all a3 _ _ _ _ h3, real_of_all a4 _ _ _ _ h4, real_of_all a5 _ _ _ _ h5⟩

/-- Logits of real numbers are real. -/
theorem logit_real {X : Fin 512 → Fin 32 → Fin 32 → Fin 128 → EReal} {W : Fin 128 → Fin 256 → EReal} {u : Fin 256 → EReal}
    {W' : Fin 256 → Fin 32 → EReal} {u' : Fin 32 → EReal} (hX : ∀ b a e d, Real' (X b a e d)) (hW : ∀ d h, Real' (W d h))
    (hu : ∀ h, Real' (u h)) (hW' : ∀ h p, Real' (W' h p)) (hu' : ∀ p, Real' (u' p)) (b : Fin 512) (a e p : Fin 32) :
    Real' (logit X W u W' u' b a e p) :=
  (Real'.sum _ _ fun h => (((Real'.sum _ _ fun d => (hX b a e d).mul (hW d h)).add (hu h)).max Real'.zero).mul (hW' h p)).add (hu' p)

end Cert.Given

end
-- ==== Proof.Ref.Value.lean ====
/-
  What the reference's trips compute: after `k` trips the picks of the first `k` positions are kept and the count of picks times
  the lowering number is the mask; so the two results are the outcome of the arguments.
-/
module

public import proofs.«01_k».proof.Proof.Ref.Run
public import proofs.«01_k».proof.Proof.Ref.Noise
public import proofs.«01_k».proof.Proof.Ref.Pick
public import proofs.«01_k».proof.Proof.Ref.Index
public import proofs.«01_k».proof.Proof.Value.Finite
public import proofs.«01_k».proof.Proof.Value.Given

@[expose] public section

set_option maxRecDepth 16384

noncomputable section

namespace Cert.Model

/-- A trip's choice, put through and back, is the one-hot row the model picks. -/
theorem trip_pick {l g : ℕ → Fin 32 → EReal} (hl : ∀ p e, Real' (l p e)) (hg : ∀ p e, Real' (g p e)) (k : ℕ) {r : Fin 32 → EReal}
    (hr : ∀ e, r e * fall = held l g k e) (e : Fin 32) :
    hot (share fun e => (l k e + r e * fall) + g k e) e - share (fun e => (l k e + r e * fall) + g k e) e
      + share (fun e => (l k e + r e * fall) + g k e) e = picked l g k e := by
  simp only [hr]
  exact through (share_real (fun e => ((hl k e).add (held_real l g k e)).add (hg k e)) e) _

/-- The count with the pick, times the lowering number, is the next mask. -/
theorem trip_count {l g : ℕ → Fin 32 → EReal} (k : ℕ) {r : EReal} {e : Fin 32} (h0 : 0 ≤ r) (hr : r * fall = held l g k e) :
    0 ≤ r + picked l g k e ∧ (r + picked l g k e) * fall = held l g (k + 1) e := by
  have hp : 0 ≤ picked l g k e := hot_nonneg _ _
  refine ⟨add_nonneg h0 hp, ?_⟩
  rw [EReal.right_distrib_of_nonneg h0 hp, hr]
  rfl

end Cert.Model

namespace Cert.ReferenceIdeal.Stages

open Idealize.ShloMosaic Idealize.SL.Sem
open Idealize.ShloMosaic.StableHlo
open Facts₀ Facts
open Cert.Model

/-- One trip's noise, softmax and choice, on the arrays after its index stage. -/
theorem trip_choice (I : Valuation τ sig (Elt Ideal)) (p : Fin 32)
    (h : I (Proc.devRef .tc main_while0b_v28) = (fun _ => BitVec.ofNat 32 p.val : IVec S_ 32))
    (h0 : (I (Proc.devRef .tc main_v19_2) : IVec S2 32) (ix1 0) = (0#32 : BitVec 32))
    (h1 : (I (Proc.devRef .tc main_v19_2) : IVec S2 32) (ix1 1) = (42#32 : BitVec 32)) (b : Fin 512) (a e : Fin 32)
    (x : Fin 32 → EReal) (hx : ∀ e, elem (I (Proc.devRef .tc main_while0b_v27)) b a e + cellNoise (b.val * 32 + a.val) p.val e = x e) :
    elem (after pickOps (after softOps (noiseAll I)) (Proc.devRef .tc main_while0b_v58)) b a e = hot (share x) e - share x e + share x e := by
  have hn : ∀ e, elem (noiseAll I (Proc.devRef .tc main_while0b_v40)) b a e = cellNoise (b.val * 32 + a.val) p.val e :=
    fun e => trip_noise I p h h0 h1 b a e
  have hk : noiseAll I (Proc.devRef .tc main_while0b_v27) = I (Proc.devRef .tc main_while0b_v27) := noiseAll_keeps I (by decide)
  have hs : ∀ e, elem (after softOps (noiseAll I) (Proc.devRef .tc main_while0b_v54)) b a e = share x e := fun e => by
    rw [soft_read]
    refine congrFun (congrArg share (funext fun e => ?_)) e
    rw [hn, hk]
    exact hx e
  rw [pick_read, hs, show elem (after softOps (noiseAll I) (Proc.devRef .tc main_while0b_v54)) b a = share x from funext hs]

variable (m : (ℓ : Loc nD τ sig) → Buf (Elt Ideal) ℓ)

/-- The logits of the arguments. -/
def logitOf (c : Dev nD) : Fin 512 → Fin 32 → Fin 32 → Fin 32 → EReal :=
  logit (fun b a e d => (m ((c.tc : Thread nD τ).loc main_arg1) : FVec Ideal S512x32x32x128 .f32) (ix4 b a e d))
    (fun d h => (m ((c.tc : Thread nD τ).loc main_arg2) : FVec Ideal S128x256 .f32) (ix2 d h))
    (fun h => (m ((c.tc : Thread nD τ).loc main_arg3) : FVec Ideal S256 .f32) (ix1 h))
    (fun h p => (m ((c.tc : Thread nD τ).loc main_arg4) : FVec Ideal S256x32 .f32) (ix2 h p))
    (fun p => (m ((c.tc : Thread nD τ).loc main_arg5) : FVec Ideal S32 .f32) (ix1 p))

/-- A trip's number. -/
theorem counter_word (k : ℕ) : Scf.iv 0#32 1#32 k = BitVec.ofNat 32 k := by
  unfold Scf.iv
  simp

/-- Through the trips: the counted numbers, -/
theorem trip_numbers (c : Dev nD) (k : ℕ) : trip m k c (Proc.devRef .tc main_v19_0) = (iotaInDim S32 32 0 : IVec S32 32) := by
  rw [trip_keeps m c (by decide) (by decide)]
  exact setup_numbers _
/-- the seed -/
theorem trip_seed (c : Dev nD) (k : ℕ) : (trip m k c (Proc.devRef .tc main_v19_2) : IVec S2 32) (ix1 0) = (0#32 : BitVec 32)
    ∧ (trip m k c (Proc.devRef .tc main_v19_2) : IVec S2 32) (ix1 1) = (42#32 : BitVec 32) := by
  rw [trip_keeps m c (by decide) (by decide)]
  exact ⟨setup_seed_0 _, setup_seed_1 _⟩
/-- and the logits. -/
theorem trip_logits (c : Dev nD) (k : ℕ) (b : Fin 512) (a e p : Fin 32) :
    deep (s := S512x32x32x32) (trip m k c (Proc.devRef .tc main_v19_1)) (ix4 b a e p) = logitOf m c b a e p := by
  rw [trip_keeps m c (by decide) (by decide)]
  exact (congrArg (fun x => deep (s := S512x32x32x32) x (ix4 b a e p)) (setup_logits _)).trans (logit_read (launchContents m c) b a e p)

/-- The logits of the cell at row `b`, place `a`, by position. -/
def rowOf (c : Dev nD) (b : Fin 512) (a : Fin 32) (p : ℕ) (e : Fin 32) : EReal :=
  logitOf m c b a e ⟨p % 32, Nat.mod_lt _ (by omega)⟩

/-- What holds before trip `k`. -/
def Holds (c : Dev nD) (b : Fin 512) (a : Fin 32) (k : ℕ) : Prop :=
  (∀ e, 0 ≤ elem (trip m k c (Proc.devRef .tc main_v19_4)) b a e
    ∧ elem (trip m k c (Proc.devRef .tc main_v19_4)) b a e * fall = held (rowOf m c b a) (cellNoise (b.val * 32 + a.val)) k e)
  ∧ ∀ q : Fin 32, q.val < k → ∀ e, deep (s := S32x512x32x32) (trip m k c (Proc.devRef .tc main_v19_5)) (ix4 q b a e)
    = picked (rowOf m c b a) (cellNoise (b.val * 32 + a.val)) q.val e

/-- It holds before the first trip. -/
theorem holds_zero (c : Dev nD) (b : Fin 512) (a : Fin 32) : Holds m c b a 0 := by
  refine ⟨fun e => ?_, fun q hq => absurd hq (Nat.not_lt_zero _)⟩
  have h : elem (trip m 0 c (Proc.devRef .tc main_v19_4)) b a e = 0 := setup_count _ b a e
  rw [h]
  exact ⟨le_rfl, zero_mul _⟩

/-- The pick of trip `k`. -/
theorem trip_value (c : Dev nD) (b : Fin 512) (a : Fin 32) (hl : ∀ p e, Real' (rowOf m c b a p e)) {k : ℕ} (hk : k < 32)
    (hr : ∀ e, elem (trip m k c (Proc.devRef .tc main_v19_4)) b a e * fall = held (rowOf m c b a) (cellNoise (b.val * 32 + a.val)) k e)
    (e : Fin 32) :
    elem (after pickOps (after softOps (noiseAll (after indexOps (after testOps (trip m k c))))) (Proc.devRef .tc main_while0b_v58)) b a e
      = picked (rowOf m c b a) (cellNoise (b.val * 32 + a.val)) k e := by
  have h0 : after testOps (trip m k c) (Proc.devRef .tc main_v19_0) = (iotaInDim S32 32 0 : IVec S32 32) := by
    rw [test_keeps _ (by decide), trip_numbers]
  have h3 : after testOps (trip m k c) (Proc.devRef .tc main_v19_3) = fun _ => BitVec.ofNat 32 k := by
    rw [test_keeps _ (by decide), trip_counter, counter_word]
  have h2 : after indexOps (after testOps (trip m k c)) (Proc.devRef .tc main_v19_2) = trip m k c (Proc.devRef .tc main_v19_2) := by
    rw [index_keeps _ (by decide), test_keeps _ (by decide)]
  have h4 : after testOps (trip m k c) (Proc.devRef .tc main_v19_4) = trip m k c (Proc.devRef .tc main_v19_4) := test_keeps _ (by decide)
  have h1 : after testOps (trip m k c) (Proc.devRef .tc main_v19_1) = trip m k c (Proc.devRef .tc main_v19_1) := test_keeps _ (by decide)
  rw [← trip_pick (g := cellNoise (b.val * 32 + a.val)) hl (fun _ _ => noise_real _) k hr e]
  refine trip_choice _ ⟨k, hk⟩ ?_ ?_ ?_ b a e _ fun e => ?_
  · rw [number_copy]
    exact number_read _ hk h0 h3
  · rw [h2]
    exact (trip_seed m c k).1
  · rw [h2]
    exact (trip_seed m c k).2
  · rw [lower_read _ hk h0 h3, h1, h4, trip_logits]
    have : (⟨k % 32, Nat.mod_lt _ (by omega)⟩ : Fin 32) = ⟨k, hk⟩ := Fin.ext (Nat.mod_eq_of_lt hk)
    unfold rowOf
    rw [this]

/-- One trip keeps it. -/
theorem holds_succ (c : Dev nD) (b : Fin 512) (a : Fin 32) (hl : ∀ p e, Real' (rowOf m c b a p e)) {k : ℕ} (hk : k < 32)
    (h : Holds m c b a k) : Holds m c b a (k + 1) := by
  obtain ⟨hr, hq⟩ := h
  have hv := trip_value m c b a hl hk fun e => (hr e).2
  have ht : trip m (k + 1) c = after finishOps (after pickOps (after softOps (noiseAll (after indexOps (after testOps (trip m k c)))))) := rfl
  have keep : ∀ {r : Ref sig .tc}, r ∉ pickWrites → r ∉ softWrites → r ∉ foldKeyWrites ++ fold0Writes ++ fold1Writes ++ fold2Writes ++ fold3Writes
      ++ fold4Writes ++ foldEndWrites ++ uniKeyWrites ++ uni0Writes ++ uni1Writes ++ uni2Writes ++ uni3Writes ++ uni4Writes ++ noiseWrites →
      r ∉ indexWrites → r ∉ testWrites →
      after pickOps (after softOps (noiseAll (after indexOps (after testOps (trip m k c))))) (Proc.devRef .tc r) = trip m k c (Proc.devRef .tc r) := by
    intro r h1 h2 h3 h4 h5
    rw [pick_keeps _ h1, soft_keeps _ h2, noiseAll_keeps _ h3, index_keeps _ h4, test_keeps _ h5]
  refine ⟨fun e => ?_, fun q hq' e => ?_⟩
  · rw [ht, finish_count, hv, keep (by decide) (by decide) (by decide) (by decide) (by decide)]
    exact trip_count k (hr e).1 (hr e).2
  · have h3 : after pickOps (after softOps (noiseAll (after indexOps (after testOps (trip m k c))))) (Proc.devRef .tc main_v19_3)
        = fun _ => BitVec.ofNat 32 k := by
      rw [keep (by decide) (by decide) (by decide) (by decide) (by decide), trip_counter, counter_word]
    rw [ht, finish_keep _ hk h3]
    by_cases hqk : q.val = k
    · rw [if_pos hqk, hv, hqk]
    · rw [if_neg hqk, keep (by decide) (by decide) (by decide) (by decide) (by decide)]
      exact hq q (by omega) e

/-- It holds before every trip and after the last. -/
theorem holds_all (c : Dev nD) (b : Fin 512) (a : Fin 32) (hl : ∀ p e, Real' (rowOf m c b a p e)) : ∀ k, k ≤ 32 → Holds m c b a k
  | 0, _ => holds_zero m c b a
  | k + 1, h => holds_succ m c b a hl (by omega) (holds_all c b a hl k (by omega))

/-- The picks after the last trip. -/
theorem picks_end (c : Dev nD) (hl : ∀ b a e p, Real' (logitOf m c b a e p)) (n : Fin 16384) (p e : Fin 32) :
    deep (s := S32x512x32x32) (after testOps (trip m 32 c) (Proc.devRef .tc main_v19_5))
      (ix4 p ⟨n.val / 32, by omega⟩ ⟨n.val % 32, by omega⟩ e) = outcome (logitOf m c) n p e := by
  rw [test_keeps _ (by decide)]
  refine ((holds_all m c _ _ (fun p e => hl _ _ _ _) 32 le_rfl).2 p p.isLt e).trans ?_
  have hn : n.val / 32 * 32 + n.val % 32 = n.val := by omega
  show picked (rowOf m c _ _) (cellNoise (n.val / 32 * 32 + n.val % 32)) p.val e = _
  rw [hn]
  rfl

/-- The first result. -/
theorem final_first (c : Dev nD) (hl : ∀ b a e p, Real' (logitOf m c b a e p)) :
    final m c (Proc.devRef .tc main_v21) = (fun i => outcome (logitOf m c) (i 0) (i 1) (i 2) : FVec Ideal S16384x32x32 .f32) := by
  show after resultOps (after testOps (trip m 32 c)) (Proc.devRef .tc main_v21) = _
  funext i
  obtain ⟨n, p, e, rfl⟩ : ∃ (n : Fin 16384) (p e : Fin 32), i = ix3 n p e := ⟨i 0, i 1, i 2, by ext a; fin_cases a <;> rfl⟩
  exact (result_first _ n p e).trans (picks_end m c hl n p e)
/-- The second result. -/
theorem final_second (c : Dev nD) (hl : ∀ b a e p, Real' (logitOf m c b a e p)) :
    final m c (Proc.devRef .tc main_v22) = (fun i => outcome (logitOf m c) (i 0) (i 2) (i 1) : FVec Ideal S16384x32x32 .f32) := by
  show after resultOps (after testOps (trip m 32 c)) (Proc.devRef .tc main_v22) = _
  funext i
  obtain ⟨n, e, p, rfl⟩ : ∃ (n : Fin 16384) (e p : Fin 32), i = ix3 n e p := ⟨i 0, i 1, i 2, by ext a; fin_cases a <;> rfl⟩
  exact (result_second _ n e p).trans (picks_end m c hl n p e)

end Cert.ReferenceIdeal.Stages

end
-- ==== Proof.lean ====
/- The claims about the kernel and its reference: every execution of the kernel, of its ideal reading and of the
   reference ends with the arguments unchanged and every semaphore at nothing; and on real arguments the ideal reading's two
   results are the reference's. -/
module

public import proofs.«01_k».proof.Defs
public import proofs.«01_k».proof.Proof.Body.KernelRun
public import proofs.«01_k».proof.Proof.Body.KernelIdealValue
public import proofs.«01_k».proof.Proof.Ref.Value

@[expose] public section

noncomputable section

namespace Cert.Proof

open Idealize.ShloMosaic Idealize.SL.Sem

/-- The logits of real arguments are real. -/
theorem logits_real (m : (ℓ : Loc KernelIdeal.nD KernelIdeal.τ KernelIdeal.sig) → Buf (Elt Ideal) ℓ)
    (h : Pre_KernelIdeal_finite (hPre_finite := Given.facts) m) (c : Dev KernelIdeal.nD) (b : Fin 512) (a e p : Fin 32) :
    Model.Real' (KernelIdeal.Body.logitOf m c b a e p) := by
  obtain ⟨h1, h2, h3, h4, h5⟩ := Given.real_args Given.facts _ _ _ _ _ _ _ _ _ (h c)
  exact Given.logit_real (fun _ _ _ _ => h1 _) (fun _ _ => h2 _) (fun _ => h3 _) (fun _ _ => h4 _) (fun _ => h5 _) b a e p

/-- On real arguments the kernel's ideal reading and the reference end with the same two results. -/
theorem same_results : algebraic_KernelIdeal_ReferenceIdeal_pre_finite (hKernelIdeal := KernelIdeal.Gen.facts)
    (hReferenceIdeal := ReferenceIdeal.Gen.facts) (hPre_finite := Given.facts) := by
  intro m ρ m' ρ' hpre hag
  have hl : ∀ c : Dev KernelIdeal.nD, ReferenceIdeal.Stages.logitOf m' c = KernelIdeal.Body.logitOf m c := fun c => by
    obtain ⟨-, e1, e2, e3, e4, e5, -⟩ := hag c
    unfold ReferenceIdeal.Stages.logitOf KernelIdeal.Body.logitOf
    rw [e1, e2, e3, e4, e5]
  have hr : ∀ (c : Dev KernelIdeal.nD) b a e p, Model.Real' (ReferenceIdeal.Stages.logitOf m' c b a e p) := fun c b a e p => by
    rw [hl c]
    exact logits_real m hpre c b a e p
  refine ⟨fun c => KernelIdeal.Body.first m c, fun c => KernelIdeal.Body.second m c, ?_, ?_⟩
  · exact (θ_run _ _ _).mono (fun r h c => ⟨(h.1 c).1, (h.1 c).2, h.2 c⟩)
      (θ_run_and (KernelIdeal.Body.run_results m ρ) (KernelIdeal.Body.unchanged m ρ))
  · refine (θ_run _ _ _).mono (fun r h c => ⟨?_, ?_, h.2.1 c⟩)
      (θ_run_and (ReferenceIdeal.Stages.run m' ρ') (ReferenceIdeal.Stages.run_args m' ρ'))
    · refine ((h.1 c ReferenceIdeal.main_v21 rfl).trans (ReferenceIdeal.Stages.final_first m' c (hr c))).trans ?_
      rw [hl c]
      rfl
    · refine ((h.1 c ReferenceIdeal.main_v22 rfl).trans (ReferenceIdeal.Stages.final_second m' c (hr c))).trans ?_
      rw [hl c]
      rfl

/-- All the claims. -/
theorem claim : Cert.Claim := ⟨Cert.Kernel.Gen.facts, Cert.KernelIdeal.Gen.facts, Cert.ReferenceIdeal.Gen.facts, Cert.Given.facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Stages.run_args m ρ,
  fun m ρ _ => Cert.ReferenceIdeal.Stages.run_args m ρ,
  trivial,
  same_results⟩

end Cert.Proof

end
